-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelWgrad (m : (ℓ : Loc Cert.KernelWgrad.nD Cert.KernelWgrad.τ Cert.KernelWgrad.sig) → Buf (Elt Bits) ℓ) : Prop :=
  True

def Pre_KernelWgradIdeal (m : (ℓ : Loc Cert.KernelWgradIdeal.nD Cert.KernelWgradIdeal.τ Cert.KernelWgradIdeal.sig) → Buf (Elt Ideal) ℓ) : Prop :=
  True

def Pre_ReferenceWgradIdeal (m : (ℓ : Loc Cert.ReferenceWgradIdeal.nD Cert.ReferenceWgradIdeal.τ Cert.ReferenceWgradIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_KernelDownIdeal_finite_down [hPre_finite_down : Cert.Pre_finite_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_finite_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_finite_down [hPre_finite_down : Cert.Pre_finite_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_finite_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3)) (m ((c.tc : Thread Cert.ReferenceDownIdeal.nD Cert.ReferenceDownIdeal.τ).loc Cert.ReferenceDownIdeal.main_arg4))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6))
      ∧ r.2.sem = fun _ => 0)

def quiescent_KernelWgrad [hKernelWgrad : Cert.KernelWgrad.Facts] : Prop :=
  ∀ (m : (ℓ : Loc Cert.KernelWgrad.nD Cert.KernelWgrad.τ Cert.KernelWgrad.sig) → Buf (Elt Bits) ℓ) (g : Dev Cert.KernelWgrad.nD → PrngReg), Pre_KernelWgrad m →
    θ_run (Cert.KernelWgrad.defs (F := Bits)) (onTc (τ := Cert.KernelWgrad.τ) (Cert.KernelWgrad.main (F := Bits))) ⟨m, fun _ => 0, g⟩ (fun r => (∀ c : Dev Cert.KernelWgrad.nD,
      r.2.mem ((c.tc : Thread Cert.KernelWgrad.nD Cert.KernelWgrad.τ).loc Cert.KernelWgrad.main_arg0) = m ((c.tc : Thread Cert.KernelWgrad.nD Cert.KernelWgrad.τ).loc Cert.KernelWgrad.main_arg0)
      ∧ r.2.mem ((c.tc : Thread Cert.KernelWgrad.nD Cert.KernelWgrad.τ).loc Cert.KernelWgrad.main_arg1) = m ((c.tc : Thread Cert.KernelWgrad.nD Cert.KernelWgrad.τ).loc Cert.KernelWgrad.main_arg1))
      ∧ r.2.sem = fun _ => 0)

def quiescent_KernelWgradIdeal [hKernelWgradIdeal : Cert.KernelWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg), Pre_KernelWgradIdeal m →
    θ_run (Cert.KernelWgradIdeal.defs (F := Ideal)) (onTc (τ := Cert.KernelWgradIdeal.τ) (Cert.KernelWgradIdeal.main (F := Ideal))) ⟨m, fun _ => 0, g⟩ (fun r => (∀ c : Dev Cert.KernelWgradIdeal.nD,
      r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
      ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ r.2.sem = fun _ => 0)

def quiescent_ReferenceWgradIdeal [hReferenceWgradIdeal : Cert.ReferenceWgradIdeal.Facts] : Prop :=
  ∀ (m : (ℓ : Loc Cert.ReferenceWgradIdeal.nD Cert.ReferenceWgradIdeal.τ Cert.ReferenceWgradIdeal.sig) → Buf (Elt Ideal) ℓ) (g : Dev Cert.ReferenceWgradIdeal.nD → PrngReg), Pre_ReferenceWgradIdeal m →
    θ_run (Cert.ReferenceWgradIdeal.defs (F := Ideal)) (onTc (τ := Cert.ReferenceWgradIdeal.τ) (Cert.ReferenceWgradIdeal.main (F := Ideal))) ⟨m, fun _ => 0, g⟩ (fun r => (∀ c : Dev Cert.ReferenceWgradIdeal.nD,
      r.2.mem ((c.tc : Thread Cert.ReferenceWgradIdeal.nD Cert.ReferenceWgradIdeal.τ).loc Cert.ReferenceWgradIdeal.main_arg0) = m ((c.tc : Thread Cert.ReferenceWgradIdeal.nD Cert.ReferenceWgradIdeal.τ).loc Cert.ReferenceWgradIdeal.main_arg0)
      ∧ r.2.mem ((c.tc : Thread Cert.ReferenceWgradIdeal.nD Cert.ReferenceWgradIdeal.τ).loc Cert.ReferenceWgradIdeal.main_arg1) = m ((c.tc : Thread Cert.ReferenceWgradIdeal.nD Cert.ReferenceWgradIdeal.τ).loc Cert.ReferenceWgradIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_KernelDownIdeal_pre_finite_down [hKernelDownIdeal : Cert.KernelDownIdeal.Facts] [hPre_finite_down : Cert.Pre_finite_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal_finite_down m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_ReferenceDownIdeal_pre_finite_down [hReferenceDownIdeal : Cert.ReferenceDownIdeal.Facts] [hPre_finite_down : Cert.Pre_finite_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_finite_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5))
      ∧ r.2.sem = fun _ => 0)

def preserves_Kernel_KernelIdeal : Prop :=
  IdealRules.named_const.Statement Cert.KernelIdeal.κ "s_log2e" .f32 0x3E16C740#32 (((13698540 * 134217728⁻¹) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)) (v2 : (c : Dev Cert.KernelUpIdeal.nD) → Buf (Elt Ideal) ((c.tc : Thread Cert.KernelUpIdeal.nD Cert.KernelUpIdeal.τ).loc Cert.KernelUpIdeal.main_v5_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_v5_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v43) = v0 c
          ∧ r.2.mem ((c.tc : Thread Cert.ReferenceUpIdeal.nD Cert.ReferenceUpIdeal.τ).loc Cert.ReferenceUpIdeal.main_v57) = v1 c
          ∧ r.2.mem ((c.tc : Thread Cert.ReferenceUpIdeal.nD Cert.ReferenceUpIdeal.τ).loc Cert.ReferenceUpIdeal.main_v58) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6))

def preserves_KernelWgrad_KernelWgradIdeal : Prop :=
  True

def algebraic_KernelWgradIdeal_ReferenceWgradIdeal [hKernelWgradIdeal : Cert.KernelWgradIdeal.Facts] [hReferenceWgradIdeal : Cert.ReferenceWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg)
    (m' : (ℓ : Loc Cert.ReferenceWgradIdeal.nD Cert.ReferenceWgradIdeal.τ Cert.ReferenceWgradIdeal.sig) → Buf (Elt Ideal) ℓ) (g' : Dev Cert.ReferenceWgradIdeal.nD → PrngReg), Pre_KernelWgradIdeal m →
    (∀ c : Dev Cert.KernelWgradIdeal.nD,
      m' ((c.tc : Thread Cert.ReferenceWgradIdeal.nD Cert.ReferenceWgradIdeal.τ).loc Cert.ReferenceWgradIdeal.main_arg0) = m ((c.tc : Thread Cert.KernelWgradIdeal.nD Cert.KernelWgradIdeal.τ).loc Cert.KernelWgradIdeal.main_arg0)
      ∧ m' ((c.tc : Thread Cert.ReferenceWgradIdeal.nD Cert.ReferenceWgradIdeal.τ).loc Cert.ReferenceWgradIdeal.main_arg1) = m ((c.tc : Thread Cert.KernelWgradIdeal.nD Cert.KernelWgradIdeal.τ).loc Cert.KernelWgradIdeal.main_arg1)) →
    ∃ (v0 : (c : Dev Cert.KernelWgradIdeal.nD) → Buf (Elt Ideal) ((c.tc : Thread Cert.KernelWgradIdeal.nD Cert.KernelWgradIdeal.τ).loc Cert.KernelWgradIdeal.main_v0)),
      θ_run (Cert.KernelWgradIdeal.defs (F := Ideal)) (onTc (τ := Cert.KernelWgradIdeal.τ) (Cert.KernelWgradIdeal.main (F := Ideal))) ⟨m, fun _ => 0, g⟩ (fun r => ∀ c : Dev Cert.KernelWgradIdeal.nD,
          r.2.mem ((c.tc : Thread Cert.KernelWgradIdeal.nD Cert.KernelWgradIdeal.τ).loc Cert.KernelWgradIdeal.main_v0) = v0 c
          ∧ r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
          ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ θ_run (Cert.ReferenceWgradIdeal.defs (F := Ideal)) (onTc (τ := Cert.ReferenceWgradIdeal.τ) (Cert.ReferenceWgradIdeal.main (F := Ideal))) ⟨m', fun _ => 0, g'⟩ (fun r => ∀ c : Dev Cert.ReferenceWgradIdeal.nD,
          r.2.mem ((c.tc : Thread Cert.ReferenceWgradIdeal.nD Cert.ReferenceWgradIdeal.τ).loc Cert.ReferenceWgradIdeal.main_v8) = v0 c
          ∧ r.2.mem ((c.tc : Thread Cert.ReferenceWgradIdeal.nD Cert.ReferenceWgradIdeal.τ).loc Cert.ReferenceWgradIdeal.main_arg0) = m' ((c.tc : Thread Cert.ReferenceWgradIdeal.nD Cert.ReferenceWgradIdeal.τ).loc Cert.ReferenceWgradIdeal.main_arg0)
          ∧ r.2.mem ((c.tc : Thread Cert.ReferenceWgradIdeal.nD Cert.ReferenceWgradIdeal.τ).loc Cert.ReferenceWgradIdeal.main_arg1) = m' ((c.tc : Thread Cert.ReferenceWgradIdeal.nD Cert.ReferenceWgradIdeal.τ).loc Cert.ReferenceWgradIdeal.main_arg1))

def preserves_KernelDown_KernelDownIdeal : Prop :=
  True

def algebraic_KernelDownIdeal_ReferenceDownIdeal_pre_finite_down [hKernelDownIdeal : Cert.KernelDownIdeal.Facts] [hReferenceDownIdeal : Cert.ReferenceDownIdeal.Facts] [hPre_finite_down : Cert.Pre_finite_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal_finite_down m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v7_0)) (v1 : (c : Dev Cert.KernelDownIdeal.nD) → Buf (Elt Ideal) ((c.tc : Thread Cert.KernelDownIdeal.nD Cert.KernelDownIdeal.τ).loc Cert.KernelDownIdeal.main_v7_1)) (v2 : (c : Dev Cert.KernelDownIdeal.nD) → Buf (Elt Ideal) ((c.tc : Thread Cert.KernelDownIdeal.nD Cert.KernelDownIdeal.τ).loc Cert.KernelDownIdeal.main_v7_2)) (v3 : (c : Dev Cert.KernelDownIdeal.nD) → Buf (Elt Ideal) ((c.tc : Thread Cert.KernelDownIdeal.nD Cert.KernelDownIdeal.τ).loc Cert.KernelDownIdeal.main_v7_3)) (v4 : (c : Dev Cert.KernelDownIdeal.nD) → Buf (Elt Ideal) ((c.tc : Thread Cert.KernelDownIdeal.nD Cert.KernelDownIdeal.τ).loc Cert.KernelDownIdeal.main_v7_4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v7_0) = v0 c
          ∧ r.2.mem ((c.tc : Thread Cert.KernelDownIdeal.nD Cert.KernelDownIdeal.τ).loc Cert.KernelDownIdeal.main_v7_1) = v1 c
          ∧ r.2.mem ((c.tc : Thread Cert.KernelDownIdeal.nD Cert.KernelDownIdeal.τ).loc Cert.KernelDownIdeal.main_v7_2) = v2 c
          ∧ r.2.mem ((c.tc : Thread Cert.KernelDownIdeal.nD Cert.KernelDownIdeal.τ).loc Cert.KernelDownIdeal.main_v7_3) = v3 c
          ∧ r.2.mem ((c.tc : Thread Cert.KernelDownIdeal.nD Cert.KernelDownIdeal.τ).loc Cert.KernelDownIdeal.main_v7_4) = v4 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v52) = v0 c
          ∧ r.2.mem ((c.tc : Thread Cert.ReferenceDownIdeal.nD Cert.ReferenceDownIdeal.τ).loc Cert.ReferenceDownIdeal.main_v53) = v1 c
          ∧ r.2.mem ((c.tc : Thread Cert.ReferenceDownIdeal.nD Cert.ReferenceDownIdeal.τ).loc Cert.ReferenceDownIdeal.main_v54) = v2 c
          ∧ r.2.mem ((c.tc : Thread Cert.ReferenceDownIdeal.nD Cert.ReferenceDownIdeal.τ).loc Cert.ReferenceDownIdeal.main_v55) = v3 c
          ∧ r.2.mem ((c.tc : Thread Cert.ReferenceDownIdeal.nD Cert.ReferenceDownIdeal.τ).loc Cert.ReferenceDownIdeal.main_v56) = v4 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)) →
    ∃ (v0 : (c : Dev Cert.KernelFwdIdeal.nD) → Buf (Elt Ideal) ((c.tc : Thread Cert.KernelFwdIdeal.nD Cert.KernelFwdIdeal.τ).loc Cert.KernelFwdIdeal.main_v7_0)) (v1 : (c : Dev Cert.KernelFwdIdeal.nD) → Buf (Elt Ideal) ((c.tc : Thread Cert.KernelFwdIdeal.nD Cert.KernelFwdIdeal.τ).loc Cert.KernelFwdIdeal.main_v7_1)) (v2 : (c : Dev Cert.KernelFwdIdeal.nD) → Buf (Elt Ideal) ((c.tc : Thread Cert.KernelFwdIdeal.nD Cert.KernelFwdIdeal.τ).loc Cert.KernelFwdIdeal.main_v7_2)) (v3 : (c : Dev Cert.KernelFwdIdeal.nD) → Buf (Elt Ideal) ((c.tc : Thread Cert.KernelFwdIdeal.nD Cert.KernelFwdIdeal.τ).loc Cert.KernelFwdIdeal.main_v7_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v7_0) = v0 c
          ∧ r.2.mem ((c.tc : Thread Cert.KernelFwdIdeal.nD Cert.KernelFwdIdeal.τ).loc Cert.KernelFwdIdeal.main_v7_1) = v1 c
          ∧ r.2.mem ((c.tc : Thread Cert.KernelFwdIdeal.nD Cert.KernelFwdIdeal.τ).loc Cert.KernelFwdIdeal.main_v7_2) = v2 c
          ∧ r.2.mem ((c.tc : Thread Cert.KernelFwdIdeal.nD Cert.KernelFwdIdeal.τ).loc Cert.KernelFwdIdeal.main_v7_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v33) = v0 c
          ∧ r.2.mem ((c.tc : Thread Cert.ReferenceFwdIdeal.nD Cert.ReferenceFwdIdeal.τ).loc Cert.ReferenceFwdIdeal.main_v34) = v1 c
          ∧ r.2.mem ((c.tc : Thread Cert.ReferenceFwdIdeal.nD Cert.ReferenceFwdIdeal.τ).loc Cert.ReferenceFwdIdeal.main_v35) = v2 c
          ∧ r.2.mem ((c.tc : Thread Cert.ReferenceFwdIdeal.nD Cert.ReferenceFwdIdeal.τ).loc Cert.ReferenceFwdIdeal.main_v17) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelWgrad : Cert.KernelWgrad.Facts) (hKernelWgradIdeal : Cert.KernelWgradIdeal.Facts) (hReferenceWgradIdeal : Cert.ReferenceWgradIdeal.Facts) (hKernelDown : Cert.KernelDown.Facts) (hKernelDownIdeal : Cert.KernelDownIdeal.Facts) (hReferenceDownIdeal : Cert.ReferenceDownIdeal.Facts) (hKernelFwd : Cert.KernelFwd.Facts) (hKernelFwdIdeal : Cert.KernelFwdIdeal.Facts) (hReferenceFwdIdeal : Cert.ReferenceFwdIdeal.Facts) (hPre_finite : Cert.Pre_finite.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelWgrad (hKernelWgrad := hKernelWgrad)
    ∧ quiescent_KernelWgradIdeal (hKernelWgradIdeal := hKernelWgradIdeal)
    ∧ quiescent_ReferenceWgradIdeal (hReferenceWgradIdeal := hReferenceWgradIdeal)
    ∧ quiescent_KernelDown (hKernelDown := hKernelDown)
    ∧ quiescent_KernelDownIdeal (hKernelDownIdeal := hKernelDownIdeal)
    ∧ quiescent_KernelDownIdeal_pre_finite_down (hKernelDownIdeal := hKernelDownIdeal) (hPre_finite_down := hPre_finite_down)
    ∧ quiescent_ReferenceDownIdeal (hReferenceDownIdeal := hReferenceDownIdeal)
    ∧ quiescent_ReferenceDownIdeal_pre_finite_down (hReferenceDownIdeal := hReferenceDownIdeal) (hPre_finite_down := hPre_finite_down)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelWgrad_KernelWgradIdeal
    ∧ algebraic_KernelWgradIdeal_ReferenceWgradIdeal (hKernelWgradIdeal := hKernelWgradIdeal) (hReferenceWgradIdeal := hReferenceWgradIdeal)
    ∧ preserves_KernelDown_KernelDownIdeal
    ∧ algebraic_KernelDownIdeal_ReferenceDownIdeal_pre_finite_down (hKernelDownIdeal := hKernelDownIdeal) (hReferenceDownIdeal := hReferenceDownIdeal) (hPre_finite_down := hPre_finite_down)
    ∧ preserves_KernelFwd_KernelFwdIdeal
    ∧ algebraic_KernelFwdIdeal_ReferenceFwdIdeal (hKernelFwdIdeal := hKernelFwdIdeal) (hReferenceFwdIdeal := hReferenceFwdIdeal)
-- ==== Pre_finite.lean ====
abbrev S8x4224x128 : Shape := ⟨3, ![8, 4224, 128]⟩
abbrev S4224x512 : Shape := ⟨2, ![4224, 512]⟩
abbrev S_ : Shape := ⟨0, ![]⟩

class Facts : Prop where
  bitsLt_bf16_f32 : FTy.bits .bf16 < FTy.bits .f32
  bcast_S_S8x4224x128 : S_.BroadcastsInDim S8x4224x128 (![] : Fin 0 → Fin S8x4224x128.rank)
  reducesTo_S8x4224x128_S_d0_1_2 : S8x4224x128.ReducesTo [0, 1, 2] S_
  h_S_ : 0 < S_.numel
  bcast_S_S4224x512 : S_.BroadcastsInDim S4224x512 (![] : Fin 0 → Fin S4224x512.rank)
  reducesTo_S4224x512_S_d0_1 : S4224x512.ReducesTo [0, 1] S_

variable [Facts]

def fn_part1 {F : FTy → Type} [FloatOps F] (main_v4 : IVec S_ 1) (main_v9 : IVec S_ 1) (main_v14 : IVec S_ 1) (main_v15 : FVec F S4224x512 .f32) (main_v16 : FVec F S4224x512 .f32) : IVec S_ 1 :=
  let main_v17 : IVec S4224x512 1 := cmpf .olt main_v15 main_v16
  let main_c_5 : IVec S_ 1 := constantI S_ 1 1#1
  let main_v18 : IVec S_ 1 := (fun x v => Host.reduce IntOp.andi x v reducesTo_S4224x512_S_d0_1 h_S_) main_v17 main_c_5
  let main_v19 : IVec S_ 1 := andi main_v4 main_v9
  let main_v20 : IVec S_ 1 := andi main_v19 main_v14
  let main_v21 : IVec S_ 1 := andi main_v20 main_v18
  main_v21

def fn {F : FTy → Type} [FloatOps F] (main_arg0 : FVec F S8x4224x128 .bf16) (main_arg1 : FVec F S8x4224x128 .bf16) (main_arg2 : FVec F S4224x512 .bf16) (main_arg3 : FVec F S4224x512 .f32) : IVec S_ 1 :=
  let main_v0 : FVec F S8x4224x128 .f32 := (extf .f32 · bitsLt_bf16_f32) main_arg0
  let main_v1 : FVec F S8x4224x128 .f32 := Host.absf main_v0
  let main_cst : FVec F S_ .f32 := constant S_ .f32 0x7F800000#32
  let main_v2 : FVec F S8x4224x128 .f32 := broadcastInDim S8x4224x128 ![] bcast_S_S8x4224x128 main_cst
  let main_v3 : IVec S8x4224x128 1 := cmpf .olt main_v1 main_v2
  let main_c : IVec S_ 1 := constantI S_ 1 1#1
  let main_v4 : IVec S_ 1 := (fun x v => Host.reduce IntOp.andi x v reducesTo_S8x4224x128_S_d0_1_2 h_S_) main_v3 main_c
  let main_v5 : FVec F S8x4224x128 .f32 := (extf .f32 · bitsLt_bf16_f32) main_arg1
  let main_v6 : FVec F S8x4224x128 .f32 := Host.absf main_v5
  let main_cst_0 : FVec F S_ .f32 := constant S_ .f32 0x7F800000#32
  let main_v7 : FVec F S8x4224x128 .f32 := broadcastInDim S8x4224x128 ![] bcast_S_S8x4224x128 main_cst_0
  let main_v8 : IVec S8x4224x128 1 := cmpf .olt main_v6 main_v7
  let main_c_1 : IVec S_ 1 := constantI S_ 1 1#1
  let main_v9 : IVec S_ 1 := (fun x v => Host.reduce IntOp.andi x v reducesTo_S8x4224x128_S_d0_1_2 h_S_) main_v8 main_c_1
  let main_v10 : FVec F S4224x512 .f32 := (extf .f32 · bitsLt_bf16_f32) main_arg2
  let main_v11 : FVec F S4224x512 .f32 := Host.absf main_v10
  let main_cst_2 : FVec F S_ .f32 := constant S_ .f32 0x7F800000#32
  let main_v12 : FVec F S4224x512 .f32 := broadcastInDim S4224x512 ![] bcast_S_S4224x512 main_cst_2
  let main_v13 : IVec S4224x512 1 := cmpf .olt main_v11 main_v12
  let main_c_3 : IVec S_ 1 := constantI S_ 1 1#1
  let main_v14 : IVec S_ 1 := (fun x v => Host.reduce IntOp.andi x v reducesTo_S4224x512_S_d0_1 h_S_) main_v13 main_c_3
  let main_v15 : FVec F S4224x512 .f32 := Host.absf main_arg3
  let main_cst_4 : FVec F S_ .f32 := constant S_ .f32 0x7F800000#32
  let main_v16 : FVec F S4224x512 .f32 := broadcastInDim S4224x512 ![] bcast_S_S4224x512 main_cst_4
  fn_part1 (F := F) main_v4 main_v9 main_v14 main_v15 main_v16
-- ==== Pre_finite_down.lean ====
abbrev S4224x1024 : Shape := ⟨2, ![4224, 1024]⟩
abbrev S4224x2816 : Shape := ⟨2, ![4224, 2816]⟩
abbrev S1024 : Shape := ⟨1, ![1024]⟩
abbrev S2816x1024 : Shape := ⟨2, ![2816, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bitsLt_bf16_f32 : FTy.bits .bf16 < FTy.bits .f32
  bcast_S_S4224x2816 : S_.BroadcastsInDim S4224x2816 (![] : Fin 0 → Fin S4224x2816.rank)
  reducesTo_S4224x2816_S_d0_1 : S4224x2816.ReducesTo [0, 1] S_
  bcast_S_S1024 : S_.BroadcastsInDim S1024 (![] : Fin 0 → Fin S1024.rank)
  reducesTo_S1024_S_d0 : S1024.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v3 : IVec S_ 1) (main_v8 : IVec S_ 1) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : FVec F S2816x1024 .f32 := Host.absf main_arg4
  let main_cst_6 : FVec F S_ .f32 := constant S_ .f32 0x7F800000#32
  let main_v19 : FVec F S2816x1024 .f32 := broadcastInDim S2816x1024 ![] bcast_S_S2816x1024 main_cst_6
  let main_v20 : IVec S2816x1024 1 := cmpf .olt main_v18 main_v19
  let main_c_7 : IVec S_ 1 := constantI S_ 1 1#1
  let main_v21 : IVec S_ 1 := (fun x v => Host.reduce IntOp.andi x v reducesTo_S2816x1024_S_d0_1 h_S_) main_v20 main_c_7
  let main_v22 : IVec S_ 1 := andi main_v3 main_v8
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S4224x1024 .f32) (main_arg1 : FVec F S4224x2816 .bf16) (main_arg2 : FVec F S4224x2816 .bf16) (main_arg3 : FVec F S1024 .f32) (main_arg4 : FVec F S2816x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4224x2816 .f32 := (extf .f32 · bitsLt_bf16_f32) main_arg1
  let main_v5 : FVec F S4224x2816 .f32 := Host.absf main_v4
  let main_cst_0 : FVec F S_ .f32 := constant S_ .f32 0x7F800000#32
  let main_v6 : FVec F S4224x2816 .f32 := broadcastInDim S4224x2816 ![] bcast_S_S4224x2816 main_cst_0
  let main_v7 : IVec S4224x2816 1 := cmpf .olt main_v5 main_v6
  let main_c_1 : IVec S_ 1 := constantI S_ 1 1#1
  let main_v8 : IVec S_ 1 := (fun x v => Host.reduce IntOp.andi x v reducesTo_S4224x2816_S_d0_1 h_S_) main_v7 main_c_1
  let main_v9 : FVec F S4224x2816 .f32 := (extf .f32 · bitsLt_bf16_f32) main_arg2
  let main_v10 : FVec F S4224x2816 .f32 := Host.absf main_v9
  let main_cst_2 : FVec F S_ .f32 := constant S_ .f32 0x7F800000#32
  let main_v11 : FVec F S4224x2816 .f32 := broadcastInDim S4224x2816 ![] bcast_S_S4224x2816 main_cst_2
  let main_v12 : IVec S4224x2816 1 := cmpf .olt main_v10 main_v11
  let main_c_3 : IVec S_ 1 := constantI S_ 1 1#1
  let main_v13 : IVec S_ 1 := (fun x v => Host.reduce IntOp.andi x v reducesTo_S4224x2816_S_d0_1 h_S_) main_v12 main_c_3
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v3 main_v8 main_v13 main_v16
-- ==== Kernel.lean ====
abbrev S8x4224x128 : Shape := ⟨3, ![8, 4224, 128]⟩
abbrev S4224x512 : Shape := ⟨2, ![4224, 512]⟩
abbrev S8x4224x4224 : Shape := ⟨3, ![8, 4224, 4224]⟩
abbrev S_ : Shape := ⟨0, ![]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S8x4224 : Shape := ⟨2, ![8, 4224]⟩
abbrev S8x4224x1 : Shape := ⟨3, ![8, 4224, 1]⟩
abbrev S4224x8x64 : Shape := ⟨3, ![4224, 8, 64]⟩
abbrev S8x64x4224 : Shape := ⟨3, ![8, 64, 4224]⟩
abbrev S2x384x128 : Shape := ⟨3, ![2, 384, 128]⟩
abbrev S2x4224x128 : Shape := ⟨3, ![2, 4224, 128]⟩
abbrev S4224x128 : Shape := ⟨2, ![4224, 128]⟩
abbrev S384x128 : Shape := ⟨2, ![384, 128]⟩
abbrev S2x384x1 : Shape := ⟨3, ![2, 384, 1]⟩
abbrev S384 : Shape := ⟨1, ![384]⟩
abbrev S384x1 : Shape := ⟨2, ![384, 1]⟩
abbrev S1x384x1 : Shape := ⟨3, ![1, 384, 1]⟩
abbrev S1x384x128 : Shape := ⟨3, ![1, 384, 128]⟩
abbrev S768x128 : Shape := ⟨2, ![768, 128]⟩
abbrev S1x768x128 : Shape := ⟨3, ![1, 768, 128]⟩
abbrev S384x768 : Shape := ⟨2, ![384, 768]⟩
abbrev S384x384 : Shape := ⟨2, ![384, 384]⟩

abbrev nBuf : Space → Nat
  | .hbm => 74
  | .vmem => 16
  | .smem => 0
  | _ => 0

abbrev bufTy : (tb : Table) → Fin (tcTables nBuf tb) → BufTy
  | .hbm, ⟨0, _⟩ => ⟨S8x4224x128, .bf16⟩
  | .hbm, ⟨1, _⟩ => ⟨S8x4224x128, .bf16⟩
  | .hbm, ⟨2, _⟩ => ⟨S4224x512, .bf16⟩
  | .hbm, ⟨3, _⟩ => ⟨S4224x512, .f32⟩
  | .hbm, ⟨4, _⟩ => ⟨S8x4224x128, .f32⟩
  | .hbm, ⟨5, _⟩ => ⟨S8x4224x128, .f32⟩
  | .hbm, ⟨6, _⟩ => ⟨S8x4224x4224, .f32⟩
  | .hbm, ⟨7, _⟩ => ⟨S_, .f32⟩
  | .hbm, ⟨8, _⟩ => ⟨S8x4224x4224, .f32⟩
  | .hbm, ⟨9, _⟩ => ⟨S8x4224x4224, .f32⟩
  | .hbm, ⟨10, _⟩ => ⟨S4224, .i32⟩
  | .hbm, ⟨11, _⟩ => ⟨S1x4224, .i32⟩
  | .hbm, ⟨12, _⟩ => ⟨S4224x1, .i32⟩
  | .hbm, ⟨13, _⟩ => ⟨S4224x4224, .i32⟩
  | .hbm, ⟨14, _⟩ => ⟨S4224x4224, .i32⟩
  | .hbm, ⟨15, _⟩ => ⟨S4224x4224, .i1⟩
  | .hbm, ⟨16, _⟩ => ⟨S_, .f32⟩
  | .hbm, ⟨17, _⟩ => ⟨S_, .f32⟩
  | .hbm, ⟨18, _⟩ => ⟨S8x4224x4224, .i1⟩
  | .hbm, ⟨19, _⟩ => ⟨S8x4224x4224, .f32⟩
  | .hbm, ⟨20, _⟩ => ⟨S8x4224x4224, .f32⟩
  | .hbm, ⟨21, _⟩ => ⟨S_, .f32⟩
  | .hbm, ⟨22, _⟩ => ⟨S8x4224, .f32⟩
  | .hbm, ⟨23, _⟩ => ⟨S8x4224x1, .f32⟩
  | .hbm, ⟨24, _⟩ => ⟨S8x4224x4224, .f32⟩
  | .hbm, ⟨25, _⟩ => ⟨S8x4224x4224, .f32⟩
  | .hbm, ⟨26, _⟩ => ⟨S8x4224x4224, .f32⟩
  | .hbm, ⟨27, _⟩ => ⟨S_, .f32⟩
  | .hbm, ⟨28, _⟩ => ⟨S8x4224, .f32⟩
  | .hbm, ⟨29, _⟩ => ⟨S8x4224x1, .f32⟩
  | .hbm, ⟨30, _⟩ => ⟨S8x4224x1, .f32⟩
  | .hbm, ⟨31, _⟩ => ⟨S8x4224x1, .f32⟩
  | .hbm, ⟨32, _⟩ => ⟨S_, .f32⟩
  | .hbm, ⟨33, _⟩ => ⟨S_, .f32⟩
  | .hbm, ⟨34, _⟩ => ⟨S8x4224x1, .f32⟩
  | .hbm, ⟨35, _⟩ => ⟨S8x4224x1, .f32⟩
  | .hbm, ⟨36, _⟩ => ⟨S4224x512, .f32⟩
  | .hbm, ⟨37, _⟩ => ⟨S4224x8x64, .f32⟩
  | .hbm, ⟨38, _⟩ => ⟨S8x4224x128, .f32⟩
  | .hbm, ⟨39, _⟩ => ⟨S8x4224x128, .f32⟩
  | .hbm, ⟨40, _⟩ => ⟨S8x4224x4224, .f32⟩
  | .hbm, ⟨41, _⟩ => ⟨S_, .f32⟩
  | .hbm, ⟨42, _⟩ => ⟨S8x4224x4224, .f32⟩
  | .hbm, ⟨43, _⟩ => ⟨S8x4224x4224, .f32⟩
  | .hbm, ⟨44, _⟩ => ⟨S4224, .i32⟩
  | .hbm, ⟨45, _⟩ => ⟨S1x4224, .i32⟩
  | .hbm, ⟨46, _⟩ => ⟨S4224x1, .i32⟩
  | .hbm, ⟨47, _⟩ => ⟨S4224x4224, .i32⟩
  | .hbm, ⟨48, _⟩ => ⟨S4224x4224, .i32⟩
  | .hbm, ⟨49, _⟩ => ⟨S4224x4224, .i1⟩
  | .hbm, ⟨50, _⟩ => ⟨S_, .f32⟩
  | .hbm, ⟨51, _⟩ => ⟨S_, .f32⟩
  | .hbm, ⟨52, _⟩ => ⟨S8x4224x4224, .i1⟩
  | .hbm, ⟨53, _⟩ => ⟨S8x4224x4224, .f32⟩
  | .hbm, ⟨54, _⟩ => ⟨S8x4224x4224, .f32⟩
  | .hbm, ⟨55, _⟩ => ⟨S_, .f32⟩
  | .hbm, ⟨56, _⟩ => ⟨S8x4224, .f32⟩
  | .hbm, ⟨57, _⟩ => ⟨S_, .f32⟩
  | .hbm, ⟨58, _⟩ => ⟨S8x4224, .f32⟩
  | .hbm, ⟨59, _⟩ => ⟨S8x4224, .f32⟩
  | .hbm, ⟨60, _⟩ => ⟨S8x4224x1, .f32⟩
  | .hbm, ⟨61, _⟩ => ⟨S8x4224x4224, .f32⟩
  | .hbm, ⟨62, _⟩ => ⟨S8x4224x4224, .f32⟩
  | .hbm, ⟨63, _⟩ => ⟨S8x4224x4224, .f32⟩
  | .hbm, ⟨64, _⟩ => ⟨S_, .f32⟩
  | .hbm, ⟨65, _⟩ => ⟨S8x4224, .f32⟩
  | .hbm, ⟨66, _⟩ => ⟨S8x4224x1, .f32⟩
  | .hbm, ⟨67, _⟩ => ⟨S8x4224x4224, .f32⟩
  | .hbm, ⟨68, _⟩ => ⟨S8x4224x4224, .f32⟩
  | .hbm, ⟨69, _⟩ => ⟨S8x64x4224, .f32⟩
  | .hbm, ⟨70, _⟩ => ⟨S4224x8x64, .f32⟩
  | .hbm, ⟨71, _⟩ => ⟨S4224x512, .f32⟩
  | .hbm, ⟨72, _⟩ => ⟨S8x4224x128, .f32⟩
  | .hbm, ⟨73, _⟩ => ⟨S8x4224x1, .f32⟩
  | .local _ .vmem, ⟨0, _⟩ => ⟨S2x384x128, .bf16⟩
  | .local _ .vmem, ⟨1, _⟩ => ⟨S2x384x128, .bf16⟩
  | .local _ .vmem, ⟨2, _⟩ => ⟨S2x4224x128, .bf16⟩
  | .local _ .vmem, ⟨3, _⟩ => ⟨S2x4224x128, .bf16⟩
  | .local _ .vmem, ⟨4, _⟩ => ⟨S4224x128, .bf16⟩
  | .local _ .vmem, ⟨5, _⟩ => ⟨S4224x128, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S2x384x1, .f32⟩
  | .local _ .vmem, ⟨11, _⟩ => ⟨S2x384x1, .f32⟩
  | .local _ .vmem, ⟨12, _⟩ => ⟨S2x384x128, .f32⟩
  | .local _ .vmem, ⟨13, _⟩ => ⟨S2x384x128, .f32⟩
  | .local _ .vmem, ⟨14, _⟩ => ⟨S2x384x1, .f32⟩
  | .local _ .vmem, ⟨15, _⟩ => ⟨S2x384x1, .f32⟩
  | _, _ => ⟨S8x4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

@[reducible] def k0_t1_loop (i : grid0.Coords) : Scf.Loop 32 :=
  let c0_i32_33 : BitVec 32 := 0#32
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_29 : BitVec 32 := 0#32
  let v41 : BitVec 1 := Scalar.cmpi .slt arg1 c0_i32_29
  let v42 : BitVec 32 := Scalar.extui v41
  let v43 : BitVec 32 := Scalar.subi v40 v42
  let c2_i32 : BitVec 32 := 2#32
  let c0_i32_30 : BitVec 32 := 0#32
  let v44 : BitVec 1 := Scalar.cmpi .sgt c2_i32 c0_i32_30
  let v45 : BitVec 32 := Scalar.extui v44
  let c0_i32_31 : BitVec 32 := 0#32
  let v46 : BitVec 1 := Scalar.cmpi .slt c2_i32 c0_i32_31
  let v47 : BitVec 32 := Scalar.extui v46
  let v48 : BitVec 32 := Scalar.subi v45 v47
  let v49 : BitVec 1 := Scalar.cmpi .ne v43 v48
  let v50 : BitVec 32 := Scalar.remsi arg1 c2_i32
  let c0_i32_32 : BitVec 32 := 0#32
  let v51 : BitVec 1 := Scalar.cmpi .ne v50 c0_i32_32
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_33
  let c1_i32_34 : BitVec 32 := 1#32
  let v57 : BitVec 32 := Scalar.divsi v55 c1_i32_34
  let v58 : BitVec 32 := Scalar.muli v57 c1_i32_34
  let v59 : BitVec 32 := Scalar.addi c0_i32_33 v58
  let c1_i32_35 : BitVec 32 := 1#32
  ⟨c0_i32_33, v59, c1_i32_35⟩
def k0_mult1 (i : grid0.Coords) (k0_t1 : Fin (k0_t1_loop i).trips) : BitVec 32 :=
  let c0_i32_33 : BitVec 32 := 0#32
  let c1_i32_35 : BitVec 32 := 1#32
  let arg10 : BitVec 32 := Scf.iv c0_i32_33 c1_i32_35 k0_t1
  let c2_i32_61 : BitVec 32 := 2#32
  let v106 : BitVec 32 := Scalar.muli arg10 c2_i32_61
  let c384_i32_62 : BitVec 32 := 384#32
  let v107 : BitVec 32 := Scalar.muli v106 c384_i32_62
  v107
def k0_off1 (i : grid0.Coords) (k0_t1 : Fin (k0_t1_loop i).trips) : Fin 2 → Nat :=
  let c0_i32_33 : BitVec 32 := 0#32
  let c1_i32_35 : BitVec 32 := 1#32
  let arg10 : BitVec 32 := Scf.iv c0_i32_33 c1_i32_35 k0_t1
  let c2_i32_61 : BitVec 32 := 2#32
  let v106 : BitVec 32 := Scalar.muli arg10 c2_i32_61
  let c384_i32_62 : BitVec 32 := 384#32
  let v107 : BitVec 32 := Scalar.muli v106 c384_i32_62
  let v108 : BitVec 32 := v107
  let v109 : Index := Scalar.indexCast v108
  let c0_63 : Index := 0#32
  ![v109.toNat, 0]
def k0_off2 (i : grid0.Coords) (k0_t1 : Fin (k0_t1_loop i).trips) : Fin 3 → Nat :=
  let c0_64 : Index := 0#32
  let c0_i32_33 : BitVec 32 := 0#32
  let c1_i32_35 : BitVec 32 := 1#32
  let arg10 : BitVec 32 := Scf.iv c0_i32_33 c1_i32_35 k0_t1
  let c2_i32_61 : BitVec 32 := 2#32
  let v106 : BitVec 32 := Scalar.muli arg10 c2_i32_61
  let c384_i32_62 : BitVec 32 := 384#32
  let v107 : BitVec 32 := Scalar.muli v106 c384_i32_62
  let v108 : BitVec 32 := v107
  let v111 : Index := Scalar.indexCast v108
  let c0_65 : Index := 0#32
  ![0, v111.toNat, 0]
def k0_off3 (i : grid0.Coords) (k0_t1 : Fin (k0_t1_loop i).trips) : Fin 3 → Nat :=
  let c1_70 : Index := 1#32
  let c0_i32_33 : BitVec 32 := 0#32
  let c1_i32_35 : BitVec 32 := 1#32
  let arg10 : BitVec 32 := Scf.iv c0_i32_33 c1_i32_35 k0_t1
  let c2_i32_61 : BitVec 32 := 2#32
  let v106 : BitVec 32 := Scalar.muli arg10 c2_i32_61
  let c384_i32_62 : BitVec 32 := 384#32
  let v107 : BitVec 32 := Scalar.muli v106 c384_i32_62
  let v108 : BitVec 32 := v107
  let v127 : Index := Scalar.indexCast v108
  let c0_71 : Index := 0#32
  ![1, v127.toNat, 0]
@[reducible] def k0_t2_loop (i : grid0.Coords) : Scf.Loop 32 :=
  let c0_i32_33 : BitVec 32 := 0#32
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_29 : BitVec 32 := 0#32
  let v41 : BitVec 1 := Scalar.cmpi .slt arg1 c0_i32_29
  let v42 : BitVec 32 := Scalar.extui v41
  let v43 : BitVec 32 := Scalar.subi v40 v42
  let c2_i32 : BitVec 32 := 2#32
  let c0_i32_30 : BitVec 32 := 0#32
  let v44 : BitVec 1 := Scalar.cmpi .sgt c2_i32 c0_i32_30
  let v45 : BitVec 32 := Scalar.extui v44
  let c0_i32_31 : BitVec 32 := 0#32
  let v46 : BitVec 1 := Scalar.cmpi .slt c2_i32 c0_i32_31
  let v47 : BitVec 32 := Scalar.extui v46
  let v48 : BitVec 32 := Scalar.subi v45 v47
  let v49 : BitVec 1 := Scalar.cmpi .ne v43 v48
  let v50 : BitVec 32 := Scalar.remsi arg1 c2_i32
  let c0_i32_32 : BitVec 32 := 0#32
  let v51 : BitVec 1 := Scalar.cmpi .ne v50 c0_i32_32
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_33
  let c1_i32_34 : BitVec 32 := 1#32
  let v57 : BitVec 32 := Scalar.divsi v55 c1_i32_34
  let v58 : BitVec 32 := Scalar.muli v57 c1_i32_34
  let v59 : BitVec 32 := Scalar.addi c0_i32_33 v58
  let v56 : BitVec 32 := Scalar.addi c0_i32_33 v55
  let c1_i32_36 : BitVec 32 := 1#32
  ⟨v59, v56, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_29 : BitVec 32 := 0#32
  let v41 : BitVec 1 := Scalar.cmpi .slt arg1 c0_i32_29
  let v42 : BitVec 32 := Scalar.extui v41
  let v43 : BitVec 32 := Scalar.subi v40 v42
  let c2_i32 : BitVec 32 := 2#32
  let c0_i32_30 : BitVec 32 := 0#32
  let v44 : BitVec 1 := Scalar.cmpi .sgt c2_i32 c0_i32_30
  let v45 : BitVec 32 := Scalar.extui v44
  let c0_i32_31 : BitVec 32 := 0#32
  let v46 : BitVec 1 := Scalar.cmpi .slt c2_i32 c0_i32_31
  let v47 : BitVec 32 := Scalar.extui v46
  let v48 : BitVec 32 := Scalar.subi v45 v47
  let v49 : BitVec 1 := Scalar.cmpi .ne v43 v48
  let v50 : BitVec 32 := Scalar.remsi arg1 c2_i32
  let c0_i32_32 : BitVec 32 := 0#32
  let v51 : BitVec 1 := Scalar.cmpi .ne v50 c0_i32_32
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_33
  let c1_i32_34 : BitVec 32 := 1#32
  let v57 : BitVec 32 := Scalar.divsi v55 c1_i32_34
  let v58 : BitVec 32 := Scalar.muli v57 c1_i32_34
  let v59 : BitVec 32 := Scalar.addi c0_i32_33 v58
  let c1_i32_36 : BitVec 32 := 1#32
  let arg10 : BitVec 32 := Scf.iv v59 c1_i32_36 k0_t2
  let c2_i32_61 : BitVec 32 := 2#32
  let v106 : BitVec 32 := Scalar.muli arg10 c2_i32_61
  let c384_i32_62 : BitVec 32 := 384#32
  let v107 : BitVec 32 := Scalar.muli v106 c384_i32_62
  v107
def k0_off4 (i : grid0.Coords) (k0_t2 : Fin (k0_t2_loop i).trips) : Fin 2 → Nat :=
  let c0_i32_33 : BitVec 32 := 0#32
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_29 : BitVec 32 := 0#32
  let v41 : BitVec 1 := Scalar.cmpi .slt arg1 c0_i32_29
  let v42 : BitVec 32 := Scalar.extui v41
  let v43 : BitVec 32 := Scalar.subi v40 v42
  let c2_i32 : BitVec 32 := 2#32
  let c0_i32_30 : BitVec 32 := 0#32
  let v44 : BitVec 1 := Scalar.cmpi .sgt c2_i32 c0_i32_30
  let v45 : BitVec 32 := Scalar.extui v44
  let c0_i32_31 : BitVec 32 := 0#32
  let v46 : BitVec 1 := Scalar.cmpi .slt c2_i32 c0_i32_31
  let v47 : BitVec 32 := Scalar.extui v46
  let v48 : BitVec 32 := Scalar.subi v45 v47
  let v49 : BitVec 1 := Scalar.cmpi .ne v43 v48
  let v50 : BitVec 32 := Scalar.remsi arg1 c2_i32
  let c0_i32_32 : BitVec 32 := 0#32
  let v51 : BitVec 1 := Scalar.cmpi .ne v50 c0_i32_32
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_33
  let c1_i32_34 : BitVec 32 := 1#32
  let v57 : BitVec 32 := Scalar.divsi v55 c1_i32_34
  let v58 : BitVec 32 := Scalar.muli v57 c1_i32_34
  let v59 : BitVec 32 := Scalar.addi c0_i32_33 v58
  let c1_i32_36 : BitVec 32 := 1#32
  let arg10 : BitVec 32 := Scf.iv v59 c1_i32_36 k0_t2
  let c2_i32_61 : BitVec 32 := 2#32
  let v106 : BitVec 32 := Scalar.muli arg10 c2_i32_61
  let c384_i32_62 : BitVec 32 := 384#32
  let v107 : BitVec 32 := Scalar.muli v106 c384_i32_62
  let v108 : BitVec 32 := v107
  let v109 : Index := Scalar.indexCast v108
  let c0_63 : Index := 0#32
  ![v109.toNat, 0]
def k0_off5 (i : grid0.Coords) (k0_t2 : Fin (k0_t2_loop i).trips) : Fin 3 → Nat :=
  let c0_64 : Index := 0#32
  let c0_i32_33 : BitVec 32 := 0#32
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_29 : BitVec 32 := 0#32
  let v41 : BitVec 1 := Scalar.cmpi .slt arg1 c0_i32_29
  let v42 : BitVec 32 := Scalar.extui v41
  let v43 : BitVec 32 := Scalar.subi v40 v42
  let c2_i32 : BitVec 32 := 2#32
  let c0_i32_30 : BitVec 32 := 0#32
  let v44 : BitVec 1 := Scalar.cmpi .sgt c2_i32 c0_i32_30
  let v45 : BitVec 32 := Scalar.extui v44
  let c0_i32_31 : BitVec 32 := 0#32
  let v46 : BitVec 1 := Scalar.cmpi .slt c2_i32 c0_i32_31
  let v47 : BitVec 32 := Scalar.extui v46
  let v48 : BitVec 32 := Scalar.subi v45 v47
  let v49 : BitVec 1 := Scalar.cmpi .ne v43 v48
  let v50 : BitVec 32 := Scalar.remsi arg1 c2_i32
  let c0_i32_32 : BitVec 32 := 0#32
  let v51 : BitVec 1 := Scalar.cmpi .ne v50 c0_i32_32
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_33
  let c1_i32_34 : BitVec 32 := 1#32
  let v57 : BitVec 32 := Scalar.divsi v55 c1_i32_34
  let v58 : BitVec 32 := Scalar.muli v57 c1_i32_34
  let v59 : BitVec 32 := Scalar.addi c0_i32_33 v58
  let c1_i32_36 : BitVec 32 := 1#32
  let arg10 : BitVec 32 := Scf.iv v59 c1_i32_36 k0_t2
  let c2_i32_61 : BitVec 32 := 2#32
  let v106 : BitVec 32 := Scalar.muli arg10 c2_i32_61
  let c384_i32_62 : BitVec 32 := 384#32
  let v107 : BitVec 32 := Scalar.muli v106 c384_i32_62
  let v108 : BitVec 32 := v107
  let v111 : Index := Scalar.indexCast v108
  let c0_65 : Index := 0#32
  ![0, v111.toNat, 0]
def k0_off6 (i : grid0.Coords) (k0_t2 : Fin (k0_t2_loop i).trips) : Fin 3 → Nat :=
  let c1_70 : Index := 1#32
  let c0_i32_33 : BitVec 32 := 0#32
  let arg1 : BitVec 32 := BitVec.ofNat 32 (i 1).val
  let c0_i32 : BitVec 32 := 0#32
  let v39 : BitVec 1 := Scalar.cmpi .sgt arg1 c0_i32
  let v40 : BitVec 32 := Scalar.extui v39
  let c0_i32_29 : BitVec 32 := 0#32
  let v41 : BitVec 1 := Scalar.cmpi .slt arg1 c0_i32_29
  let v42 : BitVec 32 := Scalar.extui v41
  let v43 : BitVec 32 := Scalar.subi v40 v42
  let c2_i32 : BitVec 32 := 2#32
  let c0_i32_30 : BitVec 32 := 0#32
  let v44 : BitVec 1 := Scalar.cmpi .sgt c2_i32 c0_i32_30
  let v45 : BitVec 32 := Scalar.extui v44
  let c0_i32_31 : BitVec 32 := 0#32
  let v46 : BitVec 1 := Scalar.cmpi .slt c2_i32 c0_i32_31
  let v47 : BitVec 32 := Scalar.extui v46
  let v48 : BitVec 32 := Scalar.subi v45 v47
  let v49 : BitVec 1 := Scalar.cmpi .ne v43 v48
  let v50 : BitVec 32 := Scalar.remsi arg1 c2_i32
  let c0_i32_32 : BitVec 32 := 0#32
  let v51 : BitVec 1 := Scalar.cmpi .ne v50 c0_i32_32
  let v52 : BitVec 1 := Scalar.andi v49 v51
  let v38 : BitVec 32 := Scalar.divsi arg1 c2_i32
  let c1_i32 : BitVec 32 := 1#32
  let v53 : BitVec 32 := Scalar.subi v38 c1_i32
  let v54 : BitVec 32 := Scalar.select v52 v53 v38
  let v55 : BitVec 32 := Scalar.subi v54 c0_i32_33
  let c1_i32_34 : BitVec 32 := 1#32
  let v57 : BitVec 32 := Scalar.divsi v55 c1_i32_34
  let v58 : BitVec 32 := Scalar.muli v57 c1_i32_34
  let v59 : BitVec 32 := Scalar.addi c0_i32_33 v58
  let c1_i32_36 : BitVec 32 := 1#32
  let arg10 : BitVec 32 := Scf.iv v59 c1_i32_36 k0_t2
  let c2_i32_61 : BitVec 32 := 2#32
  let v106 : BitVec 32 := Scalar.muli arg10 c2_i32_61
  let c384_i32_62 : BitVec 32 := 384#32
  let v107 : BitVec 32 := Scalar.muli v106 c384_i32_62
  let v108 : BitVec 32 := v107
  let v127 : Index := Scalar.indexCast v108
  let c0_71 : Index := 0#32
  ![1, v127.toNat, 0]
def k0_mult3 (i : grid0.Coords) : BitVec 32 :=
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  v80
def k0_cond1 (i : grid0.Coords) : BitVec 1 :=
  let arg1 : BitVec 32 := BitVec.ofNat 32 (i 1).val
  let c2_i32_45 : BitVec 32 := 2#32
  let c0_i32_46 : BitVec 32 := 0#32
  let v82 : BitVec 1 := Scalar.cmpi .eq c2_i32_45 c0_i32_46
  let c1_i32_47 : BitVec 32 := 1#32
  let v83 : BitVec 32 := Scalar.select v82 c1_i32_47 c2_i32_45
  let v84 : BitVec 32 := Scalar.remsi arg1 v83
  let c0_i32_49 : BitVec 32 := 0#32
  let v86 : BitVec 1 := Scalar.cmpi .slt v84 c0_i32_49
  let c0_i32_50 : BitVec 32 := 0#32
  let v87 : BitVec 1 := Scalar.cmpi .slt v83 c0_i32_50
  let v88 : BitVec 1 := Scalar.xori v86 v87
  let c0_i32_48 : BitVec 32 := 0#32
  let v85 : BitVec 1 := Scalar.cmpi .ne v84 c0_i32_48
  let v89 : BitVec 1 := Scalar.andi v88 v85
  let v90 : BitVec 32 := Scalar.addi v84 v83
  let v91 : BitVec 32 := Scalar.select v89 v90 v84
  let c0_i32_51 : BitVec 32 := 0#32
  let v92 : BitVec 1 := Scalar.cmpi .eq v91 c0_i32_51
  let v93 : BitVec 32 := Scalar.extui v92
  let c0_i32_52 : BitVec 32 := 0#32
  let v94 : BitVec 1 := Scalar.cmpi .ne v93 c0_i32_52
  v94

def k0_off7 (i : grid0.Coords) : Fin 2 → Nat :=
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  let v81 : BitVec 32 := v80
  let v106 : Index := Scalar.indexCast v81
  let c0_61 : Index := 0#32
  ![v106.toNat, 0]
def k0_off8 (i : grid0.Coords) : Fin 3 → Nat :=
  let c0_62 : Index := 0#32
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  let v81 : BitVec 32 := v80
  let v108 : Index := Scalar.indexCast v81
  let c0_63 : Index := 0#32
  ![0, v108.toNat, 0]
def k0_off9 (i : grid0.Coords) : Fin 3 → Nat :=
  let c1_70 : Index := 1#32
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  let v81 : BitVec 32 := v80
  let v134 : Index := Scalar.indexCast v81
  let c0_71 : Index := 0#32
  ![1, v134.toNat, 0]
def k0_off10 (i : grid0.Coords) : Fin 2 → Nat :=
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  let v81 : BitVec 32 := v80
  let v106 : Index := Scalar.indexCast v81
  let c0_61 : Index := 0#32
  ![v106.toNat, 0]
def k0_off11 (i : grid0.Coords) : Fin 3 → Nat :=
  let c0_62 : Index := 0#32
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  let v81 : BitVec 32 := v80
  let v108 : Index := Scalar.indexCast v81
  let c0_63 : Index := 0#32
  ![0, v108.toNat, 0]
def k0_off12 (i : grid0.Coords) : Fin 3 → Nat :=
  let c1_70 : Index := 1#32
  let arg1 : BitVec 32 := BitVec.ofNat 32 (i 1).val
  let c0_i32_38 : BitVec 32 := 0#32
  let v63 : BitVec 1 := Scalar.cmpi .sgt arg1 c0_i32_38
  let v64 : BitVec 32 := Scalar.extui v63
  let c0_i32_39 : BitVec 32 := 0#32
  let v65 : BitVec 1 := Scalar.cmpi .slt arg1 c0_i32_39
  let v66 : BitVec 32 := Scalar.extui v65
  let v67 : BitVec 32 := Scalar.subi v64 v66
  let c2_i32_37 : BitVec 32 := 2#32
  let c0_i32_40 : BitVec 32 := 0#32
  let v68 : BitVec 1 := Scalar.cmpi .sgt c2_i32_37 c0_i32_40
  let v69 : BitVec 32 := Scalar.extui v68
  let c0_i32_41 : BitVec 32 := 0#32
  let v70 : BitVec 1 := Scalar.cmpi .slt c2_i32_37 c0_i32_41
  let v71 : BitVec 32 := Scalar.extui v70
  let v72 : BitVec 32 := Scalar.subi v69 v71
  let v73 : BitVec 1 := Scalar.cmpi .ne v67 v72
  let v74 : BitVec 32 := Scalar.remsi arg1 c2_i32_37
  let c0_i32_42 : BitVec 32 := 0#32
  let v75 : BitVec 1 := Scalar.cmpi .ne v74 c0_i32_42
  let v76 : BitVec 1 := Scalar.andi v73 v75
  let v62 : BitVec 32 := Scalar.divsi arg1 c2_i32_37
  let c1_i32_43 : BitVec 32 := 1#32
  let v77 : BitVec 32 := Scalar.subi v62 c1_i32_43
  let v78 : BitVec 32 := Scalar.select v76 v77 v62
  let c2_i32_44 : BitVec 32 := 2#32
  let v79 : BitVec 32 := Scalar.muli v78 c2_i32_44
  let c384_i32 : BitVec 32 := 384#32
  let v80 : BitVec 32 := Scalar.muli v79 c384_i32
  let v81 : BitVec 32 := v80
  let v134 : Index := Scalar.indexCast v81
  let c0_71 : Index := 0#32
  ![1, v134.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | "s_log2e" => some (((13698540 * 134217728⁻¹) * (Real.log 2)⁻¹ : ℝ) : EReal)
  | _ => none
-- ==== ReferenceIdeal.lean ====
abbrev S8x4224x128 : Shape := ⟨3, ![8, 4224, 128]⟩
abbrev S4224x512 : Shape := ⟨2, ![4224, 512]⟩
abbrev S4224x8x64 : Shape := ⟨3, ![4224, 8, 64]⟩
abbrev S8x4224x4224 : Shape := ⟨3, ![8, 4224, 4224]⟩
abbrev S_ : Shape := ⟨0, ![]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S8x4224 : Shape := ⟨2, ![8, 4224]⟩
abbrev S8x4224x1 : Shape := ⟨3, ![8, 4224, 1]⟩
abbrev S8x64x4224 : Shape := ⟨3, ![8, 64, 4224]⟩
abbrev S4224x8 : Shape := ⟨2, ![4224, 8]⟩

abbrev nBuf : Space → Nat
  | .hbm => 96
  | .vmem => 0
  | .smem => 0
  | _ => 0

abbrev bufTy : (tb : Table) → Fin (tcTables nBuf tb) → BufTy
  | .hbm, ⟨0, _⟩ => ⟨S8x4224x128, .bf16⟩
  | .hbm, ⟨1, _⟩ => ⟨S8x4224x128, .bf16⟩
  | .hbm, ⟨2, _⟩ => ⟨S4224x512, .bf16⟩
  | .hbm, ⟨3, _⟩ => ⟨S4224x512, .f32⟩
  | .hbm, ⟨4, _⟩ => ⟨S8x4224x128, .f32⟩
  | .hbm, ⟨5, _⟩ => ⟨S4224x512, .f32⟩
  | .hbm, ⟨6, _⟩ => ⟨S4224x8x64, .f32⟩
  | .hbm, ⟨7, _⟩ => ⟨S8x4224x128, .f32⟩
  | .hbm, ⟨8, _⟩ => ⟨S8x4224x4224, .f32⟩
  | .hbm, ⟨9, _⟩ => ⟨S_, .f32⟩
  | .hbm, ⟨10, _⟩ => ⟨S8x4224x4224, .f32⟩
  | .hbm, ⟨11, _⟩ => ⟨S8x4224x4224, .f32⟩
  | .hbm, ⟨12, _⟩ => ⟨S4224, .i32⟩
  | .hbm, ⟨13, _⟩ => ⟨S1x4224, .i32⟩
  | .hbm, ⟨14, _⟩ => ⟨S4224x1, .i32⟩
  | .hbm, ⟨15, _⟩ => ⟨S4224x4224, .i32⟩
  | .hbm, ⟨16, _⟩ => ⟨S4224x4224, .i32⟩
  | .hbm, ⟨17, _⟩ => ⟨S4224x4224, .i1⟩
  | .hbm, ⟨18, _⟩ => ⟨S_, .f32⟩
  | .hbm, ⟨19, _⟩ => ⟨S_, .f32⟩
  | .hbm, ⟨20, _⟩ => ⟨S8x4224x4224, .i1⟩
  | .hbm, ⟨21, _⟩ => ⟨S8x4224x4224, .f32⟩
  | .hbm, ⟨22, _⟩ => ⟨S8x4224x4224, .f32⟩
  | .hbm, ⟨23, _⟩ => ⟨S_, .f32⟩
  | .hbm, ⟨24, _⟩ => ⟨S8x4224x4224, .f32⟩
  | .hbm, ⟨25, _⟩ => ⟨S_, .f32⟩
  | .hbm, ⟨26, _⟩ => ⟨S8x4224, .f32⟩
  | .hbm, ⟨27, _⟩ => ⟨S8x4224x1, .f32⟩
  | .hbm, ⟨28, _⟩ => ⟨S8x4224x4224, .f32⟩
  | .hbm, ⟨29, _⟩ => ⟨S8x4224x4224, .i1⟩
  | .hbm, ⟨30, _⟩ => ⟨S8x4224x4224, .f32⟩
  | .hbm, ⟨31, _⟩ => ⟨S_, .f32⟩
  | .hbm, ⟨32, _⟩ => ⟨S8x4224, .f32⟩
  | .hbm, ⟨33, _⟩ => ⟨S_, .f32⟩
  | .hbm, ⟨34, _⟩ => ⟨S8x4224, .f32⟩
  | .hbm, ⟨35, _⟩ => ⟨S8x4224, .f32⟩
  | .hbm, ⟨36, _⟩ => ⟨S_, .f32⟩
  | .hbm, ⟨37, _⟩ => ⟨S8x4224, .f32⟩
  | .hbm, ⟨38, _⟩ => ⟨S8x4224, .i1⟩
  | .hbm, ⟨39, _⟩ => ⟨S_, .f32⟩
  | .hbm, ⟨40, _⟩ => ⟨S8x4224, .f32⟩
  | .hbm, ⟨41, _⟩ => ⟨S8x4224, .i1⟩
  | .hbm, ⟨42, _⟩ => ⟨S_, .f32⟩
  | .hbm, ⟨43, _⟩ => ⟨S8x4224, .f32⟩
  | .hbm, ⟨44, _⟩ => ⟨S_, .f32⟩
  | .hbm, ⟨45, _⟩ => ⟨S8x4224, .f32⟩
  | .hbm, ⟨46, _⟩ => ⟨S_, .f32⟩
  | .hbm, ⟨47, _⟩ => ⟨S8x4224, .f32⟩
  | .hbm, ⟨48, _⟩ => ⟨S8x4224, .f32⟩
  | .hbm, ⟨49, _⟩ => ⟨S8x4224, .f32⟩
  | .hbm, ⟨50, _⟩ => ⟨S8x4224x1, .f32⟩
  | .hbm, ⟨51, _⟩ => ⟨S8x4224x4224, .f32⟩
  | .hbm, ⟨52, _⟩ => ⟨S8x4224x4224, .f32⟩
  | .hbm, ⟨53, _⟩ => ⟨S8x4224x4224, .f32⟩
  | .hbm, ⟨54, _⟩ => ⟨S_, .f32⟩
  | .hbm, ⟨55, _⟩ => ⟨S8x4224, .f32⟩
  | .hbm, ⟨56, _⟩ => ⟨S8x4224x1, .f32⟩
  | .hbm, ⟨57, _⟩ => ⟨S8x4224x4224, .f32⟩
  | .hbm, ⟨58, _⟩ => ⟨S8x4224x4224, .f32⟩
  | .hbm, ⟨59, _⟩ => ⟨S8x4224x1, .f32⟩
  | .hbm, ⟨60, _⟩ => ⟨S_, .f32⟩
  | .hbm, ⟨61, _⟩ => ⟨S8x4224x1, .f32⟩
  | .hbm, ⟨62, _⟩ => ⟨S8x4224x1, .f32⟩
  | .hbm, ⟨63, _⟩ => ⟨S8x64x4224, .f32⟩
  | .hbm, ⟨64, _⟩ => ⟨S4224x8x64, .f32⟩
  | .hbm, ⟨65, _⟩ => ⟨S4224x512, .f32⟩
  | .hbm, ⟨66, _⟩ => ⟨S4224x8x64, .f32⟩
  | .hbm, ⟨67, _⟩ => ⟨S8x64x4224, .f32⟩
  | .hbm, ⟨68, _⟩ => ⟨S8x4224x4224, .f32⟩
  | .hbm, ⟨69, _⟩ => ⟨S8x4224x4224, .f32⟩
  | .hbm, ⟨70, _⟩ => ⟨S8x4224x4224, .f32⟩
  | .hbm, ⟨71, _⟩ => ⟨S8x4224x4224, .f32⟩
  | .hbm, ⟨72, _⟩ => ⟨S_, .f32⟩
  | .hbm, ⟨73, _⟩ => ⟨S8x4224, .f32⟩
  | .hbm, ⟨74, _⟩ => ⟨S8x4224x1, .f32⟩
  | .hbm, ⟨75, _⟩ => ⟨S8x4224x1, .f32⟩
  | .hbm, ⟨76, _⟩ => ⟨S8x4224x4224, .f32⟩
  | .hbm, ⟨77, _⟩ => ⟨S8x4224x4224, .f32⟩
  | .hbm, ⟨78, _⟩ => ⟨S_, .f32⟩
  | .hbm, ⟨79, _⟩ => ⟨S8x4224, .f32⟩
  | .hbm, ⟨80, _⟩ => ⟨S8x4224x4224, .f32⟩
  | .hbm, ⟨81, _⟩ => ⟨S8x4224x4224, .f32⟩
  | .hbm, ⟨82, _⟩ => ⟨S8x4224x4224, .f32⟩
  | .hbm, ⟨83, _⟩ => ⟨S_, .f32⟩
  | .hbm, ⟨84, _⟩ => ⟨S8x4224x4224, .f32⟩
  | .hbm, ⟨85, _⟩ => ⟨S8x4224x4224, .f32⟩
  | .hbm, ⟨86, _⟩ => ⟨S_, .f32⟩
  | .hbm, ⟨87, _⟩ => ⟨S8x4224x4224, .f32⟩
  | .hbm, ⟨88, _⟩ => ⟨S8x4224x4224, .f32⟩
  | .hbm, ⟨89, _⟩ => ⟨S8x4224x128, .f32⟩
  | .hbm, ⟨90, _⟩ => ⟨S4224x512, .f32⟩
  | .hbm, ⟨91, _⟩ => ⟨S4224x8x64, .f32⟩
  | .hbm, ⟨92, _⟩ => ⟨S_, .f32⟩
  | .hbm, ⟨93, _⟩ => ⟨S4224x8, .f32⟩
  | .hbm, ⟨94, _⟩ => ⟨S8x4224, .f32⟩
  | .hbm, ⟨95, _⟩ => ⟨S8x4224x1, .f32⟩
  | _, _ => ⟨S8x4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== KernelUp.lean ====
abbrev S4224x1024 : Shape := ⟨2, ![4224, 1024]⟩
abbrev S4224x2816 : Shape := ⟨2, ![4224, 2816]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩

abbrev nBuf : Space → Nat
  | .hbm => 15
  | .vmem => 16
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x2816, .bf16⟩
  | .hbm, ⟨3, _⟩ => ⟨S4224x2816, .bf16⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S4224x1024, .f32⟩
  | .hbm, ⟨13, _⟩ => ⟨S4224x1024, .bf16⟩
  | .hbm, ⟨14, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S384x1024, .f32⟩
  | .local _ .vmem, ⟨12, _⟩ => ⟨S384x1024, .f32⟩
  | .local _ .vmem, ⟨13, _⟩ => ⟨S384x1024, .bf16⟩
  | .local _ .vmem, ⟨14, _⟩ => ⟨S384x1024, .bf16⟩
  | .local _ .vmem, ⟨15, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let v_true : BitVec 1 := 1#1
  let v47 : BitVec 1 := Scalar.xori v44 v_true
  let v48 : BitVec 32 := Scalar.extui v47
  let c0_i32_25 : BitVec 32 := 0#32
  let v49 : BitVec 1 := Scalar.cmpi .ne v48 c0_i32_25
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceUpIdeal.lean ====
abbrev S4224x1024 : Shape := ⟨2, ![4224, 1024]⟩
abbrev S4224x2816 : Shape := ⟨2, ![4224, 2816]⟩
abbrev S1024 : Shape := ⟨1, ![1024]⟩
abbrev S1024x2816 : Shape := ⟨2, ![1024, 2816]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x2816, .bf16⟩
  | .hbm, ⟨3, _⟩ => ⟨S4224x2816, .bf16⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S1x1024, .f32⟩
  | .hbm, ⟨25, _⟩ => ⟨S4224x1024, .f32⟩
  | .hbm, ⟨26, _⟩ => ⟨S4224x1024, .f32⟩
  | .hbm, ⟨27, _⟩ => ⟨S4224x2816, .f32⟩
  | .hbm, ⟨28, _⟩ => ⟨S4224x2816, .f32⟩
  | .hbm, ⟨29, _⟩ => ⟨S4224x2816, .f32⟩
  | .hbm, ⟨30, _⟩ => ⟨S4224x2816, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S1024, .f32⟩
  | .hbm, ⟨42, _⟩ => ⟨S4224x1024, .f32⟩
  | .hbm, ⟨43, _⟩ => ⟨S_, .f32⟩
  | .hbm, ⟨44, _⟩ => ⟨S4224, .f32⟩
  | .hbm, ⟨45, _⟩ => ⟨S4224x1, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1, .f32⟩
  | .hbm, ⟨50, _⟩ => ⟨S_, .f32⟩
  | .hbm, ⟨51, _⟩ => ⟨S4224x1, .f32⟩
  | .hbm, ⟨52, _⟩ => ⟨S4224x1, .f32⟩
  | .hbm, ⟨53, _⟩ => ⟨S_, .f32⟩
  | .hbm, ⟨54, _⟩ => ⟨S4224, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S_, .f32⟩
  | .hbm, ⟨62, _⟩ => ⟨S4224, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224x1, .f32⟩
  | .hbm, ⟨69, _⟩ => ⟨S4224x1, .f32⟩
  | .hbm, ⟨70, _⟩ => ⟨S4224x1, .f32⟩
  | .hbm, ⟨71, _⟩ => ⟨S4224x1024, .f32⟩
  | .hbm, ⟨72, _⟩ => ⟨S4224x1024, .f32⟩
  | .hbm, ⟨73, _⟩ => ⟨S1x1024, .f32⟩
  | .hbm, ⟨74, _⟩ => ⟨S4224x1024, .f32⟩
  | .hbm, ⟨75, _⟩ => ⟨S4224x1024, .f32⟩
  | .hbm, ⟨76, _⟩ => ⟨S4224x1024, .bf16⟩
  | .hbm, ⟨77, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== KernelWgrad.lean ====
abbrev S4224x2816 : Shape := ⟨2, ![4224, 2816]⟩
abbrev S4224x1024 : Shape := ⟨2, ![4224, 1024]⟩
abbrev S8x352x1024 : Shape := ⟨3, ![8, 352, 1024]⟩
abbrev S1056x2816 : Shape := ⟨2, ![1056, 2816]⟩
abbrev S1056x512 : Shape := ⟨2, ![1056, 512]⟩
abbrev S8x352x512 : Shape := ⟨3, ![8, 352, 512]⟩
abbrev S2816x512 : Shape := ⟨2, ![2816, 512]⟩
abbrev S352x512 : Shape := ⟨2, ![352, 512]⟩
abbrev S1x352x512 : Shape := ⟨3, ![1, 352, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S8x352x1024, .bf16⟩
  | .local _ .vmem, ⟨0, _⟩ => ⟨S1056x2816, .bf16⟩
  | .local _ .vmem, ⟨1, _⟩ => ⟨S1056x2816, .bf16⟩
  | .local _ .vmem, ⟨2, _⟩ => ⟨S1056x512, .bf16⟩
  | .local _ .vmem, ⟨3, _⟩ => ⟨S1056x512, .bf16⟩
  | .local _ .vmem, ⟨4, _⟩ => ⟨S8x352x512, .bf16⟩
  | .local _ .vmem, ⟨5, _⟩ => ⟨S8x352x512, .bf16⟩
  | .local _ .vmem, ⟨6, _⟩ => ⟨S2816x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWgradIdeal.lean ====
abbrev S4224x2816 : Shape := ⟨2, ![4224, 2816]⟩
abbrev S4224x1024 : Shape := ⟨2, ![4224, 1024]⟩
abbrev S_ : Shape := ⟨0, ![]⟩
abbrev S1024x2816 : Shape := ⟨2, ![1024, 2816]⟩
abbrev S2816x1024 : Shape := ⟨2, ![2816, 1024]⟩
abbrev S8x352x1024 : Shape := ⟨3, ![8, 352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S_, .f32⟩
  | .hbm, ⟨3, _⟩ => ⟨S1024x2816, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S8x352x1024, .f32⟩
  | .hbm, ⟨11, _⟩ => ⟨S8x352x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDown.lean ====
abbrev S4224x1024 : Shape := ⟨2, ![4224, 1024]⟩
abbrev S4224x2816 : Shape := ⟨2, ![4224, 2816]⟩
abbrev S1024 : Shape := ⟨1, ![1024]⟩
abbrev S2816x1024 : Shape := ⟨2, ![2816, 1024]⟩
abbrev S_ : Shape := ⟨0, ![]⟩
abbrev S1x1024 : Shape := ⟨2, ![1, 1024]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S1408x1024 : Shape := ⟨2, ![1408, 1024]⟩
abbrev S384x1408 : Shape := ⟨2, ![384, 1408]⟩

abbrev nBuf : Space → Nat
  | .hbm => 25
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S4224x2816, .bf16⟩
  | .hbm, ⟨2, _⟩ => ⟨S4224x2816, .bf16⟩
  | .hbm, ⟨3, _⟩ => ⟨S1024, .f32⟩
  | .hbm, ⟨4, _⟩ => ⟨S2816x1024, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S_, .f32⟩
  | .hbm, ⟨12, _⟩ => ⟨S4224x2816, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x1024, .f32⟩
  | .hbm, ⟨18, _⟩ => ⟨S1x1024, .f32⟩
  | .hbm, ⟨19, _⟩ => ⟨S2816x1024, .bf16⟩
  | .hbm, ⟨20, _⟩ => ⟨S4224x2816, .bf16⟩
  | .hbm, ⟨21, _⟩ => ⟨S4224x2816, .bf16⟩
  | .hbm, ⟨22, _⟩ => ⟨S4224x2816, .bf16⟩
  | .hbm, ⟨23, _⟩ => ⟨S4224x1024, .bf16⟩
  | .hbm, ⟨24, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x2816, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x1024, .f32⟩
  | .local _ .vmem, ⟨7, _⟩ => ⟨S384x1024, .f32⟩
  | .local _ .vmem, ⟨8, _⟩ => ⟨S1x1024, .f32⟩
  | .local _ .vmem, ⟨9, _⟩ => ⟨S2816x1024, .bf16⟩
  | .local _ .vmem, ⟨10, _⟩ => ⟨S384x2816, .bf16⟩
  | .local _ .vmem, ⟨11, _⟩ => ⟨S384x2816, .bf16⟩
  | .local _ .vmem, ⟨12, _⟩ => ⟨S384x2816, .bf16⟩
  | .local _ .vmem, ⟨13, _⟩ => ⟨S384x2816, .bf16⟩
  | .local _ .vmem, ⟨14, _⟩ => ⟨S384x2816, .bf16⟩
  | .local _ .vmem, ⟨15, _⟩ => ⟨S384x2816, .bf16⟩
  | .local _ .vmem, ⟨16, _⟩ => ⟨S384x1024, .bf16⟩
  | .local _ .vmem, ⟨17, _⟩ => ⟨S384x1024, .bf16⟩
  | .local _ .vmem, ⟨18, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v92 : BitVec 1 := Scalar.cmpi .eq arg0 c0_i32
  let v93 : BitVec 32 := Scalar.extui v92
  let c0_i32_46 : BitVec 32 := 0#32
  let v94 : BitVec 1 := Scalar.cmpi .ne v93 c0_i32_46
  v94

def k0_cond2 (i : grid0.Coords) : BitVec 1 :=
  let arg0 : BitVec 32 := BitVec.ofNat 32 (i 0).val
  let c0_i32 : BitVec 32 := 0#32
  let v92 : BitVec 1 := Scalar.cmpi .eq arg0 c0_i32
  let v_true : BitVec 1 := 1#1
  let v95 : BitVec 1 := Scalar.xori v92 v_true
  let v96 : BitVec 32 := Scalar.extui v95
  let c0_i32_47 : BitVec 32 := 0#32
  let v97 : BitVec 1 := Scalar.cmpi .ne v96 c0_i32_47
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceDownIdeal.lean ====
abbrev S4224x1024 : Shape := ⟨2, ![4224, 1024]⟩
abbrev S4224x2816 : Shape := ⟨2, ![4224, 2816]⟩
abbrev S1024 : Shape := ⟨1, ![1024]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x2816, .bf16⟩
  | .hbm, ⟨2, _⟩ => ⟨S4224x2816, .bf16⟩
  | .hbm, ⟨3, _⟩ => ⟨S1024, .f32⟩
  | .hbm, ⟨4, _⟩ => ⟨S2816x1024, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1, .f32⟩
  | .hbm, ⟨29, _⟩ => ⟨S4224x1, .f32⟩
  | .hbm, ⟨30, _⟩ => ⟨S_, .f32⟩
  | .hbm, ⟨31, _⟩ => ⟨S4224x1, .f32⟩
  | .hbm, ⟨32, _⟩ => ⟨S4224x1, .f32⟩
  | .hbm, ⟨33, _⟩ => ⟨S4224x1024, .f32⟩
  | .hbm, ⟨34, _⟩ => ⟨S4224x1024, .f32⟩
  | .hbm, ⟨35, _⟩ => ⟨S1x1024, .f32⟩
  | .hbm, ⟨36, _⟩ => ⟨S4224x1024, .f32⟩
  | .hbm, ⟨37, _⟩ => ⟨S4224x1024, .f32⟩
  | .hbm, ⟨38, _⟩ => ⟨S_, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S1024, .f32⟩
  | .hbm, ⟨52, _⟩ => ⟨S4224x1024, .f32⟩
  | .hbm, ⟨53, _⟩ => ⟨S_, .f32⟩
  | .hbm, ⟨54, _⟩ => ⟨S4224, .f32⟩
  | .hbm, ⟨55, _⟩ => ⟨S4224x1, .f32⟩
  | .hbm, ⟨56, _⟩ => ⟨S4224x1024, .f32⟩
  | .hbm, ⟨57, _⟩ => ⟨S4224x1024, .f32⟩
  | .hbm, ⟨58, _⟩ => ⟨S4224x1, .f32⟩
  | .hbm, ⟨59, _⟩ => ⟨S_, .f32⟩
  | .hbm, ⟨60, _⟩ => ⟨S4224x1, .f32⟩
  | .hbm, ⟨61, _⟩ => ⟨S4224x1, .f32⟩
  | .hbm, ⟨62, _⟩ => ⟨S_, .f32⟩
  | .hbm, ⟨63, _⟩ => ⟨S4224, .f32⟩
  | .hbm, ⟨64, _⟩ => ⟨S4224x1024, .f32⟩
  | .hbm, ⟨65, _⟩ => ⟨S4224x1024, .f32⟩
  | .hbm, ⟨66, _⟩ => ⟨S4224x1024, .f32⟩
  | .hbm, ⟨67, _⟩ => ⟨S4224x1024, .f32⟩
  | .hbm, ⟨68, _⟩ => ⟨S4224x1024, .f32⟩
  | .hbm, ⟨69, _⟩ => ⟨S4224x2816, .f32⟩
  | .hbm, ⟨70, _⟩ => ⟨S4224x2816, .f32⟩
  | .hbm, ⟨71, _⟩ => ⟨S_, .f32⟩
  | .hbm, ⟨72, _⟩ => ⟨S4224x2816, .f32⟩
  | .hbm, ⟨73, _⟩ => ⟨S4224x2816, .f32⟩
  | .hbm, ⟨74, _⟩ => ⟨S_, .f32⟩
  | .hbm, ⟨75, _⟩ => ⟨S4224x2816, .f32⟩
  | .hbm, ⟨76, _⟩ => ⟨S4224x2816, .f32⟩
  | .hbm, ⟨77, _⟩ => ⟨S_, .f32⟩
  | .hbm, ⟨78, _⟩ => ⟨S4224x2816, .f32⟩
  | .hbm, ⟨79, _⟩ => ⟨S4224x2816, .f32⟩
  | .hbm, ⟨80, _⟩ => ⟨S4224x2816, .f32⟩
  | .hbm, ⟨81, _⟩ => ⟨S4224x2816, .f32⟩
  | .hbm, ⟨82, _⟩ => ⟨S4224x2816, .f32⟩
  | .hbm, ⟨83, _⟩ => ⟨S4224x1024, .f32⟩
  | .hbm, ⟨84, _⟩ => ⟨S4224x2816, .f32⟩
  | .hbm, ⟨85, _⟩ => ⟨S4224x2816, .f32⟩
  | .hbm, ⟨86, _⟩ => ⟨S4224x2816, .f32⟩
  | .hbm, ⟨87, _⟩ => ⟨S4224x2816, .f32⟩
  | .hbm, ⟨88, _⟩ => ⟨S4224x2816, .f32⟩
  | .hbm, ⟨89, _⟩ => ⟨S4224x2816, .f32⟩
  | .hbm, ⟨90, _⟩ => ⟨S4224x2816, .f32⟩
  | .hbm, ⟨91, _⟩ => ⟨S4224x2816, .bf16⟩
  | .hbm, ⟨92, _⟩ => ⟨S4224x2816, .bf16⟩
  | .hbm, ⟨93, _⟩ => ⟨S4224x2816, .bf16⟩
  | .hbm, ⟨94, _⟩ => ⟨S4224x1024, .bf16⟩
  | .hbm, ⟨95, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_v45_2 : Ref sig .tc := ⟨.hbm, 76, rfl⟩
abbrev main_call1_cst_1 : Ref sig .tc := ⟨.hbm, 77, rfl⟩
abbrev main_call1_v6 : Ref sig .tc := ⟨.hbm, 78, rfl⟩
abbrev main_call1_v7 : Ref sig .tc := ⟨.hbm, 79, rfl⟩
abbrev main_v45_1 : Ref sig .tc := ⟨.hbm, 80, rfl⟩
abbrev main_v45_0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩

abbrev nD : Nat := 1
abbrev τ : Topo := Topo.v7x

variable {F : FTy → Type} [FloatOps F]
-- ==== KernelFwd.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4224x2816 : Shape := ⟨2, ![4224, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S1408x1024 : Shape := ⟨2, ![1408, 1024]⟩
abbrev S384x1408 : Shape := ⟨2, ![384, 1408]⟩

abbrev nBuf : Space → Nat
  | .hbm => 17
  | .vmem => 15
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S4224x1024, .f32⟩
  | .hbm, ⟨14, _⟩ => ⟨S4224x2816, .bf16⟩
  | .hbm, ⟨15, _⟩ => ⟨S4224x2816, .bf16⟩
  | .hbm, ⟨16, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1x1024, .f32⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S384x1024, .f32⟩
  | .local _ .vmem, ⟨8, _⟩ => ⟨S384x1024, .f32⟩
  | .local _ .vmem, ⟨9, _⟩ => ⟨S384x2816, .bf16⟩
  | .local _ .vmem, ⟨10, _⟩ => ⟨S384x2816, .bf16⟩
  | .local _ .vmem, ⟨11, _⟩ => ⟨S384x2816, .bf16⟩
  | .local _ .vmem, ⟨12, _⟩ => ⟨S384x2816, .bf16⟩
  | .local _ .vmem, ⟨13, _⟩ => ⟨S384x1024, .f32⟩
  | .local _ .vmem, ⟨14, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFwdIdeal.lean ====
abbrev S4224x1024 : Shape := ⟨2, ![4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x2816 : Shape := ⟨2, ![4224, 2816]⟩

abbrev nBuf : Space → Nat
  | .hbm => 57
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S_, .f32⟩
  | .hbm, ⟨27, _⟩ => ⟨S4224x2816, .f32⟩
  | .hbm, ⟨28, _⟩ => ⟨S4224x2816, .f32⟩
  | .hbm, ⟨29, _⟩ => ⟨S_, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S_, .f32⟩
  | .hbm, ⟨40, _⟩ => ⟨S4224x1, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S4224x1, .f32⟩
  | .hbm, ⟨46, _⟩ => ⟨S4224x1024, .f32⟩
  | .hbm, ⟨47, _⟩ => ⟨S4224x1024, .f32⟩
  | .hbm, ⟨48, _⟩ => ⟨S1x1024, .f32⟩
  | .hbm, ⟨49, _⟩ => ⟨S4224x1024, .f32⟩
  | .hbm, ⟨50, _⟩ => ⟨S4224x1024, .f32⟩
  | .hbm, ⟨51, _⟩ => ⟨S_, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x2816, .bf16⟩
  | .hbm, ⟨56, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.Run.lean ====
/- The body of the kernel that computes the gradient of the queries, run once from its blocks to its two results: on the
   steps whose last stretch of keys is one tile wide (`runA`) and on those where it is two tiles wide (`runB`). -/
module

public import proofs.«01_k».proof.Proof.Gen.KernelIdeal.Frame
public import proofs.«01_k».proof.Proof.Gen.KernelIdeal.Loops

@[expose] public section

set_option maxRecDepth 16384

noncomputable section

namespace Cert.Proof.Q

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in its two outputs, last first, with the proof that on its blocks it runs to there: the
    last stretch of keys one tile wide. -/
noncomputable def runA (c : Dev nD) (i : grid0.Coords) (hc : k0_cond1 i = 1#1)
    (arg2 : Memref sig .tc .vmem S2x384x128 .bf16) (harg2 : arg2.IsWhole) (arg3 : Memref sig .tc .vmem S2x4224x128 .bf16) (harg3 : arg3.IsWhole)
    (arg4 : Memref sig .tc .vmem S4224x128 .bf16) (harg4 : arg4.IsWhole) (arg5 : Memref sig .tc .vmem S384x128 .f32) (harg5 : arg5.IsWhole)
    (arg6 : Memref sig .tc .vmem S384x128 .f32) (harg6 : arg6.IsWhole) (arg7 : Memref sig .tc .vmem S2x384x1 .f32) (harg7 : arg7.IsWhole)
    (arg8 : Memref sig .tc .vmem S2x384x128 .f32) (harg8 : arg8.IsWhole) (arg9 : Memref sig .tc .vmem S2x384x1 .f32) (harg9 : arg9.IsWhole)
    (x2 : Vec F S2x384x128 .bf16) (x3 : Vec F S2x4224x128 .bf16) (x4 : Vec F S4224x128 .bf16) (x5 x6 : Vec F S384x128 .f32) (x7 : Vec F S2x384x1 .f32) :
    { L : List (View.Piece (Elt F) S2x384x128 .f32) × List (View.Piece (Elt F) S2x384x1 .f32) //
      ∀ K : PUnit → sProp 𝕄,
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ e, arg8.view.loc (c : Thread nD τ) ↦[arg8.view.set]{fullShare} arg8.view.writes (Elt F) e L.1)
                ∗ (∃ e, arg9.view.loc (c : Thread nD τ) ↦[arg9.view.set]{fullShare} arg9.view.writes (Elt F) e L.2)) -∗ K ⟨⟩))
          ⊢ wp frame (wpE (defs₀ (F := F)) Variants.none c none) Set.univ (cc0_attn_bwd_q i arg2 harg2 arg3 harg3 arg4 harg4 arg5 harg5 arg6 harg6 arg7 harg7 arg8 harg8 arg9 harg9) K } := by
  refine ⟨(?_, ?_), fun K => ?run⟩
  case run =>
    simp only [cc0_attn_bwd_q_eq_skeleton]; unfold cc0_attn_bwd_q_skel
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, Hk⟩
    obtain rfl := harg2.eq_unread h2; obtain rfl := harg3.eq_unread h3; obtain rfl := harg4.eq_unread h4
    obtain rfl := harg5.eq_unread h5; obtain rfl := harg6.eq_unread h6; obtain rfl := harg7.eq_unread h7
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- The same with the last stretch two tiles wide. -/
noncomputable def runB (c : Dev nD) (i : grid0.Coords) (hc : ¬ k0_cond1 i = 1#1)
    (arg2 : Memref sig .tc .vmem S2x384x128 .bf16) (harg2 : arg2.IsWhole) (arg3 : Memref sig .tc .vmem S2x4224x128 .bf16) (harg3 : arg3.IsWhole)
    (arg4 : Memref sig .tc .vmem S4224x128 .bf16) (harg4 : arg4.IsWhole) (arg5 : Memref sig .tc .vmem S384x128 .f32) (harg5 : arg5.IsWhole)
    (arg6 : Memref sig .tc .vmem S384x128 .f32) (harg6 : arg6.IsWhole) (arg7 : Memref sig .tc .vmem S2x384x1 .f32) (harg7 : arg7.IsWhole)
    (arg8 : Memref sig .tc .vmem S2x384x128 .f32) (harg8 : arg8.IsWhole) (arg9 : Memref sig .tc .vmem S2x384x1 .f32) (harg9 : arg9.IsWhole)
    (x2 : Vec F S2x384x128 .bf16) (x3 : Vec F S2x4224x128 .bf16) (x4 : Vec F S4224x128 .bf16) (x5 x6 : Vec F S384x128 .f32) (x7 : Vec F S2x384x1 .f32) :
    { L : List (View.Piece (Elt F) S2x384x128 .f32) × List (View.Piece (Elt F) S2x384x1 .f32) //
      ∀ K : PUnit → sProp 𝕄,
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ e, arg8.view.loc (c : Thread nD τ) ↦[arg8.view.set]{fullShare} arg8.view.writes (Elt F) e L.1)
                ∗ (∃ e, arg9.view.loc (c : Thread nD τ) ↦[arg9.view.set]{fullShare} arg9.view.writes (Elt F) e L.2)) -∗ K ⟨⟩))
          ⊢ wp frame (wpE (defs₀ (F := F)) Variants.none c none) Set.univ (cc0_attn_bwd_q i arg2 harg2 arg3 harg3 arg4 harg4 arg5 harg5 arg6 harg6 arg7 harg7 arg8 harg8 arg9 harg9) K } := by
  refine ⟨(?_, ?_), fun K => ?run⟩
  case run =>
    simp only [cc0_attn_bwd_q_eq_skeleton]; unfold cc0_attn_bwd_q_skel
    unfold owns
    iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, Hk⟩
    obtain rfl := harg2.eq_unread h2; obtain rfl := harg3.eq_unread h3; obtain rfl := harg4.eq_unread h4
    obtain rfl := harg5.eq_unread h5; obtain rfl := harg6.eq_unread h6; obtain rfl := harg7.eq_unread h7
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.Proof.Q

end
-- ==== Proof.Body.lean ====
/- From the two runs of the body, what it leaves in its output blocks, and the launch: every execution ends with the
   arguments as they were, the outputs at those blocks, and every counter at zero. -/
module

public import proofs.«01_k».proof.Proof.Run

@[expose] public section

set_option maxRecDepth 16384

noncomputable section

namespace Cert.Proof.Q

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One head's rows lie in the block of two heads. -/
theorem row_fits (n b : Nat) (hb : b < 2) (a : Fin 3) : (![b, 0, 0] : Fin 3 → Nat) a + (![1, 384, n] : Fin 3 → Nat) a ≤ (![2, 384, n] : Fin 3 → Nat) a := by
  fin_cases a <;> simp <;> omega

/-- Both heads' rows are written, so the block is covered. -/
theorem cover_rows {n : Nat} (y : (⟨3, ![2, 384, n]⟩ : Shape).Idx) (p q : View.Piece (Elt F) ⟨3, ![2, 384, n]⟩ .f32)
    (hp : p.1 = Rect.unit (s := ⟨3, ![2, 384, n]⟩) ![1, 0, 0] ![1, 384, n] (row_fits n 1 (by decide)))
    (hq : q.1 = Rect.unit (s := ⟨3, ![2, 384, n]⟩) ![0, 0, 0] ![1, 384, n] (row_fits n 0 (by decide))) : ∃ r ∈ [p, q], y ∈ r.1.set := by
  have h1 : (y 1).val < 384 := (y 1).isLt
  have h2 : (y 2).val < n := (y 2).isLt
  have h0 : (y 0).val < 2 := (y 0).isLt
  by_cases hy : (y 0).val = 1
  · refine ⟨p, List.mem_cons_self, ?_⟩
    rw [hp, Rect.mem_set_unit]
    intro a; fin_cases a <;> simp <;> omega
  · refine ⟨q, List.mem_cons_of_mem _ List.mem_cons_self, ?_⟩
    rw [hq, Rect.mem_set_unit]
    intro a; fin_cases a <;> simp <;> omega

variable (m : (ℓ : Loc nD τ sig) → Buf (Elt F) ℓ) (ρ : Dev nD → PrngReg)

/-- The pieces the body writes at point `t`, by the case of that point. -/
def pieces (c : Dev nD) (t : Fin cfg0.N) :
    List (View.Piece (Elt F) S2x384x128 .f32) × List (View.Piece (Elt F) S2x384x1 .f32) :=
  if hc : k0_cond1 (grid0.coords t) = 1#1 then
    (runA c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (iblk m c 5 t)).1
  else
    (runB c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (iblk m c 5 t)).1

theorem pieces_cover (c : Dev nD) (t : Fin cfg0.N) :
    (∀ y, ∃ p ∈ (pieces m c t).1, y ∈ p.1.set) ∧ (∀ y, ∃ p ∈ (pieces m c t).2, y ∈ p.1.set) := by
  unfold pieces; split
  · exact ⟨fun y => cover_rows y _ _ rfl rfl, fun y => cover_rows y _ _ rfl rfl⟩
  · exact ⟨fun y => cover_rows y _ _ rfl rfl, fun y => cover_rows y _ _ rfl rfl⟩

/-- What the body leaves in the gradient's block and in the row sums' block at point `t`. -/
def outQ (c : Dev nD) (t : Fin cfg0.N) : Vec F S2x384x128 .f32 := View.canon (pieces m c t).1
def outD (c : Dev nD) (t : Fin cfg0.N) : Vec F S2x384x1 .f32 := View.canon (pieces m c t).2

/-- The proof data: inputs stay, outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ m c t
    | ⟨7, _⟩ => outD m c t
  Φ _ := Pipeline.ΦA spec0 c
  q _ := fullShare
  owed _ := 0

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- From the input blocks, the body leaves its outputs' blocks. -/
theorem sound_run (c : Dev nD) (t : Fin cfg0.N) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t)
        ∗ (∃ d, owns (c : Thread nD τ) (st0_6 t) fullShare d) ∗ (∃ d, owns (c : Thread nD τ) (st0_7 t) fullShare d)
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t)
            ∗ owns (c : Thread nD τ) (st0_6 t) fullShare (outQ m c t) ∗ owns (c : Thread nD τ) (st0_7 t) fullShare (outD m c t)) -∗ K ⟨⟩))
      ⊢ wp frame (wpE (defs₀ (F := F)) Variants.none c none) Set.univ (bodyAt0 t) K := by
  have cov := pieces_cover m c t
  unfold outQ outD bodyAt0
  iintro ⟨H0, H1, H2, H3, H4, H5, H6, H7, Hk⟩
  by_cases hc : k0_cond1 (grid0.coords t) = 1#1
  · rewrite [show pieces m c t = (runA c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (iblk m c 5 t)).1 from dif_pos hc] at cov ⊢
    iapply ((runA c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (iblk m c 5 t)).2 K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%e6, H6⟩, ⟨%e7, H7⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact View.read_writes_eq_canon _ _ _ cov.1
    · unfold owns; iexists _; isplitr; swap; · iexact H7
      ipureintro; exact View.read_writes_eq_canon _ _ _ cov.2
  · rewrite [show pieces m c t = (runB c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (iblk m c 5 t)).1 from dif_neg hc] at cov ⊢
    iapply ((runB c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (iblk m c 5 t)).2 K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%e6, H6⟩, ⟨%e7, H7⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact View.read_writes_eq_canon _ _ _ cov.1
    · unfold owns; iexists _; isplitr; swap; · iexact H7
      ipureintro; exact View.read_writes_eq_canon _ _ _ cov.2

attribute [irreducible] outQ outD

/-- The inputs' staging buffers hold the inputs' blocks. -/
theorem bef0 (c : Dev nD) (t : Fin cfg0.N) (d) : (dats m 0 c).before 0 t d = iblk m c 0 t :=
  before0_0_of m (dats m 0 c) rfl (fun _ => rfl) t d
theorem bef1 (c : Dev nD) (t : Fin cfg0.N) (d) : (dats m 0 c).before 1 t d = iblk m c 1 t :=
  before0_1_of m (dats m 0 c) rfl (fun _ => rfl) t d
theorem bef2 (c : Dev nD) (t : Fin cfg0.N) (d) : (dats m 0 c).before 2 t d = iblk m c 2 t :=
  before0_2_of m (dats m 0 c) rfl (fun _ => rfl) t d
theorem bef3 (c : Dev nD) (t : Fin cfg0.N) (d) : (dats m 0 c).before 3 t d = iblk m c 3 t :=
  before0_3_of m (dats m 0 c) rfl (fun _ => rfl) t d
theorem bef4 (c : Dev nD) (t : Fin cfg0.N) (d) : (dats m 0 c).before 4 t d = iblk m c 4 t :=
  before0_4_of m (dats m 0 c) rfl (fun _ => rfl) t d
theorem bef5 (c : Dev nD) (t : Fin cfg0.N) (d) : (dats m 0 c).before 5 t d = iblk m c 5 t :=
  before0_5_of m (dats m 0 c) rfl (fun _ => rfl) t d
/-- What each staging buffer holds after the body. -/
theorem aft0 (c : Dev nD) (t : Fin cfg0.N) : (dats m 0 c).after 0 t = iblk m c 0 t := rfl
theorem aft1 (c : Dev nD) (t : Fin cfg0.N) : (dats m 0 c).after 1 t = iblk m c 1 t := rfl
theorem aft2 (c : Dev nD) (t : Fin cfg0.N) : (dats m 0 c).after 2 t = iblk m c 2 t := rfl
theorem aft3 (c : Dev nD) (t : Fin cfg0.N) : (dats m 0 c).after 3 t = iblk m c 3 t := rfl
theorem aft4 (c : Dev nD) (t : Fin cfg0.N) : (dats m 0 c).after 4 t = iblk m c 4 t := rfl
theorem aft5 (c : Dev nD) (t : Fin cfg0.N) : (dats m 0 c).after 5 t = iblk m c 5 t := rfl
theorem aft6 (c : Dev nD) (t : Fin cfg0.N) : (dats m 0 c).after 6 t = outQ m c t := rfl
theorem aft7 (c : Dev nD) (t : Fin cfg0.N) : (dats m 0 c).after 7 t = outD m c t := rfl

theorem sound_body (c : Dev nD) (t : Fin cfg0.N) :
    bodyPre m c t ⊢ wp frame (wpE (defs₀ (F := F)) Variants.none c none) Set.univ (bodyAt0 t) (fun _ => bodyPost m c t) := by
  unfold bodyPre bodyPost
  rewrite [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rewrite [aft0, aft1, aft2, aft3, aft4, aft5, aft6, aft7, bef0, bef1, bef2, bef3, bef4, bef5]
  iapply (sound_run m c t)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rewrite [bigSep_W0, bigSep_W0, defs₀_row]
  exact triple_restated (sound_body m c t) rfl .rfl fun _ => .rfl

set_option backward.isDefEq.respectTransparency.types false in
/-- Every execution ends, with the arrays as the proof data say and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Proof.Q

end
-- ==== Proof.Frames.lean ====
/- The three programs' frames: every execution ends with the arguments unchanged and every counter at zero. The run of the
   idealized program is written at any float values, so the program itself is that run at the bit-exact ones, where a
   named constant is its word. -/
module

public import proofs.«01_k».proof.Defs
public import proofs.«01_k».proof.Proof.Body
public import proofs.«01_k».proof.Proof.Gen.Kernel
public import proofs.«01_k».proof.Proof.Gen.ReferenceIdeal.Run
public import Idealize.ShloMosaic.Lib.Pipeline.Quiescent

@[expose] public section

set_option maxRecDepth 16384

noncomputable section

namespace Cert.Proof

open Idealize.ShloMosaic Idealize.SL.Sem

/-- The idealized program's frame at any float values. -/
theorem frame_q {F : FTy → Type} [FloatOps F] [Named F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  θ_run_with_sems (Cert.KernelIdeal.Gen.frame_of m ρ (Q.dats m) fun _ _ => rfl) (Q.run_main m ρ)

/-- At the bit-exact values a named constant is its word. -/
@[reducible] def namedBits : Named Bits where
  named _ _ {φ} bits := FloatOps.ofBits φ bits

/-- The two programs are the same text at those values. -/
theorem frame_p : Cert.quiescent_Kernel := by
  letI := namedBits
  have e : Cert.quiescent_Kernel = (∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) := by sl_kernel_rfl
  rw [e]
  exact fun m ρ _ => frame_q (F := Bits) m ρ

theorem frame_pi : Cert.quiescent_KernelIdeal := fun m ρ _ => frame_q m ρ

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Each named constant is the value its name stands for. -/
theorem preserves : Cert.preserves_Kernel_KernelIdeal :=
  ⟨IdealRules.named_const.statement _ _ _ _ _ rfl, IdealRules.named_const.statement _ _ _ _ _ rfl⟩

end Cert.Proof

end
-- ==== Proof.Pay.lean ====
/- What the body computes, read at one entry: the sum over one stretch of keys that each step adds to a row of the
   gradient, the row sums, and the final scaling. -/
module

public import proofs.«01_k».proof.Proof.Gen.KernelIdeal.Skeleton
public import Idealize.ShloMosaic.Lib.Pointwise

@[expose] public section

set_option maxRecDepth 16384

noncomputable section

namespace Cert.Proof.Q

open Cert.KernelIdeal Cert.KernelIdeal.Gen
open Idealize.ShloMosaic

/-- The scale of the scores in the exponent to base two, and the scale of the gradient. -/
def s2 : EReal := Named.named (F := Ideal) κ (φ := .f32) "s_log2e" 0x3E16C740#32
def s1 : EReal := Ideal.ofBits .f32 0x3DD105EC#32

/-- The product of one key's gradient of the scores: its probability (nothing at a masked key) times the difference of
    `do · v` and the row sum. -/
def tm (q dor : Fin 128 → EReal) (L D : EReal) (k v : Fin 128 → EReal) (b : Prop) [Decidable b] : EReal :=
  Ideal.exp2 ((if b then (∑ d, q d * k d) * s2 else ⊥) - L) * ((∑ d, dor d * v d) - D)

/-- A masked key adds nothing. -/
theorem tm_masked (q dor : Fin 128 → EReal) (L D : EReal) (k v : Fin 128 → EReal) (b : Prop) [Decidable b] (hb : ¬ b) (x : EReal) :
    tm q dor L D k v b * x = 0 := by
  unfold tm
  rw [if_neg hb, EReal.bot_sub, Ideal.exp2_bot, zero_mul, zero_mul]

theorem mask_bot : Named.named (F := Ideal) κ (φ := .f32) "mask" 0xF149F2CA#32 = (⊥ : EReal) :=
  IdealRules.named_const.ideal_named_scalar κ "mask" _ _ rfl

/-- The lanes of the first head are the first 64. -/
theorem sel_lo {α : Type} (d : Fin 128) (x y : α) :
    Scalar.select (IntOp.cmpi .slt (BitVec.ofNat 32 d.val) 64#32) x y = if d.val / 64 = (0 : Fin 2).val then x else y := by
  have h : ∀ d : Fin 128, IntOp.cmpi .slt (BitVec.ofNat 32 d.val) 64#32 = 1#1 ↔ d.val / 64 = (0 : Fin 2).val := by decide
  unfold Scalar.select
  exact if_congr (h d) rfl rfl

/-- The lanes of the second head are the last 64. -/
theorem sel_hi {α : Type} (d : Fin 128) (x y : α) :
    Scalar.select (IntOp.cmpi .sge (BitVec.ofNat 32 d.val) 64#32) x y = if d.val / 64 = (1 : Fin 2).val then x else y := by
  have h : ∀ d : Fin 128, IntOp.cmpi .sge (BitVec.ofNat 32 d.val) 64#32 = 1#1 ↔ d.val / 64 = (1 : Fin 2).val := by decide
  unfold Scalar.select
  exact if_congr (h d) rfl rfl

/-- The causal mask on key `A + x` and row `384 * i + r`, the words being small. -/
theorem sel_causal {α : Type} (A x i r : ℕ) (hA : A < 5000) (hx : x < 1000) (hi : i < 11) (hr : r < 384) (X Y : α) :
    Scalar.select (IntOp.cmpi .sle (IntOp.addi (BitVec.ofNat 32 A) (BitVec.ofNat 32 x))
      (IntOp.addi (Scalar.muli (BitVec.ofNat 32 i) 384#32) (BitVec.ofNat 32 r))) X Y = if A + x ≤ 384 * i + r then X else Y := by
  have e1 : IntOp.addi (BitVec.ofNat 32 A) (BitVec.ofNat 32 x) = BitVec.ofNat 32 (A + x) := by
    rw [BitVec.ofNat_add]; rfl
  have e2 : IntOp.addi (Scalar.muli (BitVec.ofNat 32 i) 384#32) (BitVec.ofNat 32 r) = BitVec.ofNat 32 (384 * i + r) := by
    rw [BitVec.ofNat_add, Nat.mul_comm, BitVec.ofNat_mul]; rfl
  rw [e1, e2]
  unfold Scalar.select
  refine if_congr ?_ rfl rfl
  have t : ∀ n : ℕ, n < 20000 → (BitVec.ofNat 32 n).toInt = (n : ℤ) := fun n hn => by

    have e : (BitVec.ofNat 32 n).toNat = n := by rw [BitVec.toNat_ofNat]; omega
    rw [BitVec.toInt_eq_toNat_of_lt (by omega), e]
  refine (IntOp.cmpi_sle).trans ?_
  rw [t _ (by omega), t _ (by omega)]
  omega

section steps

variable (v10 v28 v18 v36 : FVec Ideal S384x1 .f32) (v15 v16 v33 v34 : FVec Ideal S384x128 .bf16) (v23 : Vec Ideal S384x128 .f32)
  (v32 : Vec Ideal S1x384x128 .bf16) (v35 : Vec Ideal S1x384x1 .f32) (acc : FVec Ideal S384x128 .f32) (r : Fin 384) (l : Fin 128)

/-- An unmasked step, first head. -/
theorem pay22_at (V : Vec Ideal S768x128 .bf16) (K : Vec Ideal S1x768x128 .bf16) :
    k0_pay22 v10 v15 v16 v18 acc V K (ix2 r l) = acc (ix2 r l) + ∑ j : Fin 768,
      tm (fun d => v15 (ix2 r d)) (fun d => v16 (ix2 r d)) (v18 (ix2 r 0)) (v10 (ix2 r 0)) (fun d => K (ix3 0 j d)) (fun d => V (ix2 j d)) True
        * K (ix3 0 j l) := by
  pointwise [k0_pay22]
  simp only [tm, if_true]
  rfl

/-- An unmasked step, second head. -/
theorem pay23_at (V : Vec Ideal S768x128 .bf16) (K : Vec Ideal S1x768x128 .bf16) :
    k0_pay23 v23 v28 v32 v35 acc V K (ix2 r l) = acc (ix2 r l) + ∑ j : Fin 768,
      tm (fun d => v32 (ix3 0 r d)) (fun d => v23 (ix2 r d)) (v35 (ix3 0 r 0)) (v28 (ix2 r 0)) (fun d => K (ix3 0 j d)) (fun d => V (ix2 j d)) True
        * K (ix3 0 j l) := by
  pointwise [k0_pay23, k0_pay18, k0_pay19, k0_pay20]
  simp only [tm, if_true]
  rfl

variable (A i : ℕ) (hA : A < 5000) (hi : i < 11)

include hA hi

/-- The masked step, one tile of keys wide, first head. -/
theorem pay1_at (V : Vec Ideal S384x128 .bf16) (K : Vec Ideal S1x384x128 .bf16) :
    k0_pay1 (BitVec.ofNat 32 i) v10 v15 v16 v18 acc (BitVec.ofNat 32 A) V K (ix2 r l) = acc (ix2 r l) + ∑ j : Fin 384,
      tm (fun d => v15 (ix2 r d)) (fun d => v16 (ix2 r d)) (v18 (ix2 r 0)) (v10 (ix2 r 0)) (fun d => K (ix3 0 j d)) (fun d => V (ix2 j d))
        (A + j.val ≤ 384 * i + r.val) * K (ix3 0 j l) := by
  pointwise [k0_pay1]
  congr 1
  refine Finset.sum_congr rfl fun j _ => ?_
  rw [sel_causal A j.val i r.val hA (by omega) hi r.isLt, mask_bot]
  rfl

/-- The masked step, two tiles of keys wide, first head. -/
theorem pay5_at (V : Vec Ideal S768x128 .bf16) (K : Vec Ideal S1x768x128 .bf16) :
    k0_pay5 (BitVec.ofNat 32 i) v10 v15 v16 v18 acc (BitVec.ofNat 32 A) V K (ix2 r l) = acc (ix2 r l) + ∑ j : Fin 768,
      tm (fun d => v15 (ix2 r d)) (fun d => v16 (ix2 r d)) (v18 (ix2 r 0)) (v10 (ix2 r 0)) (fun d => K (ix3 0 j d)) (fun d => V (ix2 j d))
        (A + j.val ≤ 384 * i + r.val) * K (ix3 0 j l) := by
  pointwise [k0_pay5]
  congr 1
  refine Finset.sum_congr rfl fun j _ => ?_
  rw [sel_causal A j.val i r.val hA (by omega) hi r.isLt, mask_bot]
  rfl

/-- The masked step, one tile of keys wide, second head. -/
theorem pay26_at (V : Vec Ideal S384x128 .bf16) (K : Vec Ideal S1x384x128 .bf16) :
    k0_pay26 v28 v34 acc V (k0_pay2 K) (k0_pay3 (BitVec.ofNat 32 i) v33 (BitVec.ofNat 32 A) K) (k0_pay4 v36) (ix2 r l) = acc (ix2 r l) + ∑ j : Fin 384,
      tm (fun d => v33 (ix2 r d)) (fun d => v34 (ix2 r d)) (v36 (ix2 r 0)) (v28 (ix2 r 0)) (fun d => K (ix3 0 j d)) (fun d => V (ix2 j d))
        (A + j.val ≤ 384 * i + r.val) * K (ix3 0 j l) := by
  pointwise [k0_pay26, k0_pay2, k0_pay3, k0_pay4]
  congr 1
  refine Finset.sum_congr rfl fun j _ => ?_
  rw [sel_causal A j.val i r.val hA (by omega) hi r.isLt, mask_bot]
  rfl

/-- The masked step, two tiles of keys wide, second head. -/
theorem pay27_at (V : Vec Ideal S768x128 .bf16) (K : Vec Ideal S1x768x128 .bf16) :
    k0_pay27 v28 v34 acc V (k0_pay6 K) (k0_pay7 (BitVec.ofNat 32 i) v33 (BitVec.ofNat 32 A) K) (k0_pay8 v36) (ix2 r l) = acc (ix2 r l) + ∑ j : Fin 768,
      tm (fun d => v33 (ix2 r d)) (fun d => v34 (ix2 r d)) (v36 (ix2 r 0)) (v28 (ix2 r 0)) (fun d => K (ix3 0 j d)) (fun d => V (ix2 j d))
        (A + j.val ≤ 384 * i + r.val) * K (ix3 0 j l) := by
  pointwise [k0_pay27, k0_pay6, k0_pay7, k0_pay8]
  congr 1
  refine Finset.sum_congr rfl fun j _ => ?_
  rw [sel_causal A j.val i r.val hA (by omega) hi r.isLt, mask_bot]
  rfl

end steps

section ends

variable (x y : Vec Ideal S384x128 .f32) (r : Fin 384) (d l : Fin 128)

/-- One head's lanes of a row. -/
def own (h : Fin 2) (f : Fin 128 → EReal) (d : Fin 128) : EReal := if d.val / 64 = h.val then f d else 0

/-- The row sum of `dy · y` over one head's lanes. -/
def rs (h : Fin 2) (f g : Fin 128 → EReal) : EReal := ∑ d, own h f d * g d

theorem pay13_at : k0_pay13 x (ix2 r d) = own 0 (fun d => x (ix2 r d)) d := by
  pointwise [k0_pay13, k0_pay9]
  exact sel_lo d _ _
theorem pay15_at : k0_pay15 x (ix2 r d) = own 1 (fun d => x (ix2 r d)) d := by
  pointwise [k0_pay15]
  exact sel_hi d _ _
theorem pay19_at : k0_pay19 x (ix2 r d) = x (ix2 r d) := by
  pointwise [k0_pay19]
theorem pay10_at : k0_pay10 x y (ix2 r 0) = rs 0 (fun d => x (ix2 r d)) (fun d => y (ix2 r d)) := by
  pointwise [k0_pay10, k0_pay9]
  refine Finset.sum_congr rfl fun d _ => ?_
  rw [sel_lo d]; unfold own; split <;> simp
theorem pay16_at : k0_pay16 x y (ix2 r 0) = rs 1 (fun d => x (ix2 r d)) (fun d => y (ix2 r d)) := by
  pointwise [k0_pay16, k0_pay15]
  refine Finset.sum_congr rfl fun d _ => ?_
  rw [sel_hi d]; unfold own; split <;> simp
theorem pay11_at : k0_pay11 x y (ix3 0 r 0) = rs 0 (fun d => x (ix2 r d)) (fun d => y (ix2 r d)) := by
  rw [← pay10_at]
  pointwise [k0_pay11]
theorem pay17_at (v : FVec Ideal S384x1 .f32) : k0_pay17 v (ix3 0 r 0) = v (ix2 r 0) := by
  pointwise [k0_pay17]
theorem pay12_at (v : Vec Ideal S1x384x128 .bf16) : k0_pay12 v (ix2 r l) = v (ix3 0 r l) := by
  pointwise [k0_pay12]
theorem pay18_at (v : Vec Ideal S1x384x128 .bf16) : k0_pay18 v (ix2 r l) = v (ix3 0 r l) := by
  pointwise [k0_pay18]
theorem pay14_at (v : Vec Ideal S1x384x1 .f32) : k0_pay14 v (ix2 r 0) = v (ix3 0 r 0) := by
  pointwise [k0_pay14]
theorem pay20_at (v : Vec Ideal S1x384x1 .f32) : k0_pay20 v (ix2 r 0) = v (ix3 0 r 0) := by
  pointwise [k0_pay20]
theorem pay21_at : k0_pay21 (F := Ideal) (ix2 r l) = 0 := by
  pointwise [k0_pay21]
theorem pay28_at (x : FVec Ideal S384x128 .f32) : k0_pay28 x (ix3 0 r l) = x (ix2 r l) * s1 := by
  pointwise [k0_pay28]
  rfl
theorem pay29_at (x : FVec Ideal S384x128 .f32) : k0_pay29 x (ix3 0 r l) = x (ix2 r l) * s1 := by
  pointwise [k0_pay29]
  rfl

end ends

end Cert.Proof.Q

end
-- ==== Proof.Block.lean ====
/- What the body leaves in its two blocks, at an entry, as a function of its input blocks. -/
module

public import proofs.«01_k».proof.Proof.Body
public import proofs.«01_k».proof.Proof.Pay
public import Idealize.ShloMosaic.Lib.Pipeline.ValueKit

@[expose] public section

set_option maxRecDepth 16384

noncomputable section

namespace Cert.Proof.Q

open Cert.KernelIdeal Cert.KernelIdeal.Gen
open Idealize.ShloMosaic Idealize.ShloMosaic.TcCoe

/-! ### The grid's numbers -/

/-- The first key of the last stretch, as the body computes it. -/
abbrev stretch (i : grid0.Coords) : BitVec 32 := Scalar.muli (runA.sl.v79 i) 384#32

theorem stretch_eq : ∀ t : Fin grid0.N, stretch (grid0.coords t) = BitVec.ofNat 32 (768 * ((grid0.coords t 1).val / 2)) := by decide +kernel
theorem trips1 : ∀ t : Fin grid0.N, (k0_t1_loop (grid0.coords t)).trips = (grid0.coords t 1).val / 2 := by decide +kernel
theorem trips2 : ∀ t : Fin grid0.N, (k0_t2_loop (grid0.coords t)).trips = 0 := by decide +kernel
theorem even_of : ∀ t : Fin grid0.N, k0_cond1 (grid0.coords t) = 1#1 → (grid0.coords t 1).val % 2 = 0 := by decide +kernel
theorem odd_of : ∀ t : Fin grid0.N, ¬ k0_cond1 (grid0.coords t) = 1#1 → (grid0.coords t 1).val % 2 = 1 := by decide +kernel

theorem k0_off7_eq : ∀ t : Fin grid0.N, k0_off7 (grid0.coords t) = ![768 * ((grid0.coords t 1).val / 2), 0] := by decide +kernel
theorem k0_off8_eq : ∀ t : Fin grid0.N, k0_off8 (grid0.coords t) = ![0, 768 * ((grid0.coords t 1).val / 2), 0] := by decide +kernel
theorem k0_off9_eq : ∀ t : Fin grid0.N, k0_off9 (grid0.coords t) = ![1, 768 * ((grid0.coords t 1).val / 2), 0] := by decide +kernel
theorem k0_off10_eq : ∀ t : Fin grid0.N, k0_off10 (grid0.coords t) = ![768 * ((grid0.coords t 1).val / 2), 0] := by decide +kernel
theorem k0_off11_eq : ∀ t : Fin grid0.N, k0_off11 (grid0.coords t) = ![0, 768 * ((grid0.coords t 1).val / 2), 0] := by decide +kernel
theorem k0_off12_eq : ∀ t : Fin grid0.N, k0_off12 (grid0.coords t) = ![1, 768 * ((grid0.coords t 1).val / 2), 0] := by decide +kernel
theorem k0_off1_eq : ∀ (t : Fin grid0.N) (k : Fin (k0_t1_loop (grid0.coords t)).trips), k0_off1 (grid0.coords t) k = ![768 * k.val, 0] := by decide +kernel
theorem k0_off2_eq : ∀ (t : Fin grid0.N) (k : Fin (k0_t1_loop (grid0.coords t)).trips), k0_off2 (grid0.coords t) k = ![0, 768 * k.val, 0] := by decide +kernel
theorem k0_off3_eq : ∀ (t : Fin grid0.N) (k : Fin (k0_t1_loop (grid0.coords t)).trips), k0_off3 (grid0.coords t) k = ![1, 768 * k.val, 0] := by decide +kernel

/-! ### Loads and stores at an entry -/

/-- Key `j` of a head's keys, and of the values. -/
def kk (x3 : Vec Ideal S2x4224x128 .bf16) (h : Fin 2) (j : ℕ) (d : Fin 128) : EReal := if hj : j < 4224 then x3 (ix3 h ⟨j, hj⟩ d) else 0
def vk (x4 : Vec Ideal S4224x128 .bf16) (j : ℕ) (d : Fin 128) : EReal := if hj : j < 4224 then x4 (ix2 ⟨j, hj⟩ d) else 0

theorem ldV {n : ℕ} (x4 : Vec Ideal S4224x128 .bf16) (off : Fin 2 → ℕ) (a : ℕ) (ho : off = ![a, 0])
    (inb : ∀ b, off b + (![n, 128] : Fin 2 → ℕ) b ≤ S4224x128.size b) (j : Fin n) (d : Fin 128) :
    View.ld x4 (Rect.unit (s := S4224x128) off ![n, 128] inb) (ix2 j d) = vk x4 (a + j.val) d := by
  subst ho
  have h0 : a + n ≤ 4224 := inb 0
  unfold vk
  rw [dif_pos (by omega)]
  exact View.ld_unit_apply_of x4 _ _ inb _ (ix2 ⟨a + j.val, by omega⟩ d) (fun b => by fin_cases b <;> simp [ix2])

theorem ldK {n : ℕ} (x3 : Vec Ideal S2x4224x128 .bf16) (off : Fin 3 → ℕ) (h : Fin 2) (a : ℕ) (ho : off = ![h.val, a, 0])
    (inb : ∀ b, off b + (![1, n, 128] : Fin 3 → ℕ) b ≤ S2x4224x128.size b) (j : Fin n) (d : Fin 128) :
    View.ld x3 (Rect.unit (s := S2x4224x128) off ![1, n, 128] inb) (ix3 0 j d) = kk x3 h (a + j.val) d := by
  subst ho
  have h0 : a + n ≤ 4224 := inb 1
  unfold kk
  rw [dif_pos (by omega)]
  exact View.ld_unit_apply_of x3 _ _ inb _ (ix3 h ⟨a + j.val, by omega⟩ d) (fun b => by fin_cases b <;> simp [ix3])

/-- One head of a block of two. -/
theorem ldH {n : ℕ} {e : EltTy} (x : Vec Ideal ⟨3, ![2, 384, n]⟩ e) (off : Fin 3 → ℕ) (h : Fin 2) (ho : off = ![h.val, 0, 0])
    (inb : ∀ b, off b + (![1, 384, n] : Fin 3 → ℕ) b ≤ (⟨3, ![2, 384, n]⟩ : Shape).size b) (j : Fin 384) (d : Fin n) :
    View.ld x (Rect.unit (s := ⟨3, ![2, 384, n]⟩) off ![1, 384, n] inb) (ix3 0 j d) = x (ix3 h j d) := by
  subst ho
  exact View.ld_unit_apply_of x _ _ inb _ (ix3 h j d) (fun b => by fin_cases b <;> simp [ix3])

/-- The two heads' stores, read back. -/
theorem canon_fst {n : ℕ} (w1 w0 : Vec Ideal ⟨3, ![1, 384, n]⟩ .f32) (i1) (i0) (r : Fin 384) (l : Fin n) :
    View.canon [(⟨Rect.unit (s := ⟨3, ![2, 384, n]⟩) ![1, 0, 0] ![1, 384, n] i1, w1⟩ : View.Piece (Elt Ideal) ⟨3, ![2, 384, n]⟩ .f32),
      ⟨Rect.unit (s := ⟨3, ![2, 384, n]⟩) ![0, 0, 0] ![1, 384, n] i0, w0⟩] (ix3 0 r l) = w0 (ix3 0 r l) := by
  rw [View.canon_cons_of_not_mem]
  · have e : (ix3 0 r l : (⟨3, ![2, 384, n]⟩ : Shape).Idx) = (Rect.unit (s := ⟨3, ![2, 384, n]⟩) ![0, 0, 0] ![1, 384, n] i0).emb (ix3 0 r l) := by
      funext b; apply Fin.ext
      refine Eq.trans ?_ (Rect.idx_unit_val _ _ i0 (ix3 0 r l) b).symm
      fin_cases b <;> simp [ix3]
    rw [e, View.canon_cons_emb]
  · rw [Rect.mem_set_unit]
    intro hh
    exact absurd (hh 0).1 (by decide : ¬ (1 ≤ 0))

theorem canon_snd {n : ℕ} (w1 w0 : Vec Ideal ⟨3, ![1, 384, n]⟩ .f32) (i1) (i0) (r : Fin 384) (l : Fin n) :
    View.canon [(⟨Rect.unit (s := ⟨3, ![2, 384, n]⟩) ![1, 0, 0] ![1, 384, n] i1, w1⟩ : View.Piece (Elt Ideal) ⟨3, ![2, 384, n]⟩ .f32),
      ⟨Rect.unit (s := ⟨3, ![2, 384, n]⟩) ![0, 0, 0] ![1, 384, n] i0, w0⟩] (ix3 1 r l) = w1 (ix3 0 r l) := by
  have e : (ix3 1 r l : (⟨3, ![2, 384, n]⟩ : Shape).Idx) = (Rect.unit (s := ⟨3, ![2, 384, n]⟩) ![1, 0, 0] ![1, 384, n] i1).emb (ix3 0 r l) := by
    funext b; apply Fin.ext
    refine Eq.trans ?_ (Rect.idx_unit_val _ _ i1 (ix3 0 r l) b).symm
    fin_cases b <;> simp [ix3]
  rw [e, View.canon_cons_emb]

/-! ### The sum over the keys -/

/-- What key `j` adds to entry `l` of row `r` of a head's gradient, in row tile `i`. -/
def T (x2 : Vec Ideal S2x384x128 .bf16) (x3 : Vec Ideal S2x4224x128 .bf16) (x4 : Vec Ideal S4224x128 .bf16) (x5 x6 : Vec Ideal S384x128 .f32) (x7 : Vec Ideal S2x384x1 .f32) (i : ℕ) (h : Fin 2) (r : Fin 384) (l : Fin 128) (j : ℕ) : EReal :=
  tm (fun d => x2 (ix3 h r d)) (own h fun d => x5 (ix2 r d)) (x7 (ix3 h r 0)) (rs h (fun d => x5 (ix2 r d)) fun d => x6 (ix2 r d)) (kk x3 h j) (vk x4 j)
    (j ≤ 384 * i + r.val) * kk x3 h j l

/-- Keys in whole stretches before the diagonal, and the stretch that holds it, are all the keys: the others add nothing. -/
theorem close (x2 : Vec Ideal S2x384x128 .bf16) (x3 : Vec Ideal S2x4224x128 .bf16) (x4 : Vec Ideal S4224x128 .bf16) (x5 x6 : Vec Ideal S384x128 .f32) (x7 : Vec Ideal S2x384x1 .f32) (i : ℕ) (h : Fin 2) (r : Fin 384) (l : Fin 128) (w A : ℕ)
    (hA : A ≤ 384 * i) (hw : 384 * i + 384 ≤ A + w) (hB : A + w ≤ 4224) :
    (∑ j ∈ Finset.range A, tm (fun d => x2 (ix3 h r d)) (own h fun d => x5 (ix2 r d)) (x7 (ix3 h r 0)) (rs h (fun d => x5 (ix2 r d)) fun d => x6 (ix2 r d)) (kk x3 h j) (vk x4 j) True * kk x3 h j l)
      + ∑ j : Fin w, tm (fun d => x2 (ix3 h r d)) (own h fun d => x5 (ix2 r d)) (x7 (ix3 h r 0)) (rs h (fun d => x5 (ix2 r d)) fun d => x6 (ix2 r d)) (kk x3 h (A + j.val)) (vk x4 (A + j.val))
          (A + j.val ≤ 384 * i + r.val) * kk x3 h (A + j.val) l
      = ∑ j ∈ Finset.range 4224, T x2 x3 x4 x5 x6 x7 i h r l j := by
  have e1 : ∀ j ∈ Finset.range A, tm (fun d => x2 (ix3 h r d)) (own h fun d => x5 (ix2 r d)) (x7 (ix3 h r 0)) (rs h (fun d => x5 (ix2 r d)) fun d => x6 (ix2 r d)) (kk x3 h j) (vk x4 j) True * kk x3 h j l
      = T x2 x3 x4 x5 x6 x7 i h r l j := fun j hj => by
    have hj := Finset.mem_range.mp hj
    unfold T tm
    rw [if_pos trivial, if_pos (by omega)]
  rw [Finset.sum_congr rfl e1]
  refine (congrArg _ (show _ = ∑ j : Fin w, T x2 x3 x4 x5 x6 x7 i h r l (A + j.val) from rfl)).trans ?_
  rw [Fin.sum_univ_eq_sum_range (fun x => T x2 x3 x4 x5 x6 x7 i h r l (A + x)) w, ← Finset.sum_range_add]
  refine Finset.sum_subset (fun j hj => ?_) (fun j _ hj => ?_)
  · have := Finset.mem_range.mp hj
    exact Finset.mem_range.mpr (by omega)
  · have : ¬ j < A + w := fun hlt => hj (Finset.mem_range.mpr hlt)
    exact tm_masked _ _ _ _ _ _ _ (by omega) _

/-! ### The loop over the unmasked stretches -/

section loop

variable (c : Dev nD) (t : Fin grid0.N)
    (arg2 : Memref sig .tc .vmem S2x384x128 .bf16) (harg2 : arg2.IsWhole) (arg3 : Memref sig .tc .vmem S2x4224x128 .bf16) (harg3 : arg3.IsWhole)
    (arg4 : Memref sig .tc .vmem S4224x128 .bf16) (harg4 : arg4.IsWhole) (arg5 : Memref sig .tc .vmem S384x128 .f32) (harg5 : arg5.IsWhole)
    (arg6 : Memref sig .tc .vmem S384x128 .f32) (harg6 : arg6.IsWhole) (arg7 : Memref sig .tc .vmem S2x384x1 .f32) (harg7 : arg7.IsWhole)
    (arg8 : Memref sig .tc .vmem S2x384x128 .f32) (harg8 : arg8.IsWhole) (arg9 : Memref sig .tc .vmem S2x384x1 .f32) (harg9 : arg9.IsWhole)
    (a1 : BitVec 32) (v10 : FVec Ideal S384x1 .f32) (v15 v16 : FVec Ideal S384x128 .bf16) (v18 : FVec Ideal S384x1 .f32) (v23 : Vec Ideal S384x128 .f32)
    (v28 : FVec Ideal S384x1 .f32) (v32 : Vec Ideal S1x384x128 .bf16) (v35 : Vec Ideal S1x384x1 .f32)
    (x3 : Vec Ideal S2x4224x128 .bf16) (x4 : Vec Ideal S4224x128 .bf16) (init : FVec Ideal S384x128 .f32 × FVec Ideal S384x128 .f32)

theorem trip1 (X3 : BufTy.Contents (Elt Ideal) arg3.view.ty) (X4 : BufTy.Contents (Elt Ideal) arg4.view.ty) (k : Fin (k0_t1_loop (grid0.coords t)).trips) (acc : FVec Ideal S384x128 .f32 × FVec Ideal S384x128 .f32) :
    tripR_k0_t1 Variants.none c none (grid0.coords t) arg2 harg2 arg3 harg3 arg4 harg4 arg5 harg5 arg6 harg6 arg7 harg7 arg8 harg8 arg9 harg9 a1 v10 v15 v16 v18 v23 v28 v32 v35 X3 X4 k acc
      = (k0_pay22 v10 v15 v16 v18 acc.1 (View.readAt (Elt Ideal) arg4.view (Rect.unit (s := S4224x128) (k0_off1 (grid0.coords t) k) S768x128.size (k0_off1_inb (grid0.coords t) k)).toLoadRect X4)
            (View.readAt (Elt Ideal) arg3.view (Rect.unit (s := S2x4224x128) (k0_off2 (grid0.coords t) k) S1x768x128.size (k0_off2_inb (grid0.coords t) k)).toLoadRect X3),
          k0_pay23 v23 v28 v32 v35 acc.2 (View.readAt (Elt Ideal) arg4.view (Rect.unit (s := S4224x128) (k0_off1 (grid0.coords t) k) S768x128.size (k0_off1_inb (grid0.coords t) k)).toLoadRect X4)
            (View.readAt (Elt Ideal) arg3.view (Rect.unit (s := S2x4224x128) (k0_off3 (grid0.coords t) k) S1x768x128.size (k0_off3_inb (grid0.coords t) k)).toLoadRect X3)) := by
  unfold tripR_k0_t1 trip_k0_t1; rfl

theorem loop1 (n : ℕ) (hn : n ≤ (k0_t1_loop (grid0.coords t)).trips) (r : Fin 384) (l : Fin 128) :
    (st_k0_t1 Variants.none c none (grid0.coords t) arg2 harg2 arg3 harg3 arg4 harg4 arg5 harg5 arg6 harg6 arg7 harg7 arg8 harg8 arg9 harg9 a1 v10 v15 v16 v18 v23 v28 v32 v35 (harg3.unread x3) (harg4.unread x4) init n).1 (ix2 r l)
        = init.1 (ix2 r l) + ∑ j ∈ Finset.range (768 * n),
          tm (fun d => v15 (ix2 r d)) (fun d => v16 (ix2 r d)) (v18 (ix2 r 0)) (v10 (ix2 r 0)) (kk x3 0 j) (vk x4 j) True * kk x3 0 j l
    ∧ (st_k0_t1 Variants.none c none (grid0.coords t) arg2 harg2 arg3 harg3 arg4 harg4 arg5 harg5 arg6 harg6 arg7 harg7 arg8 harg8 arg9 harg9 a1 v10 v15 v16 v18 v23 v28 v32 v35 (harg3.unread x3) (harg4.unread x4) init n).2 (ix2 r l)
        = init.2 (ix2 r l) + ∑ j ∈ Finset.range (768 * n),
          tm (fun d => v32 (ix3 0 r d)) (fun d => v23 (ix2 r d)) (v35 (ix3 0 r 0)) (v28 (ix2 r 0)) (kk x3 1 j) (vk x4 j) True * kk x3 1 j l := by
  induction n with
  | zero => rw [st_k0_t1_zero]; simp
  | succ n ih =>
    obtain ⟨ih1, ih2⟩ := ih (by omega)
    rw [st_k0_t1_succ _ _ _ _ _ _ _ _ _ _ _ _ _ _ _ _ _ _ _ _ _ _ _ _ _ _ _ _ _ _ _ _ (⟨n, hn⟩ : Fin (k0_t1_loop (grid0.coords t)).trips), trip1]
    dsimp only
    rw [pay22_at, pay23_at, ih1, ih2, Nat.mul_succ, Finset.sum_range_add, Finset.sum_range_add, add_assoc, add_assoc]
    simp only [View.readAt_eq_ld, Memref.IsWhole.read_unread]
    constructor
    · congr 2
      rw [← Fin.sum_univ_eq_sum_range (fun x => tm (fun d => v15 (ix2 r d)) (fun d => v16 (ix2 r d)) (v18 (ix2 r 0)) (v10 (ix2 r 0)) (kk x3 0 (768 * n + x)) (vk x4 (768 * n + x)) True * kk x3 0 (768 * n + x) l) 768]
      refine Finset.sum_congr rfl fun j _ => ?_
      congr 1
      · congr 1
        · exact funext fun d => ldK x3 _ 0 _ (k0_off2_eq t ⟨n, hn⟩) _ j d
        · exact funext fun d => ldV x4 _ _ (k0_off1_eq t ⟨n, hn⟩) _ j d
      · exact ldK x3 _ 0 _ (k0_off2_eq t ⟨n, hn⟩) _ j l
    · congr 2
      rw [← Fin.sum_univ_eq_sum_range (fun x => tm (fun d => v32 (ix3 0 r d)) (fun d => v23 (ix2 r d)) (v35 (ix3 0 r 0)) (v28 (ix2 r 0)) (kk x3 1 (768 * n + x)) (vk x4 (768 * n + x)) True * kk x3 1 (768 * n + x) l) 768]
      refine Finset.sum_congr rfl fun j _ => ?_
      congr 1
      · congr 1
        · exact funext fun d => ldK x3 _ 1 _ (k0_off3_eq t ⟨n, hn⟩) _ j d
        · exact funext fun d => ldV x4 _ _ (k0_off1_eq t ⟨n, hn⟩) _ j d
      · exact ldK x3 _ 1 _ (k0_off3_eq t ⟨n, hn⟩) _ j l

end loop

section cases

variable (c : Dev nD) (t : Fin grid0.N)
    (arg2 : Memref sig .tc .vmem S2x384x128 .bf16) (harg2 : arg2.IsWhole) (arg3 : Memref sig .tc .vmem S2x4224x128 .bf16) (harg3 : arg3.IsWhole)
    (arg4 : Memref sig .tc .vmem S4224x128 .bf16) (harg4 : arg4.IsWhole) (arg5 : Memref sig .tc .vmem S384x128 .f32) (harg5 : arg5.IsWhole)
    (arg6 : Memref sig .tc .vmem S384x128 .f32) (harg6 : arg6.IsWhole) (arg7 : Memref sig .tc .vmem S2x384x1 .f32) (harg7 : arg7.IsWhole)
    (arg8 : Memref sig .tc .vmem S2x384x128 .f32) (harg8 : arg8.IsWhole) (arg9 : Memref sig .tc .vmem S2x384x1 .f32) (harg9 : arg9.IsWhole)
    (x2 : Vec Ideal S2x384x128 .bf16) (x3 : Vec Ideal S2x4224x128 .bf16) (x4 : Vec Ideal S4224x128 .bf16) (x5 x6 : Vec Ideal S384x128 .f32) (x7 : Vec Ideal S2x384x1 .f32)

theorem e5 : (View.readAt (Elt Ideal) arg5.view (Rect.unit (s := S384x128) ![0, 0] S384x128.size inb_S384x128_S384x128_0_0).toLoadRect (harg5.unread x5)) = x5 := by
  rw [View.readAt_eq_ld, Memref.IsWhole.read_unread]; exact View.ld_unit_lit (S := S384x128) _ x5 (by decide)
theorem e6 : (View.readAt (Elt Ideal) arg6.view (Rect.unit (s := S384x128) ![0, 0] S384x128.size inb_S384x128_S384x128_0_0).toLoadRect (harg6.unread x6)) = x6 := by
  rw [View.readAt_eq_ld, Memref.IsWhole.read_unread]; exact View.ld_unit_lit (S := S384x128) _ x6 (by decide)

set_option maxHeartbeats 2000000 in
/-- What the run with a last stretch 384 keys wide stores: the loop's result for each head, with that stretch added. -/
theorem outA_eq (hc : k0_cond1 (grid0.coords t) = 1#1) : (runA c (grid0.coords t) hc arg2 harg2 arg3 harg3 arg4 harg4 arg5 harg5 arg6 harg6 arg7 harg7 arg8 harg8 arg9 harg9 x2 x3 x4 x5 x6 x7).1.1 =
    [⟨Rect.unit ![1, 0, 0] S1x384x128.size inb_S2x384x128_S1x384x128_1_0_0,
        k0_pay29 (k0_pay26 (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay19 (k0_pay15 (View.readAt (Elt Ideal) arg5.view (Rect.unit (s := S384x128) ![0, 0] S384x128.size inb_S384x128_S384x128_0_0).toLoadRect (harg5.unread x5)))) (st_k0_t2 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) ((st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).1, (st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).2) (k0_t2_loop (grid0.coords t)).trips).2 (View.readAt (Elt Ideal) arg4.view (Rect.unit (s := S4224x128) (k0_off7 (grid0.coords t)) S384x128.size (k0_off7_inb (grid0.coords t) hc)).toLoadRect (harg4.unread x4)) (k0_pay2 (View.readAt (Elt Ideal) arg3.view (Rect.unit (s := S2x4224x128) (k0_off9 (grid0.coords t)) S1x384x128.size (k0_off9_inb (grid0.coords t) hc)).toLoadRect (harg3.unread x3)))
          (k0_pay3 (BitVec.ofNat 32 (grid0.coords t 1).val) (k0_pay18 (View.readAt (Elt Ideal) arg2.view (Rect.unit (s := S2x384x128) ![1, 0, 0] S1x384x128.size inb_S2x384x128_S1x384x128_1_0_0).toLoadRect (harg2.unread x2))) (stretch (grid0.coords t)) (View.readAt (Elt Ideal) arg3.view (Rect.unit (s := S2x4224x128) (k0_off9 (grid0.coords t)) S1x384x128.size (k0_off9_inb (grid0.coords t) hc)).toLoadRect (harg3.unread x3))) (k0_pay4 (k0_pay20 (View.readAt (Elt Ideal) arg7.view (Rect.unit (s := S2x384x1) ![1, 0, 0] S1x384x1.size inb_S2x384x1_S1x384x1_1_0_0).toLoadRect (harg7.unread x7)))))⟩,
      ⟨Rect.unit ![0, 0, 0] S1x384x128.size inb_S2x384x128_S1x384x128_0_0_0,
        k0_pay28 (k0_pay1 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (st_k0_t2 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) ((st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).1, (st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).2) (k0_t2_loop (grid0.coords t)).trips).1 (stretch (grid0.coords t)) (View.readAt (Elt Ideal) arg4.view (Rect.unit (s := S4224x128) (k0_off7 (grid0.coords t)) S384x128.size (k0_off7_inb (grid0.coords t) hc)).toLoadRect (harg4.unread x4)) (View.readAt (Elt Ideal) arg3.view (Rect.unit (s := S2x4224x128) (k0_off8 (grid0.coords t)) S1x384x128.size (k0_off8_inb (grid0.coords t) hc)).toLoadRect (harg3.unread x3)))⟩] := rfl

/-- The same at an entry: all the keys up to the row. -/
theorem outA_at (hc : k0_cond1 (grid0.coords t) = 1#1) (h : Fin 2) (r : Fin 384) (l : Fin 128) :
    View.canon (runA c (grid0.coords t) hc arg2 harg2 arg3 harg3 arg4 harg4 arg5 harg5 arg6 harg6 arg7 harg7 arg8 harg8 arg9 harg9 x2 x3 x4 x5 x6 x7).1.1 (ix3 h r l)
      = (∑ j ∈ Finset.range 4224, T x2 x3 x4 x5 x6 x7 (grid0.coords t 1).val h r l j) * s1 := by
  have hi : (grid0.coords t 1).val < 11 := (grid0.coords t 1).isLt
  have hp := even_of t hc
  rw [outA_eq, e5, e6, stretch_eq t, trips2 t, trips1 t, st_k0_t2_zero]
  have L := fun a1 v10 v15 v16 v18 v23 v28 v32 v35 init => loop1 c t arg2 harg2 arg3 harg3 arg4 harg4 arg5 harg5 arg6 harg6 arg7 harg7 arg8 harg8 arg9 harg9 a1 v10 v15 v16 v18 v23 v28 v32 v35 x3 x4 init ((grid0.coords t 1).val / 2) (by rw [trips1 t]) r l
  obtain rfl | rfl : h = 0 ∨ h = 1 := by omega
  · rw [canon_fst, pay28_at, pay1_at _ _ _ _ _ _ _ _ _ (by omega) hi]
    dsimp only
    rw [(L _ _ _ _ _ _ _ _ _ _).1]; dsimp only; rw [pay21_at, zero_add, ← close x2 x3 x4 x5 x6 x7 _ 0 r l 384 (768 * ((grid0.coords t 1).val / 2)) (by omega) (by omega) (by omega)]
    have eV := fun j d => ldV (n := 384) x4 _ _ (k0_off7_eq t) (k0_off7_inb (grid0.coords t) hc) j d
    have eK := fun j d => ldK (n := 384) x3 _ 0 _ (k0_off8_eq t) (k0_off8_inb (grid0.coords t) hc) j d
    have eQ : ∀ d : Fin 128, View.ld x2 (Rect.unit (s := S2x384x128) ![0, 0, 0] ![1, 384, 128] inb_S2x384x128_S1x384x128_0_0_0) (ix3 0 r d) = x2 (ix3 0 r d) := fun d => ldH x2 _ 0 rfl inb_S2x384x128_S1x384x128_0_0_0 r d
    have eL : View.ld x7 (Rect.unit (s := S2x384x1) ![0, 0, 0] ![1, 384, 1] inb_S2x384x1_S1x384x1_0_0_0) (ix3 0 r 0) = x7 (ix3 0 r 0) := ldH x7 _ 0 rfl inb_S2x384x1_S1x384x1_0_0_0 r 0
    simp only [View.readAt_eq_ld, Memref.IsWhole.read_unread, pay10_at, pay12_at, pay13_at, pay14_at, eV, eK, eQ, eL]
  · rw [canon_snd, pay29_at, pay26_at _ _ _ _ _ _ _ _ _ (by omega) hi]
    dsimp only
    rw [(L _ _ _ _ _ _ _ _ _ _).2]; dsimp only; rw [pay21_at, zero_add, ← close x2 x3 x4 x5 x6 x7 _ 1 r l 384 (768 * ((grid0.coords t 1).val / 2)) (by omega) (by omega) (by omega)]
    have eV := fun j d => ldV (n := 384) x4 _ _ (k0_off7_eq t) (k0_off7_inb (grid0.coords t) hc) j d
    have eK := fun j d => ldK (n := 384) x3 _ 1 _ (k0_off9_eq t) (k0_off9_inb (grid0.coords t) hc) j d
    have eQ : ∀ d : Fin 128, View.ld x2 (Rect.unit (s := S2x384x128) ![1, 0, 0] ![1, 384, 128] inb_S2x384x128_S1x384x128_1_0_0) (ix3 0 r d) = x2 (ix3 1 r d) := fun d => ldH x2 _ 1 rfl inb_S2x384x128_S1x384x128_1_0_0 r d
    have eL : View.ld x7 (Rect.unit (s := S2x384x1) ![1, 0, 0] ![1, 384, 1] inb_S2x384x1_S1x384x1_1_0_0) (ix3 0 r 0) = x7 (ix3 1 r 0) := ldH x7 _ 1 rfl inb_S2x384x1_S1x384x1_1_0_0 r 0
    simp only [View.readAt_eq_ld, Memref.IsWhole.read_unread, pay16_at, pay18_at, pay19_at, pay15_at, pay20_at, eV, eK, eQ, eL]

/-- The row sums of the same run. -/
theorem outA_sum (hc : k0_cond1 (grid0.coords t) = 1#1) (h : Fin 2) (r : Fin 384) :
    View.canon (runA c (grid0.coords t) hc arg2 harg2 arg3 harg3 arg4 harg4 arg5 harg5 arg6 harg6 arg7 harg7 arg8 harg8 arg9 harg9 x2 x3 x4 x5 x6 x7).1.2 (ix3 h r 0) = rs h (fun d => x5 (ix2 r d)) fun d => x6 (ix2 r d) := by
  rw [show (runA c (grid0.coords t) hc arg2 harg2 arg3 harg3 arg4 harg4 arg5 harg5 arg6 harg6 arg7 harg7 arg8 harg8 arg9 harg9 x2 x3 x4 x5 x6 x7).1.2 =
    [⟨Rect.unit ![1, 0, 0] S1x384x1.size inb_S2x384x1_S1x384x1_1_0_0, k0_pay17 (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6)))⟩,
      ⟨Rect.unit ![0, 0, 0] S1x384x1.size inb_S2x384x1_S1x384x1_0_0_0, k0_pay11 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))⟩] from rfl, e5, e6]
  obtain rfl | rfl : h = 0 ∨ h = 1 := by omega
  · rw [canon_fst, pay11_at]
  · rw [canon_snd, pay17_at, pay16_at]

set_option maxHeartbeats 2000000 in
/-- What the run with a last stretch 768 keys wide stores: the loop's result for each head, with that stretch added. -/
theorem outB_eq (hc : ¬ k0_cond1 (grid0.coords t) = 1#1) : (runB c (grid0.coords t) hc arg2 harg2 arg3 harg3 arg4 harg4 arg5 harg5 arg6 harg6 arg7 harg7 arg8 harg8 arg9 harg9 x2 x3 x4 x5 x6 x7).1.1 =
    [⟨Rect.unit ![1, 0, 0] S1x384x128.size inb_S2x384x128_S1x384x128_1_0_0,
        k0_pay29 (k0_pay27 (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay19 (k0_pay15 (View.readAt (Elt Ideal) arg5.view (Rect.unit (s := S384x128) ![0, 0] S384x128.size inb_S384x128_S384x128_0_0).toLoadRect (harg5.unread x5)))) (st_k0_t2 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) ((st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).1, (st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).2) (k0_t2_loop (grid0.coords t)).trips).2 (View.readAt (Elt Ideal) arg4.view (Rect.unit (s := S4224x128) (k0_off10 (grid0.coords t)) S768x128.size (k0_off10_inb (grid0.coords t) hc)).toLoadRect (harg4.unread x4)) (k0_pay6 (View.readAt (Elt Ideal) arg3.view (Rect.unit (s := S2x4224x128) (k0_off12 (grid0.coords t)) S1x768x128.size (k0_off12_inb (grid0.coords t) hc)).toLoadRect (harg3.unread x3)))
          (k0_pay7 (BitVec.ofNat 32 (grid0.coords t 1).val) (k0_pay18 (View.readAt (Elt Ideal) arg2.view (Rect.unit (s := S2x384x128) ![1, 0, 0] S1x384x128.size inb_S2x384x128_S1x384x128_1_0_0).toLoadRect (harg2.unread x2))) (stretch (grid0.coords t)) (View.readAt (Elt Ideal) arg3.view (Rect.unit (s := S2x4224x128) (k0_off12 (grid0.coords t)) S1x768x128.size (k0_off12_inb (grid0.coords t) hc)).toLoadRect (harg3.unread x3))) (k0_pay8 (k0_pay20 (View.readAt (Elt Ideal) arg7.view (Rect.unit (s := S2x384x1) ![1, 0, 0] S1x384x1.size inb_S2x384x1_S1x384x1_1_0_0).toLoadRect (harg7.unread x7)))))⟩,
      ⟨Rect.unit ![0, 0, 0] S1x384x128.size inb_S2x384x128_S1x384x128_0_0_0,
        k0_pay28 (k0_pay5 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (st_k0_t2 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) ((st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).1, (st_k0_t1 Variants.none c none (grid0.coords t) arg2 harg2 arg3 harg3 arg4 harg4 arg5 harg5 arg6 harg6 arg7 harg7 arg8 harg8 arg9 harg9 (BitVec.ofNat 32 (grid0.coords t 1).val) (k0_pay10 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (k0_pay12 (View.readAt (Elt Ideal) arg2.view (Rect.unit (s := S2x384x128) ![0, 0, 0] S1x384x128.size inb_S2x384x128_S1x384x128_0_0_0).toLoadRect (harg2.unread x2))) (k0_pay13 (View.readAt (Elt Ideal) arg5.view (Rect.unit (s := S384x128) ![0, 0] S384x128.size inb_S384x128_S384x128_0_0).toLoadRect (harg5.unread x5))) (k0_pay14 (View.readAt (Elt Ideal) arg7.view (Rect.unit (s := S2x384x1) ![0, 0, 0] S1x384x1.size inb_S2x384x1_S1x384x1_0_0_0).toLoadRect (harg7.unread x7))) (k0_pay15 (View.readAt (Elt Ideal) arg5.view (Rect.unit (s := S384x128) ![0, 0] S384x128.size inb_S384x128_S384x128_0_0).toLoadRect (harg5.unread x5))) (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))) (View.readAt (Elt Ideal) arg2.view (Rect.unit (s := S2x384x128) ![1, 0, 0] S1x384x128.size inb_S2x384x128_S1x384x128_1_0_0).toLoadRect (harg2.unread x2)) (View.readAt (Elt Ideal) arg7.view (Rect.unit (s := S2x384x1) ![1, 0, 0] S1x384x1.size inb_S2x384x1_S1x384x1_1_0_0).toLoadRect (harg7.unread x7)) (harg3.unread x3) (harg4.unread x4) (k0_pay21, k0_pay21) (k0_t1_loop (grid0.coords t)).trips).2) (k0_t2_loop (grid0.coords t)).trips).1 (stretch (grid0.coords t)) (View.readAt (Elt Ideal) arg4.view (Rect.unit (s := S4224x128) (k0_off10 (grid0.coords t)) S768x128.size (k0_off10_inb (grid0.coords t) hc)).toLoadRect (harg4.unread x4)) (View.readAt (Elt Ideal) arg3.view (Rect.unit (s := S2x4224x128) (k0_off11 (grid0.coords t)) S1x768x128.size (k0_off11_inb (grid0.coords t) hc)).toLoadRect (harg3.unread x3)))⟩] := rfl

/-- The same at an entry: all the keys up to the row. -/
theorem outB_at (hc : ¬ k0_cond1 (grid0.coords t) = 1#1) (h : Fin 2) (r : Fin 384) (l : Fin 128) :
    View.canon (runB c (grid0.coords t) hc arg2 harg2 arg3 harg3 arg4 harg4 arg5 harg5 arg6 harg6 arg7 harg7 arg8 harg8 arg9 harg9 x2 x3 x4 x5 x6 x7).1.1 (ix3 h r l)
      = (∑ j ∈ Finset.range 4224, T x2 x3 x4 x5 x6 x7 (grid0.coords t 1).val h r l j) * s1 := by
  have hi : (grid0.coords t 1).val < 11 := (grid0.coords t 1).isLt
  have hp := odd_of t hc
  rw [outB_eq, e5, e6, stretch_eq t, trips2 t, trips1 t, st_k0_t2_zero]
  have L := fun a1 v10 v15 v16 v18 v23 v28 v32 v35 init => loop1 c t arg2 harg2 arg3 harg3 arg4 harg4 arg5 harg5 arg6 harg6 arg7 harg7 arg8 harg8 arg9 harg9 a1 v10 v15 v16 v18 v23 v28 v32 v35 x3 x4 init ((grid0.coords t 1).val / 2) (by rw [trips1 t]) r l
  obtain rfl | rfl : h = 0 ∨ h = 1 := by omega
  · rw [canon_fst, pay28_at, pay5_at _ _ _ _ _ _ _ _ _ (by omega) hi]
    dsimp only
    rw [(L _ _ _ _ _ _ _ _ _ _).1]; dsimp only; rw [pay21_at, zero_add, ← close x2 x3 x4 x5 x6 x7 _ 0 r l 768 (768 * ((grid0.coords t 1).val / 2)) (by omega) (by omega) (by omega)]
    have eV := fun j d => ldV (n := 768) x4 _ _ (k0_off10_eq t) (k0_off10_inb (grid0.coords t) hc) j d
    have eK := fun j d => ldK (n := 768) x3 _ 0 _ (k0_off11_eq t) (k0_off11_inb (grid0.coords t) hc) j d
    have eQ : ∀ d : Fin 128, View.ld x2 (Rect.unit (s := S2x384x128) ![0, 0, 0] ![1, 384, 128] inb_S2x384x128_S1x384x128_0_0_0) (ix3 0 r d) = x2 (ix3 0 r d) := fun d => ldH x2 _ 0 rfl inb_S2x384x128_S1x384x128_0_0_0 r d
    have eL : View.ld x7 (Rect.unit (s := S2x384x1) ![0, 0, 0] ![1, 384, 1] inb_S2x384x1_S1x384x1_0_0_0) (ix3 0 r 0) = x7 (ix3 0 r 0) := ldH x7 _ 0 rfl inb_S2x384x1_S1x384x1_0_0_0 r 0
    simp only [View.readAt_eq_ld, Memref.IsWhole.read_unread, pay10_at, pay12_at, pay13_at, pay14_at, eV, eK, eQ, eL]
  · rw [canon_snd, pay29_at, pay27_at _ _ _ _ _ _ _ _ _ (by omega) hi]
    dsimp only
    rw [(L _ _ _ _ _ _ _ _ _ _).2]; dsimp only; rw [pay21_at, zero_add, ← close x2 x3 x4 x5 x6 x7 _ 1 r l 768 (768 * ((grid0.coords t 1).val / 2)) (by omega) (by omega) (by omega)]
    have eV := fun j d => ldV (n := 768) x4 _ _ (k0_off10_eq t) (k0_off10_inb (grid0.coords t) hc) j d
    have eK := fun j d => ldK (n := 768) x3 _ 1 _ (k0_off12_eq t) (k0_off12_inb (grid0.coords t) hc) j d
    have eQ : ∀ d : Fin 128, View.ld x2 (Rect.unit (s := S2x384x128) ![1, 0, 0] ![1, 384, 128] inb_S2x384x128_S1x384x128_1_0_0) (ix3 0 r d) = x2 (ix3 1 r d) := fun d => ldH x2 _ 1 rfl inb_S2x384x128_S1x384x128_1_0_0 r d
    have eL : View.ld x7 (Rect.unit (s := S2x384x1) ![1, 0, 0] ![1, 384, 1] inb_S2x384x1_S1x384x1_1_0_0) (ix3 0 r 0) = x7 (ix3 1 r 0) := ldH x7 _ 1 rfl inb_S2x384x1_S1x384x1_1_0_0 r 0
    simp only [View.readAt_eq_ld, Memref.IsWhole.read_unread, pay16_at, pay18_at, pay19_at, pay15_at, pay20_at, eV, eK, eQ, eL]

/-- The row sums of the same run. -/
theorem outB_sum (hc : ¬ k0_cond1 (grid0.coords t) = 1#1) (h : Fin 2) (r : Fin 384) :
    View.canon (runB c (grid0.coords t) hc arg2 harg2 arg3 harg3 arg4 harg4 arg5 harg5 arg6 harg6 arg7 harg7 arg8 harg8 arg9 harg9 x2 x3 x4 x5 x6 x7).1.2 (ix3 h r 0) = rs h (fun d => x5 (ix2 r d)) fun d => x6 (ix2 r d) := by
  rw [show (runB c (grid0.coords t) hc arg2 harg2 arg3 harg3 arg4 harg4 arg5 harg5 arg6 harg6 arg7 harg7 arg8 harg8 arg9 harg9 x2 x3 x4 x5 x6 x7).1.2 =
    [⟨Rect.unit ![1, 0, 0] S1x384x1.size inb_S2x384x1_S1x384x1_1_0_0, k0_pay17 (k0_pay16 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6)))⟩,
      ⟨Rect.unit ![0, 0, 0] S1x384x1.size inb_S2x384x1_S1x384x1_0_0_0, k0_pay11 (View.readAt (Elt Ideal) arg5.view (Rect.unit (s := S384x128) ![0, 0] S384x128.size inb_S384x128_S384x128_0_0).toLoadRect (harg5.unread x5)) (View.readAt (Elt Ideal) arg6.view (Rect.unit (s := S384x128) ![0, 0] S384x128.size inb_S384x128_S384x128_0_0).toLoadRect (harg6.unread x6))⟩] from rfl, e5, e6]
  obtain rfl | rfl : h = 0 ∨ h = 1 := by omega
  · rw [canon_fst, pay11_at]
  · rw [canon_snd, pay17_at, pay16_at]

end cases

end Cert.Proof.Q

end
-- ==== Proof.Arr.lean ====
/- The two arrays after the run, at an entry, as functions of the arrays that the call is given. -/
module

public import proofs.«01_k».proof.Proof.Block

@[expose] public section

set_option maxRecDepth 16384

noncomputable section

namespace Cert.Proof.Q

open Cert.KernelIdeal Cert.KernelIdeal.Gen
open Idealize.ShloMosaic Idealize.ShloMosaic.TcCoe

variable (m : (ℓ : Loc nD τ sig) → Buf (Elt Ideal) ℓ) (c : Dev nD) (t : Fin cfg0.N)

theorem p_lt : (grid0.coords t 0).val < 4 := (grid0.coords t 0).isLt
theorem i_lt : (grid0.coords t 1).val < 11 := (grid0.coords t 1).isLt

theorem index_eq : ∀ t : Fin cfg0.N,
    win0_0.index t = ![(grid0.coords t 0).val, (grid0.coords t 1).val, 0] ∧ win0_1.index t = ![(grid0.coords t 0).val, 0, 0]
    ∧ win0_2.index t = ![0, (grid0.coords t 0).val] ∧ win0_3.index t = ![(grid0.coords t 1).val, (grid0.coords t 0).val]
    ∧ win0_4.index t = ![(grid0.coords t 1).val, (grid0.coords t 0).val] ∧ win0_5.index t = ![(grid0.coords t 0).val, (grid0.coords t 1).val, 0]
    ∧ win0_6.index t = ![(grid0.coords t 0).val, (grid0.coords t 1).val, 0] ∧ win0_7.index t = ![(grid0.coords t 0).val, (grid0.coords t 1).val, 0] := by
  decide +kernel

/-- The head, row and lane of the whole arrays at which a block's entry lies. -/
def hd (h : Fin 2) : Fin 8 := ⟨2 * (grid0.coords t 0).val + h.val, by have := p_lt t; omega⟩
def rw_ (r : Fin 384) : Fin 4224 := ⟨384 * (grid0.coords t 1).val + r.val, by have := i_lt t; omega⟩
def ln (d : Fin 128) : Fin 512 := ⟨128 * (grid0.coords t 0).val + d.val, by have := p_lt t; omega⟩

/-- The arrays that the call is given, at an entry. -/
def aQ (H : Fin 8) (R : Fin 4224) (d : Fin 128) : EReal := V m c main_arg0 (ix3 H R d)
def aK (H : Fin 8) (R : Fin 4224) (d : Fin 128) : EReal := V m c main_arg1 (ix3 H R d)
def aV (R : Fin 4224) (f : Fin 512) : EReal := V m c main_arg2 (ix2 R f)
def aG (R : Fin 4224) (f : Fin 512) : EReal := V m c main_arg3 (ix2 R f)
def aY (R : Fin 4224) (f : Fin 512) : EReal := V m c main_v51 (ix2 R f)
def aL (H : Fin 8) (R : Fin 4224) : EReal := V m c main_v23 (ix3 H R 0)

theorem blk0 (h : Fin 2) (r : Fin 384) (d : Fin 128) : iblk m c 0 t (ix3 h r d) = aQ m c (hd t h) (rw_ t r) d := by
  unfold aQ
  blk_ext [iblk, hd, rw_, ln, index_eq t]
theorem blk1 (h : Fin 2) (r : Fin 4224) (d : Fin 128) : iblk m c 1 t (ix3 h r d) = aK m c (hd t h) r d := by
  unfold aK
  blk_ext [iblk, hd, rw_, ln, index_eq t]
theorem blk2 (r : Fin 4224) (d : Fin 128) : iblk m c 2 t (ix2 r d) = aV m c r (ln t d) := by
  unfold aV
  blk_ext [iblk, hd, rw_, ln, index_eq t]
theorem blk3 (r : Fin 384) (d : Fin 128) : iblk m c 3 t (ix2 r d) = aG m c (rw_ t r) (ln t d) := by
  unfold aG
  blk_ext [iblk, hd, rw_, ln, index_eq t]
theorem blk4 (r : Fin 384) (d : Fin 128) : iblk m c 4 t (ix2 r d) = aY m c (rw_ t r) (ln t d) := by
  unfold aY
  blk_ext [iblk, hd, rw_, ln, index_eq t]
theorem blk5 (h : Fin 2) (r : Fin 384) : iblk m c 5 t (ix3 h r 0) = aL m c (hd t h) (rw_ t r) := by
  unfold aL
  blk_ext [iblk, hd, rw_, ln, index_eq t]

/-! ### One head's lanes -/

/-- Lane `e` of head `H` among the lanes of all heads. -/
def lane (H : Fin 8) (e : Fin 64) : Fin 512 := ⟨64 * H.val + e.val, by omega⟩

theorem own_sum (h : Fin 2) (f g : Fin 128 → EReal) :
    ∑ d, own h f d * g d = ∑ e : Fin 64, f ⟨64 * h.val + e.val, by omega⟩ * g ⟨64 * h.val + e.val, by omega⟩ := by
  rw [show (∑ d : Fin 128, own h f d * g d) = ∑ d : Fin (64 + 64), own h f d * g d from rfl, Fin.sum_univ_add]
  obtain rfl | rfl : h = 0 ∨ h = 1 := by omega
  · rw [Finset.sum_eq_zero (s := Finset.univ) (f := fun i : Fin 64 => own 0 f (Fin.natAdd 64 i) * g (Fin.natAdd 64 i)), add_zero]
    · refine Finset.sum_congr rfl fun e _ => ?_
      unfold own
      rw [if_pos (by show e.val / 64 = 0; omega)]
      have : (Fin.castAdd 64 e : Fin (64 + 64)) = (⟨64 * (0 : Fin 2).val + e.val, by omega⟩ : Fin 128) := Fin.ext (by simp [add_comm])
      rw [this]
    · intro e _
      unfold own
      rw [if_neg (by show ¬ (64 + e.val) / 64 = 0; omega), zero_mul]
  · rw [Finset.sum_eq_zero (s := Finset.univ) (f := fun i : Fin 64 => own 1 f (Fin.castAdd 64 i) * g (Fin.castAdd 64 i)), zero_add]
    · refine Finset.sum_congr rfl fun e _ => ?_
      unfold own
      rw [if_pos (by show (64 + e.val) / 64 = 1; omega)]
      have : (Fin.natAdd 64 e : Fin (64 + 64)) = (⟨64 * (1 : Fin 2).val + e.val, by omega⟩ : Fin 128) := Fin.ext (by simp [add_comm])
      rw [this]
    · intro e _
      unfold own
      rw [if_neg (by show ¬ e.val / 64 = 1; omega), zero_mul]

theorem ln_lane (h : Fin 2) (e : Fin 64) : ln t ⟨64 * h.val + e.val, by omega⟩ = lane (hd t h) e := by
  apply Fin.ext; simp only [ln, lane, hd]; omega

/-! ### The arrays -/

/-- The row sum of a head's lanes of `dy · y`. -/
def dAt (H : Fin 8) (R : Fin 4224) : EReal :=
  ∑ e, aG m c R (lane H e) * aY m c R (lane H e)

/-- Key `j`'s gradient of the scores of row `R`. -/
def dsAt (H : Fin 8) (R j : Fin 4224) : EReal :=
  Ideal.exp2 ((if j.val ≤ R.val then (∑ d, aQ m c H R d * aK m c H j d) * s2 else ⊥)
      - aL m c H R)
    * ((∑ e, aG m c R (lane H e) * aV m c j (lane H e)) - dAt m c H R)

/-- An entry of the gradient. -/
def qAt (H : Fin 8) (R : Fin 4224) (l : Fin 128) : EReal :=
  (∑ j, dsAt m c H R j * aK m c H j l) * s1

theorem rs_at (h : Fin 2) (r : Fin 384) :
    rs h (fun d => iblk m c 3 t (ix2 r d)) (fun d => iblk m c 4 t (ix2 r d)) = dAt m c (hd t h) (rw_ t r) := by
  unfold rs dAt
  rw [own_sum]
  refine Finset.sum_congr rfl fun e _ => ?_
  rw [blk3, blk4, ln_lane]

theorem T_at (h : Fin 2) (r : Fin 384) (l : Fin 128) (j : Fin 4224) :
    T (iblk m c 0 t) (iblk m c 1 t) (iblk m c 2 t) (iblk m c 3 t) (iblk m c 4 t) (iblk m c 5 t) (grid0.coords t 1).val h r l j.val
      = dsAt m c (hd t h) (rw_ t r) j * aK m c (hd t h) j l := by
  have ek : ∀ d, kk (iblk m c 1 t) h j.val d = aK m c (hd t h) j d := fun d => by
    unfold kk; rw [dif_pos j.isLt]; exact blk1 m c t h j d
  have ev : ∀ d, vk (iblk m c 2 t) j.val d = aV m c j (ln t d) := fun d => by
    unfold vk; rw [dif_pos j.isLt]; exact blk2 m c t j d
  unfold T tm dsAt
  have e1 : (∑ d, (show EReal from iblk m c 0 t (ix3 h r d)) * kk (iblk m c 1 t) h j.val d) = ∑ d, aQ m c (hd t h) (rw_ t r) d * aK m c (hd t h) j d :=
    Finset.sum_congr rfl fun d _ => congrArg₂ _ (blk0 m c t h r d) (ek d)
  have e2 : (∑ d, own h (fun d => iblk m c 3 t (ix2 r d)) d * vk (iblk m c 2 t) j.val d) = ∑ e, aG m c (rw_ t r) (lane (hd t h) e) * aV m c j (lane (hd t h) e) := by
    rw [own_sum]
    refine Finset.sum_congr rfl fun e _ => ?_
    rw [blk3, ev, ln_lane]
  rw [rs_at, blk5, ek]
  exact congrArg₂ (fun x y => Ideal.exp2 ((if j.val ≤ (rw_ t r).val then x * s2 else ⊥) - aL m c (hd t h) (rw_ t r)) * (y - dAt m c (hd t h) (rw_ t r)) * aK m c (hd t h) j l) e1 e2

/-- A block's entry is the sum over the keys. -/
theorem outQ_sum (h : Fin 2) (r : Fin 384) (l : Fin 128) :
    outQ m c t (ix3 h r l) = (∑ j ∈ Finset.range 4224, T (iblk m c 0 t) (iblk m c 1 t) (iblk m c 2 t) (iblk m c 3 t) (iblk m c 4 t) (iblk m c 5 t)
      (grid0.coords t 1).val h r l j) * s1 := by
  unfold outQ pieces
  by_cases hc : k0_cond1 (grid0.coords t) = 1#1
  · rw [dif_pos hc]; exact outA_at c t _ _ _ _ _ _ _ _ _ _ _ _ _ _ _ _ _ _ _ _ _ _ hc h r l
  · rw [dif_neg hc]; exact outB_at c t _ _ _ _ _ _ _ _ _ _ _ _ _ _ _ _ _ _ _ _ _ _ hc h r l

theorem outQ_at (h : Fin 2) (r : Fin 384) (l : Fin 128) : outQ m c t (ix3 h r l) = qAt m c (hd t h) (rw_ t r) l := by
  refine (outQ_sum m c t h r l).trans ?_
  refine congrArg (· * s1) ((Finset.sum_range _).trans ?_)
  exact Finset.sum_congr rfl fun j _ => T_at m c t h r l j

theorem outD_at (h : Fin 2) (r : Fin 384) : outD m c t (ix3 h r 0) = dAt m c (hd t h) (rw_ t r) := by
  rw [← rs_at]
  unfold outD pieces
  by_cases hc : k0_cond1 (grid0.coords t) = 1#1
  · rw [dif_pos hc]; exact outA_sum c t _ _ _ _ _ _ _ _ _ _ _ _ _ _ _ _ _ _ _ _ _ _ hc h r
  · rw [dif_neg hc]; exact outB_sum c t _ _ _ _ _ _ _ _ _ _ _ _ _ _ _ _ _ _ _ _ _ _ hc h r

/-- The gradient's array after the run. -/
theorem arrQ : (dats m 0 c).arrAt 6 cfg0.N = fun j => qAt m c (j 0) (j 1) (j 2) := by
  refine (dats m 0 c).arrAt_eq_of_covers 6 _ (by decide +kernel) fun t hf y => ?_
  rw [aft6]
  blk_simp [index_eq t]
  idx_vars y
  refine (outQ_at m c t y0 y1 y2).trans ?_
  congr 1
  · apply Fin.ext; blk_simp [index_eq t, hd]
    first | rfl | (simp [ix3]; omega)
  · apply Fin.ext; blk_simp [index_eq t, rw_]
    first | rfl | (simp [ix3]; omega)
  · apply Fin.ext; blk_simp [index_eq t]

/-- The row sums' array after the run. -/
theorem arrD : (dats m 0 c).arrAt 7 cfg0.N = fun j => dAt m c (j 0) (j 1) := by
  refine (dats m 0 c).arrAt_eq_of_covers 7 _ (by decide +kernel) fun t hf y => ?_
  rw [aft7]
  blk_simp [index_eq t]
  idx_vars y
  obtain rfl : y2 = 0 := Subsingleton.elim _ _
  refine (outD_at m c t y0 y1).trans ?_
  congr 1
  · apply Fin.ext; blk_simp [index_eq t, hd]
    first | rfl | (simp [ix3]; omega)
  · apply Fin.ext; blk_simp [index_eq t, rw_]
    first | rfl | (simp [ix3]; omega)

end Cert.Proof.Q

end
-- ==== Proof.Word.lean ====
/- Small facts about the constants, the causal comparison and the lanes of a head, used on both sides. -/
module

public import proofs.«01_k».proof.Proof.Arr

@[expose] public section

set_option maxRecDepth 16384

noncomputable section

namespace Cert.Proof.Q

open Idealize.ShloMosaic

/-- The word of minus infinity. -/
theorem inf_bot : Ideal.ofBits .f32 0xFF800000#32 = (⊥ : EReal) := by
  simp [Ideal.ofBits, Ideal.ieee]

/-- The scale's word, two and plus infinity as numbers. -/
theorem s1_eq : s1 = ((13698540 * 134217728⁻¹ : ℝ) : EReal) := by
  rw [s1]
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem top_eq : Ideal.ofBits .f32 0x7F800000#32 = (⊤ : EReal) := by
  simp [Ideal.ofBits, Ideal.ieee]

theorem s2_eq : s2 = ((13698540 * 134217728⁻¹ * (Real.log 2)⁻¹ : ℝ) : EReal) :=
  IdealRules.named_const.ideal_named_scalar Cert.KernelIdeal.κ "s_log2e" _ _ rfl

/-- The causal comparison of a key's index with a row's. -/
theorem sel_le {α : Type} (j R : ℕ) (hj : j < 20000) (hR : R < 20000) (X Y : α) :
    Scalar.select (IntOp.cmpi .sle (BitVec.ofNat 32 j) (BitVec.ofNat 32 R)) X Y = if j ≤ R then X else Y := by
  unfold Scalar.select
  refine if_congr ?_ rfl rfl
  have t : ∀ n : ℕ, n < 20000 → (BitVec.ofNat 32 n).toInt = (n : ℤ) := fun n hn => by
    have e : (BitVec.ofNat 32 n).toNat = n := by rw [BitVec.toNat_ofNat]; omega
    rw [BitVec.toInt_eq_toNat_of_lt (by omega), e]
  refine (IntOp.cmpi_sle).trans ?_
  rw [t _ hj, t _ hR]
  omega

theorem lane_div (H : Fin 8) (f : Fin 64) : (lane H f).val / 64 = H.val := by
  show (64 * H.val + f.val) / 64 = H.val
  omega

theorem lane_alt (H : Fin 8) (f : Fin 64) (h : H.val * 64 + f.val < 512) : (⟨H.val * 64 + f.val, h⟩ : Fin 512) = lane H f :=
  Fin.ext (by show H.val * 64 + f.val = 64 * H.val + f.val; omega)

end Cert.Proof.Q

end
-- ==== Proof.Real.lean ====
/- One row of the softmax and of its gradient over finite arguments: every quantity is a real number, and the two ways of
   writing the gradient of the scores agree. -/
module

public import proofs.«01_k».proof.Proof.Word

@[expose] public section

noncomputable section

namespace Cert.Proof.Q

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem log_real (x : ℝ) (hx : 0 < x) : Ideal.log (x : EReal) = ((Real.log x : ℝ) : EReal) := by
  show (if x ≤ 0 then (⊥ : EReal) else (Real.log x : EReal)) = _
  rw [if_neg (not_le.mpr hx)]

theorem exp_real (x : ℝ) : Ideal.exp (x : EReal) = ((Real.exp x : ℝ) : EReal) := rfl

theorem exp_bot : Ideal.exp ⊥ = 0 := rfl

section row_

variable (n : ℕ) (R : Fin n) (q : Fin 128 → ℝ) (k : Fin n → Fin 128 → ℝ) (E X : Fin n → EReal) (M Z L : EReal)

/-- The numbers of one row: each exponential, their sum, and each probability as the kernel computes it. -/
theorem reals (hE : ∀ j, E j = if j.val ≤ R.val then (∑ d, (q d : EReal) * (k j d : EReal)) * s1 else ⊥)
    (hM : M = Finset.fold max ⊥ E Finset.univ) (hX : ∀ j, X j = Ideal.exp (E j - M)) (hZ : Z = ∑ j, X j)
    (hL : L = Ideal.div (M + Ideal.log Z) (Ideal.log (Ideal.ofBits .f32 0x40000000#32))) :
    ∃ (e : Fin n → ℝ) (z : ℝ), 0 < z ∧ (∀ j, X j = (e j : EReal)) ∧ Z = (z : EReal) ∧ (∀ j, ¬ j.val ≤ R.val → e j = 0)
      ∧ ∀ j, Ideal.exp2 ((if j.val ≤ R.val then (∑ d, (q d : EReal) * (k j d : EReal)) * s2 else ⊥) - L) = ((e j / z : ℝ) : EReal) := by
  let a : Fin n → ℝ := fun j => ∑ d, q d * k j d
  have hd : ∀ j, (∑ d, (q d : EReal) * (k j d : EReal)) = (a j : EReal) := fun j => by
    rw [coe_sum]; exact Finset.sum_congr rfl fun d _ => (EReal.coe_mul _ _).symm
  simp only [hd, s1_eq, s2_eq] at hE ⊢
  clear_value a
  have hMt : M ≠ ⊤ := by
    rw [hM]
    refine ne_of_lt ((Finset.fold_max_lt _).mpr ⟨bot_lt_top, fun j _ => ?_⟩)
    rw [hE j]; split
    · rw [← EReal.coe_mul]; exact EReal.coe_lt_top _
    · exact bot_lt_top
  have hMb : M ≠ ⊥ := by
    rw [hM]
    refine ne_of_gt ((Finset.lt_fold_max _).mpr (Or.inr ⟨R, Finset.mem_univ _, ?_⟩))
    rw [hE R, if_pos le_rfl, ← EReal.coe_mul]
    exact EReal.bot_lt_coe _
  obtain ⟨μ, rfl⟩ : ∃ μ : ℝ, M = (μ : EReal) := ⟨M.toReal, (EReal.coe_toReal hMt hMb).symm⟩
  clear hM hMt hMb
  set C : ℝ := 13698540 * 134217728⁻¹ with hC
  let e : Fin n → ℝ := fun j => if j.val ≤ R.val then Real.exp (a j * C - μ) else 0
  have he : ∀ j, X j = (e j : EReal) := fun j => by
    rw [hX, hE]
    by_cases h : j.val ≤ R.val
    · rw [if_pos h, ← EReal.coe_mul, ← EReal.coe_sub, exp_real]; simp only [e, if_pos h]
    · rw [if_neg h, EReal.bot_sub, exp_bot]; simp only [e, if_neg h]; rfl
  have he0 : ∀ j, 0 ≤ e j := fun j => by
    by_cases h : j.val ≤ R.val
    · simp only [e, if_pos h]; exact (Real.exp_pos _).le
    · simp only [e, if_neg h]; exact le_rfl
  have hz : 0 < ∑ j, e j := by
    refine Finset.sum_pos' (fun j _ => he0 j) ⟨R, Finset.mem_univ _, ?_⟩
    simp only [e, if_pos le_rfl]
    exact Real.exp_pos _
  have hZ' : Z = ((∑ j, e j : ℝ) : EReal) := by
    rw [hZ, coe_sum]; exact Finset.sum_congr rfl fun j _ => he j
  have l2 : 0 < Real.log 2 := Real.log_pos (by norm_num)
  refine ⟨e, ∑ j, e j, hz, he, hZ', fun j h => by simp only [e, if_neg h], fun j => ?_⟩
  rw [hL, hZ', two_eq, log_real _ hz, log_real _ (by norm_num), ← EReal.coe_add, div_real _ _ l2.ne']
  by_cases h : j.val ≤ R.val
  · rw [if_pos h, ← EReal.coe_mul, ← EReal.coe_sub, Ideal.exp2_coe]
    congr 1
    show (2 : ℝ) ^ (_ : ℝ) = _
    rw [Real.rpow_def_of_pos (by norm_num)]
    simp only [e, if_pos h]
    rw [show Real.log 2 * (a j * (C * (Real.log 2)⁻¹) - (μ + Real.log (∑ j, e j)) / Real.log 2) = (a j * C - μ) - Real.log (∑ j, e j) by
      field_simp; ring]
    rw [Real.exp_sub, Real.exp_log hz]
  · rw [if_neg h, EReal.bot_sub, Ideal.exp2_bot]
    simp only [e, if_neg h, zero_div]
    rfl

variable (v : Fin n → Fin 64 → ℝ) (g : Fin 64 → ℝ) (y : Fin 64 → EReal) (P : Fin n → EReal) (D W : EReal)

/-- The gradient of one score: the kernel's, from the saved output, and the reference's, from the sum over the row. -/
theorem ds_eq (e : Fin n → ℝ) (z : ℝ) (hz : 0 < z) (hX : ∀ j, X j = (e j : EReal)) (hZ : Z = (z : EReal)) (h0 : ∀ j, ¬ j.val ≤ R.val → e j = 0)
    (hy : ∀ f, y f = ∑ j, (v j f : EReal) * Ideal.div (X j) Z) (hD : D = ∑ f, (g f : EReal) * y f)
    (hP : ∀ j, P j = ∑ f, (g f : EReal) * (v j f : EReal)) (hW : W = - ∑ j, P j * Ideal.div 1 (Z * Z) * X j) :
    ∃ s : Fin n → ℝ, (∀ j, ¬ j.val ≤ R.val → s j = 0) ∧ (∀ j, ((e j / z : ℝ) : EReal) * ((∑ f, (g f : EReal) * (v j f : EReal)) - D) = (s j : EReal))
      ∧ ∀ j, (Ideal.div (P j) Z + W) * X j = (s j : EReal) := by
  have hp : ∀ j, (∑ f, (g f : EReal) * (v j f : EReal)) = ((∑ f, g f * v j f : ℝ) : EReal) := fun j => by
    rw [coe_sum]; exact Finset.sum_congr rfl fun d _ => (EReal.coe_mul _ _).symm
  simp only [hp] at hP ⊢
  set p : Fin n → ℝ := fun j => ∑ f, g f * v j f with hpd
  have hy' : ∀ f, y f = ((∑ j, v j f * (e j / z) : ℝ) : EReal) := fun f => by
    rw [hy, coe_sum]
    refine Finset.sum_congr rfl fun j _ => ?_
    rw [hX, hZ, div_real _ _ hz.ne', ← EReal.coe_mul]
  have hD' : D = ((∑ f, g f * ∑ j, v j f * (e j / z) : ℝ) : EReal) := by
    rw [hD, coe_sum]
    refine Finset.sum_congr rfl fun f _ => ?_
    rw [hy', ← EReal.coe_mul]
  have hW' : W = ((- ∑ j, p j * (1 / (z * z)) * e j : ℝ) : EReal) := by
    rw [hW, EReal.coe_neg, coe_sum]
    congr 1
    refine Finset.sum_congr rfl fun j _ => ?_
    rw [hP, hX, hZ, ← EReal.coe_mul, ← EReal.coe_one, div_real _ _ (mul_pos hz hz).ne', ← EReal.coe_mul, ← EReal.coe_mul]
  have key : (∑ f, g f * ∑ j, v j f * (e j / z)) = z * ∑ j, p j * (1 / (z * z)) * e j := by
    simp only [hpd, Finset.mul_sum, Finset.sum_mul]
    rw [Finset.sum_comm]
    refine Finset.sum_congr rfl fun j _ => Finset.sum_congr rfl fun f _ => ?_
    field_simp
  refine ⟨fun j => e j / z * (p j - ∑ f, g f * ∑ j, v j f * (e j / z)), fun j h => by simp only [h0 j h, zero_div, zero_mul], fun j => ?_, fun j => ?_⟩
  · rw [hD', ← EReal.coe_sub, ← EReal.coe_mul]
  · rw [hP, hZ, hX, hW', div_real _ _ hz.ne', ← EReal.coe_add, ← EReal.coe_mul, key]
    congr 1
    field_simp
    ring

end row_

end Cert.Proof.Q

end
-- ==== Proof.Fin.lean ====
/- What the precondition says: every entry of every argument is a real number. -/
module

public import proofs.«01_k».proof.Defs
public import proofs.«01_k».proof.Proof.Word
public import Idealize.ShloMosaic.Lib.ReduceAll

@[expose] public section

set_option maxRecDepth 16384

noncomputable section

namespace Cert.Proof

open Idealize.ShloMosaic

theorem pre_facts : Cert.Pre_finite.Facts where
  bitsLt_bf16_f32 := by decide
  bcast_S_S8x4224x128 := by decide
  reducesTo_S8x4224x128_S_d0_1_2 := by decide
  h_S_ := by decide
  bcast_S_S4224x512 := by decide
  reducesTo_S4224x512_S_d0_1 := by decide

/-- A number whose absolute value is below infinity is real. -/
theorem real_of_abs (x : EReal) (h : Ideal.cmp .olt (max x (-x)) (Ideal.ofBits .f32 0x7F800000#32) = 1#1) : ∃ r : ℝ, x = (r : EReal) := by
  rw [Q.top_eq] at h
  have h2 : max x (-x) < ⊤ := by
    by_contra hn
    have e : Ideal.cmp .olt (max x (-x)) ⊤ = 0#1 := by
      show BitVec.ofBool (decide _) = _
      rw [decide_eq_false hn]
      rfl
    rw [e] at h
    exact absurd h (by decide)
  induction x with
  | bot => simp at h2
  | top => simp at h2
  | coe r => exact ⟨r, rfl⟩

section dec

variable (q k : FVec Ideal Cert.Pre_finite.S8x4224x128 .bf16) (v : FVec Ideal Cert.Pre_finite.S4224x512 .bf16) (g : FVec Ideal Cert.Pre_finite.S4224x512 .f32)

theorem finite_reals [Cert.Pre_finite.Facts] (h : Cert.Pre_finite.fn (F := Ideal) q k v g = fun _ => 1#1) :
    (∀ i, ∃ r : ℝ, q i = (r : EReal)) ∧ (∀ i, ∃ r : ℝ, k i = (r : EReal)) ∧ (∀ i, ∃ r : ℝ, v i = (r : EReal)) ∧ ∀ i, ∃ r : ℝ, g i = (r : EReal) := by
  have h0 := congrFun h ix0
  dsimp only [Cert.Pre_finite.fn, Cert.Pre_finite.fn_part1] at h0
  obtain ⟨h1, hg⟩ := IntOp.andi_eq_one.mp h0
  obtain ⟨h2, hv⟩ := IntOp.andi_eq_one.mp h1
  obtain ⟨hq, hk⟩ := IntOp.andi_eq_one.mp h2
  haveI : Subsingleton Cert.Pre_finite.S_.Idx := ⟨fun a b => funext fun i => i.elim0⟩
  exact ⟨fun i => real_of_abs _ (Host.reduce_andi_all _ _ _ _ _ hq i), fun i => real_of_abs _ (Host.reduce_andi_all _ _ _ _ _ hk i),
    fun i => real_of_abs _ (Host.reduce_andi_all _ _ _ _ _ hv i), fun i => real_of_abs _ (Host.reduce_andi_all _ _ _ _ _ hg i)⟩

end dec

end Cert.Proof

end
-- ==== Proof.HostK.lean ====
module
public import proofs.«01_k».proof.Proof.Word
public import Idealize.ShloMosaic.Lib.Pointwise
public import Idealize.ShloMosaic.Lib.StableHlo.RunRead

@[expose] public section
set_option maxRecDepth 16384
noncomputable section
namespace Cert.Proof.Q
open Cert.KernelIdeal Cert.KernelIdeal.Gen
open Idealize.ShloMosaic Idealize.ShloMosaic.TcCoe

/-- The masked scores: `(q · k) * scale` where the key does not come after the query, `-∞` elsewhere. -/
def scA (q k : FVec Ideal S8x4224x128 .bf16) : FVec Ideal S8x4224x4224 .f32 :=
  select (broadcastInDim S8x4224x4224 ![1, 2] bcast_S4224x4224_S8x4224x4224_1_2 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))))
    (mulf (Host.dotGeneral dot_S8x4224x128_S8x4224x128_S8x4224x4224_2_2_1_1_0_0 none (extf .f32 q bitsLt_bf16_f32) (extf .f32 k bitsLt_bf16_f32)) (broadcastInDim S8x4224x4224 ![] bcast_S_S8x4224x4224 (constant S_ .f32 0x3DD105EC#32)))
    (broadcastInDim S8x4224x4224 ![] bcast_S_S8x4224x4224 (id (constant S_ .f32 0xFF800000#32)))

/-- A row's largest score. -/
def mxA (s : FVec Ideal S8x4224x4224 .f32) : FVec Ideal S8x4224 .f32 :=
  Host.reduce FloatOps.maximumf s (constant (F := Ideal) S_ .f32 0xFF800000#32) reducesTo_S8x4224x4224_S8x4224_d2 h_S_

def mxB (x : FVec Ideal S8x4224 .f32) : FVec Ideal S8x4224 .f32 :=
  maximumf (broadcastInDim S8x4224 ![] bcast_S_S8x4224 (constant S_ .f32 0xFF800000#32)) x

/-- One number per row, along the row. -/
def row (z : FVec Ideal S8x4224 .f32) : FVec Ideal S8x4224x4224 .f32 :=
  broadcastInDim S8x4224x4224 ![0, 1, 2] bcast_S8x4224x1_S8x4224x4224_0_1_2 (broadcastInDim S8x4224x1 ![0, 1] bcast_S8x4224_S8x4224x1_0_1 z)

def exA (s : FVec Ideal S8x4224x4224 .f32) (x : FVec Ideal S8x4224 .f32) : FVec Ideal S8x4224x4224 .f32 :=
  Host.exp (subf s (row x))

def smA (e : FVec Ideal S8x4224x4224 .f32) : FVec Ideal S8x4224 .f32 :=
  Host.reduceAdd e (constant S_ .f32 0x00000000#32) reducesTo_S8x4224x4224_S8x4224_d2 h_S_

def yA (e : FVec Ideal S8x4224x4224 .f32) (z : FVec Ideal S8x4224 .f32) (v : FVec Ideal S4224x512 .bf16) : FVec Ideal S4224x512 .f32 :=
  shapeCast _ (transpose S4224x8x64 [2, 0, 1] (Host.dotGeneral dot_S4224x8x64_S8x4224x4224_S8x64x4224_0_2_2_1_1_0 none (shapeCast _ (extf .f32 v bitsLt_bf16_f32) shapeCasts_S4224x512_S4224x8x64) (Host.divf e (row z))) transposes_S8x64x4224_S4224x8x64_2_0_1) shapeCasts_S4224x8x64_S4224x512

section at_

variable (q k : FVec Ideal S8x4224x128 .bf16) (v : FVec Ideal S4224x512 .bf16) (s e : FVec Ideal S8x4224x4224 .f32) (x z : FVec Ideal S8x4224 .f32)
  (H : Fin 8) (R j : Fin 4224)

theorem scA_at : scA q k (ix3 H R j) = if j.val ≤ R.val then (∑ d : Fin 128, q (ix3 H R d) * k (ix3 H j d)) * s1 else (⊥ : EReal) := by
  pointwise [scA]
  rw [sel_le _ _ (by omega) (by omega)]
  exact if_congr Iff.rfl rfl inf_bot

theorem mxA_at : mxA s (ix2 H R) = Finset.fold max (⊥ : EReal) (fun j => s (ix3 H R j)) Finset.univ := by
  pointwise [mxA]
  rw [inf_bot]

theorem mxB_at : mxB x (ix2 H R) = x (ix2 H R) := by
  pointwise [mxB]
  rw [inf_bot]
  exact max_eq_right bot_le

theorem exA_at : exA s x (ix3 H R j) = Ideal.exp (s (ix3 H R j) - x (ix2 H R)) := by
  pointwise [exA, row]

theorem smA_at : smA e (ix2 H R) = ∑ j : Fin 4224, e (ix3 H R j) := by
  pointwise [smA]

theorem yA_at (f : Fin 64) : yA e z v (ix2 R (lane H f)) = ∑ j : Fin 4224, v (ix2 j (lane H f)) * Ideal.div (e (ix3 H R j)) (z (ix2 H R)) := by
  pointwise [yA, row]
  refine Finset.sum_congr rfl fun j _ => ?_
  rw [show (⟨(lane H f).val / 64, by have := (lane H f).isLt; omega⟩ : Fin 8) = H from Fin.ext (lane_div H f)]

end at_

def lsA (x z : FVec Ideal S8x4224 .f32) : FVec Ideal S8x4224x1 .f32 :=
  Host.divf (addf (broadcastInDim S8x4224x1 ![0, 1] bcast_S8x4224_S8x4224x1_0_1 x) (Host.log (broadcastInDim S8x4224x1 ![0, 1] bcast_S8x4224_S8x4224x1_0_1 z)))
    (broadcastInDim S8x4224x1 ![] bcast_S_S8x4224x1 (Host.log (constant S_ .f32 0x40000000#32)))

theorem lsA_at (x z : FVec Ideal S8x4224 .f32) (H : Fin 8) (R : Fin 4224) :
    lsA x z (ix3 H R 0) = Ideal.div (x (ix2 H R) + Ideal.log (z (ix2 H R))) (Ideal.log (Ideal.ofBits .f32 0x40000000#32)) := by
  pointwise [lsA]

end Cert.Proof.Q
end
-- ==== Proof.GlueK.lean ====
/- What the host's lines before the call leave in the two saved arrays the call takes. -/
module

public import proofs.«01_k».proof.Proof.HostK

@[expose] public section

set_option maxRecDepth 16384

noncomputable section

namespace Cert.Proof.Q

open Cert.KernelIdeal Cert.KernelIdeal.Gen
open Idealize.ShloMosaic Idealize.ShloMosaic.TcCoe

variable (m : (ℓ : Loc nD τ sig) → Buf (Elt Ideal) ℓ) (c : Dev nD)

def sc : FVec Ideal S8x4224x4224 .f32 := scA (m ((c.tc : Thread nD τ).loc main_arg0)) (m ((c.tc : Thread nD τ).loc main_arg1))
def exa : FVec Ideal S8x4224x4224 .f32 := exA (sc m c) (mxA (sc m c))
def exb : FVec Ideal S8x4224x4224 .f32 := exA (sc m c) (mxB (mxA (sc m c)))

set_option maxHeartbeats 4000000 in
theorem v23_eq : V m c main_v23 = lsA (mxA (sc m c)) (smA (exa m c)) := by
  simp only [V, hostOps0, hostOps0_1, hostOps0_2, hostOps0_3, hostOps0_4, List.flatten_cons, List.flatten_nil, List.append_nil, List.cons_append, List.nil_append]
  after_reads_simp
  simp only [StableHlo.TRef.toBuf, StableHlo.TRef.ofBuf, cast_eq]
  simp only [lsA, smA, exa, exA, sc, scA, mxA, row]

set_option maxHeartbeats 4000000 in
theorem v51_eq : V m c main_v51 = yA (exb m c) (smA (exb m c)) (m ((c.tc : Thread nD τ).loc main_arg2)) := by
  simp only [V, hostOps0, hostOps0_1, hostOps0_2, hostOps0_3, hostOps0_4, List.flatten_cons, List.flatten_nil, List.append_nil, List.cons_append, List.nil_append]
  after_reads_simp
  simp only [StableHlo.TRef.toBuf, StableHlo.TRef.ofBuf, cast_eq]
  simp only [yA, smA, exb, exA, sc, scA, mxA, mxB, row]
  rfl

end Cert.Proof.Q

end
-- ==== Proof.HostR.lean ====
module
public import proofs.«01_k».proof.Proof.Word
public import Idealize.ShloMosaic.Lib.Pointwise
public import Idealize.ShloMosaic.Lib.StableHlo.RunRead
public import proofs.«01_k».proof.Proof.Gen.ReferenceIdeal.Run
@[expose] public section
set_option maxRecDepth 16384
noncomputable section
namespace Cert.Proof.R
open Cert.ReferenceIdeal Cert.ReferenceIdeal.Gen
open Cert.Proof.Q (s1 lane sel_le inf_bot lane_div lane_alt)
open Idealize.ShloMosaic Idealize.ShloMosaic.TcCoe

/-- The masked scores: `(q · k) * scale` where the key does not come after the query, `-∞` elsewhere. -/
def scA (q k : FVec Ideal S8x4224x128 .bf16) : FVec Ideal S8x4224x4224 .f32 :=
  select (broadcastInDim S8x4224x4224 ![1, 2] bcast_S4224x4224_S8x4224x4224_1_2 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))))
    (mulf (Host.dotGeneral dot_S8x4224x128_S8x4224x128_S8x4224x4224_2_2_1_1_0_0 none (extf .f32 q bitsLt_bf16_f32) (extf .f32 k bitsLt_bf16_f32)) (broadcastInDim S8x4224x4224 ![] bcast_S_S8x4224x4224 (constant S_ .f32 0x3DD105EC#32)))
    (broadcastInDim S8x4224x4224 ![] bcast_S_S8x4224x4224 (id (constant S_ .f32 0xFF800000#32)))

/-- A row's largest score. -/
def mxA (s : FVec Ideal S8x4224x4224 .f32) : FVec Ideal S8x4224 .f32 :=
  Host.reduce FloatOps.maximumf s (constant (F := Ideal) S_ .f32 0xFF800000#32) reducesTo_S8x4224x4224_S8x4224_d2 h_S_

def mxB (x : FVec Ideal S8x4224 .f32) : FVec Ideal S8x4224 .f32 :=
  maximumf (broadcastInDim S8x4224 ![] bcast_S_S8x4224 (constant S_ .f32 0xFF800000#32)) x

/-- One number per row, along the row. -/
def row (z : FVec Ideal S8x4224 .f32) : FVec Ideal S8x4224x4224 .f32 :=
  broadcastInDim S8x4224x4224 ![0, 1, 2] bcast_S8x4224x1_S8x4224x4224_0_1_2 (broadcastInDim S8x4224x1 ![0, 1] bcast_S8x4224_S8x4224x1_0_1 z)

def exA (s : FVec Ideal S8x4224x4224 .f32) (x : FVec Ideal S8x4224 .f32) : FVec Ideal S8x4224x4224 .f32 :=
  Host.exp (subf s (row x))

def smA (e : FVec Ideal S8x4224x4224 .f32) : FVec Ideal S8x4224 .f32 :=
  Host.reduceAdd e (constant S_ .f32 0x00000000#32) reducesTo_S8x4224x4224_S8x4224_d2 h_S_

def yA (e : FVec Ideal S8x4224x4224 .f32) (z : FVec Ideal S8x4224 .f32) (v : FVec Ideal S4224x512 .bf16) : FVec Ideal S4224x512 .f32 :=
  shapeCast _ (transpose S4224x8x64 [2, 0, 1] (Host.dotGeneral dot_S4224x8x64_S8x4224x4224_S8x64x4224_0_2_2_1_1_0 none (shapeCast _ (extf .f32 v bitsLt_bf16_f32) shapeCasts_S4224x512_S4224x8x64) (Host.divf e (row z))) transposes_S8x64x4224_S4224x8x64_2_0_1) shapeCasts_S4224x8x64_S4224x512

section at_

variable (q k : FVec Ideal S8x4224x128 .bf16) (v : FVec Ideal S4224x512 .bf16) (s e : FVec Ideal S8x4224x4224 .f32) (x z : FVec Ideal S8x4224 .f32)
  (H : Fin 8) (R j : Fin 4224)

theorem scA_at : scA q k (ix3 H R j) = if j.val ≤ R.val then (∑ d : Fin 128, q (ix3 H R d) * k (ix3 H j d)) * s1 else (⊥ : EReal) := by
  pointwise [scA]
  rw [sel_le _ _ (by omega) (by omega)]
  exact if_congr Iff.rfl rfl inf_bot

theorem mxA_at : mxA s (ix2 H R) = Finset.fold max (⊥ : EReal) (fun j => s (ix3 H R j)) Finset.univ := by
  pointwise [mxA]
  rw [inf_bot]

theorem mxB_at : mxB x (ix2 H R) = x (ix2 H R) := by
  pointwise [mxB]
  rw [inf_bot]
  exact max_eq_right bot_le

theorem exA_at : exA s x (ix3 H R j) = Ideal.exp (s (ix3 H R j) - x (ix2 H R)) := by
  pointwise [exA, row]

theorem smA_at : smA e (ix2 H R) = ∑ j : Fin 4224, e (ix3 H R j) := by
  pointwise [smA]

theorem yA_at (f : Fin 64) : yA e z v (ix2 R (lane H f)) = ∑ j : Fin 4224, v (ix2 j (lane H f)) * Ideal.div (e (ix3 H R j)) (z (ix2 H R)) := by
  pointwise [yA, row]
  refine Finset.sum_congr rfl fun j _ => ?_
  rw [show (⟨(lane H f).val / 64, by have := (lane H f).isLt; omega⟩ : Fin 8) = H from Fin.ext (lane_div H f)]

end at_

def dpA (g : FVec Ideal S4224x512 .f32) (v : FVec Ideal S4224x512 .bf16) : FVec Ideal S8x4224x4224 .f32 :=
  Host.dotGeneral dot_S8x64x4224_S4224x8x64_S8x4224x4224_1_2_2_0_0_1 none (transpose S8x64x4224 [1, 2, 0] (shapeCast _ g shapeCasts_S4224x512_S4224x8x64) transposes_S4224x8x64_S8x64x4224_1_2_0) (shapeCast _ (extf .f32 v bitsLt_bf16_f32) shapeCasts_S4224x512_S4224x8x64)

def dmA (p e : FVec Ideal S8x4224x4224 .f32) (z : FVec Ideal S8x4224 .f32) : FVec Ideal S8x4224 .f32 :=
  Host.reduceAdd (Host.negf (shapeCast _ (Host.reduceAdd (mulf (mulf p (broadcastInDim S8x4224x4224 ![0, 1, 2] bcast_S8x4224x1_S8x4224x4224_0_1_2 (Host.divf (broadcastInDim S8x4224x1 ![] bcast_S_S8x4224x1 (constant S_ .f32 0x3F800000#32)) (mulf (broadcastInDim S8x4224x1 ![0, 1] bcast_S8x4224_S8x4224x1_0_1 z) (broadcastInDim S8x4224x1 ![0, 1] bcast_S8x4224_S8x4224x1_0_1 z))))) e) (constant S_ .f32 0x00000000#32) reducesTo_S8x4224x4224_S8x4224_d2 h_S_) shapeCasts_S8x4224_S8x4224x1)) (constant S_ .f32 0x00000000#32) reducesTo_S8x4224x1_S8x4224_d2 h_S_

def dsA (p e : FVec Ideal S8x4224x4224 .f32) (z d : FVec Ideal S8x4224 .f32) : FVec Ideal S8x4224x4224 .f32 :=
  mulf (addf (Host.divf p (row z)) (broadcastInDim S8x4224x4224 ![0, 1] bcast_S8x4224_S8x4224x4224_0_1 d)) e

def dqA (t : FVec Ideal S8x4224x4224 .f32) (k : FVec Ideal S8x4224x128 .bf16) : FVec Ideal S8x4224x128 .f32 :=
  Host.dotGeneral dot_S8x4224x4224_S8x4224x128_S8x4224x128_2_1_1_2_0_0 none
    (mulf (select (broadcastInDim S8x4224x4224 ![1, 2] bcast_S4224x4224_S8x4224x4224_1_2 (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))))
      t (broadcastInDim S8x4224x4224 ![] bcast_S_S8x4224x4224 (constant S_ .f32 0x00000000#32))) (broadcastInDim S8x4224x4224 ![] bcast_S_S8x4224x4224 (constant S_ .f32 0x3DD105EC#32))) (extf .f32 k bitsLt_bf16_f32)

def deA (g y : FVec Ideal S4224x512 .f32) : FVec Ideal S8x4224x1 .f32 :=
  broadcastInDim S8x4224x1 ![0, 1] bcast_S8x4224_S8x4224x1_0_1 (transpose S8x4224 [1, 0] (Host.reduceAdd (shapeCast _ (mulf g y) shapeCasts_S4224x512_S4224x8x64) (constant S_ .f32 0x00000000#32) reducesTo_S4224x8x64_S4224x8_d2 h_S_) transposes_S4224x8_S8x4224_1_0)

section at2

variable (q k : FVec Ideal S8x4224x128 .bf16) (v : FVec Ideal S4224x512 .bf16) (g y : FVec Ideal S4224x512 .f32) (p e t : FVec Ideal S8x4224x4224 .f32) (d z : FVec Ideal S8x4224 .f32)
  (H : Fin 8) (R j : Fin 4224)

theorem dpA_at : dpA g v (ix3 H R j) = ∑ f : Fin 64, g (ix2 R (lane H f)) * v (ix2 j (lane H f)) := by
  pointwise [dpA]
  refine Finset.sum_congr rfl fun f _ => ?_
  rw [lane_alt]

theorem dmA_at : dmA p e z (ix2 H R) = - ∑ j : Fin 4224, p (ix3 H R j) * Ideal.div 1 (z (ix2 H R) * z (ix2 H R)) * e (ix3 H R j) := by
  pointwise [dmA]
  exact Fintype.sum_unique _

theorem dsA_at : dsA p e z d (ix3 H R j) = (Ideal.div (p (ix3 H R j)) (z (ix2 H R)) + d (ix2 H R)) * e (ix3 H R j) := by
  pointwise [dsA, row]

theorem dqA_at (l : Fin 128) : dqA t k (ix3 H R l) = ∑ j : Fin 4224, if j.val ≤ R.val then t (ix3 H R j) * s1 * k (ix3 H j l) else (0 : EReal) := by
  pointwise [dqA]
  refine Finset.sum_congr rfl fun j _ => ?_
  rw [sel_le _ _ (by omega) (by omega)]
  rfl

theorem deA_at : deA g y (ix3 H R 0) = ∑ f : Fin 64, g (ix2 R (lane H f)) * y (ix2 R (lane H f)) := by
  pointwise [deA]
  refine Finset.sum_congr rfl fun f _ => ?_
  rw [lane_alt]

end at2

end Cert.Proof.R
end
-- ==== Proof.GlueR.lean ====
/- The reference's two results as the named arrays of its lines. -/
module

public import proofs.«01_k».proof.Proof.HostR

@[expose] public section

set_option maxRecDepth 16384

noncomputable section

namespace Cert.Proof.R

open Cert.ReferenceIdeal Cert.ReferenceIdeal.Gen
open Idealize.ShloMosaic Idealize.ShloMosaic.TcCoe

variable (m : (ℓ : Loc nD τ sig) → Buf (Elt Ideal) ℓ) (c : Dev nD)

def sc : FVec Ideal S8x4224x4224 .f32 := scA (m ((c.tc : Thread nD τ).loc main_arg0)) (m ((c.tc : Thread nD τ).loc main_arg1))
def ex : FVec Ideal S8x4224x4224 .f32 := exA (sc m c) (mxB (mxA (sc m c)))
def sm : FVec Ideal S8x4224 .f32 := smA (ex m c)
def dp : FVec Ideal S8x4224x4224 .f32 := dpA (m ((c.tc : Thread nD τ).loc main_arg3)) (m ((c.tc : Thread nD τ).loc main_arg2))

theorem v63_eq : Value.res_main_v63 m c
    = dqA (dsA (dp m c) (ex m c) (sm m c) (dmA (dp m c) (ex m c) (sm m c))) (m ((c.tc : Thread nD τ).loc main_arg1)) := by
  unfold Value.res_main_v63
  simp only [dqA, dsA, dmA, dp, dpA, sm, smA, ex, exA, sc, scA, mxA, mxB, row]

theorem v68_eq : Value.res_main_v68 m c
    = deA (m ((c.tc : Thread nD τ).loc main_arg3)) (yA (ex m c) (sm m c) (m ((c.tc : Thread nD τ).loc main_arg2))) := by
  unfold Value.res_main_v68
  simp only [deA, yA, sm, smA, ex, exA, sc, scA, mxA, mxB, row]
  rfl

end Cert.Proof.R

end
-- ==== Proof.Value.lean ====
/- The two programs' results are equal where the arguments are finite. -/
module

public import proofs.«01_k».proof.Proof.Real
public import proofs.«01_k».proof.Proof.Fin
public import proofs.«01_k».proof.Proof.GlueK
public import proofs.«01_k».proof.Proof.GlueR

@[expose] public section

set_option maxRecDepth 16384

noncomputable section

namespace Cert.Proof.Q

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (q k : FVec Ideal Cert.KernelIdeal.S8x4224x128 .bf16) (v : FVec Ideal Cert.KernelIdeal.S4224x512 .bf16) (g : FVec Ideal Cert.KernelIdeal.S4224x512 .f32)

/-- The reference's two results on four arrays. -/
def refQ : FVec Ideal Cert.ReferenceIdeal.S8x4224x128 .f32 :=
  let s := Cert.Proof.R.scA q k
  let e := Cert.Proof.R.exA s (Cert.Proof.R.mxB (Cert.Proof.R.mxA s))
  Cert.Proof.R.dqA (Cert.Proof.R.dsA (Cert.Proof.R.dpA g v) e (Cert.Proof.R.smA e) (Cert.Proof.R.dmA (Cert.Proof.R.dpA g v) e (Cert.Proof.R.smA e))) k

def refD : FVec Ideal Cert.ReferenceIdeal.S8x4224x1 .f32 :=
  let s := Cert.Proof.R.scA q k
  let e := Cert.Proof.R.exA s (Cert.Proof.R.mxB (Cert.Proof.R.mxA s))
  Cert.Proof.R.deA g (Cert.Proof.R.yA e (Cert.Proof.R.smA e) v)

section args

variable (hq : m ((c.tc : Thread Cert.KernelIdeal.nD Cert.KernelIdeal.τ).loc Cert.KernelIdeal.main_arg0) = q)
  (hk : m ((c.tc : Thread Cert.KernelIdeal.nD Cert.KernelIdeal.τ).loc Cert.KernelIdeal.main_arg1) = k)
  (hv : m ((c.tc : Thread Cert.KernelIdeal.nD Cert.KernelIdeal.τ).loc Cert.KernelIdeal.main_arg2) = v)
  (hg : m ((c.tc : Thread Cert.KernelIdeal.nD Cert.KernelIdeal.τ).loc Cert.KernelIdeal.main_arg3) = g)

include hq in
theorem aQ_eq (H : Fin 8) (R : Fin 4224) (d : Fin 128) : aQ m c H R d = q (ix3 H R d) := by
  unfold aQ; rw [Cert.KernelIdeal.Gen.V_main_arg0, hq]
include hk in
theorem aK_eq (H : Fin 8) (R : Fin 4224) (d : Fin 128) : aK m c H R d = k (ix3 H R d) := by
  unfold aK; rw [Cert.KernelIdeal.Gen.V_main_arg1, hk]
include hv in
theorem aV_eq (R : Fin 4224) (f : Fin 512) : aV m c R f = v (ix2 R f) := by
  unfold aV; rw [Cert.KernelIdeal.Gen.V_main_arg2, hv]
include hg in
theorem aG_eq (R : Fin 4224) (f : Fin 512) : aG m c R f = g (ix2 R f) := by
  unfold aG; rw [Cert.KernelIdeal.Gen.V_main_arg3, hg]

include hq hk in
theorem sc_eq : sc m c = Cert.Proof.R.scA q k := by
  unfold sc; rw [hq, hk]; rfl

variable (H : Fin 8) (R : Fin 4224)

/-- The scores and the exponentials of one row. -/
def es (j : Fin 4224) : EReal := Cert.Proof.R.scA q k (ix3 H R j)
def ms : EReal := Finset.fold max ⊥ (es q k H R) Finset.univ
def xs (j : Fin 4224) : EReal := Ideal.exp (es q k H R j - ms q k H R)
def zs : EReal := ∑ j, xs q k H R j

theorem kx (s : FVec Ideal Cert.KernelIdeal.S8x4224x4224 .f32) (hs : s = Cert.Proof.R.scA q k) (j : Fin 4224) :
    exA s (mxA s) (ix3 H R j) = xs q k H R j := by
  rw [exA_at, mxA_at, hs]; rfl
theorem kxb (s : FVec Ideal Cert.KernelIdeal.S8x4224x4224 .f32) (hs : s = Cert.Proof.R.scA q k) (j : Fin 4224) :
    exA s (mxB (mxA s)) (ix3 H R j) = xs q k H R j := by
  rw [exA_at, mxB_at, mxA_at, hs]; rfl
theorem rx (j : Fin 4224) : Cert.Proof.R.exA (Cert.Proof.R.scA q k) (Cert.Proof.R.mxB (Cert.Proof.R.mxA (Cert.Proof.R.scA q k))) (ix3 H R j) = xs q k H R j := by
  rw [Cert.Proof.R.exA_at, Cert.Proof.R.mxB_at, Cert.Proof.R.mxA_at]; rfl
theorem rz : Cert.Proof.R.smA (Cert.Proof.R.exA (Cert.Proof.R.scA q k) (Cert.Proof.R.mxB (Cert.Proof.R.mxA (Cert.Proof.R.scA q k)))) (ix2 H R) = zs q k H R := by
  rw [Cert.Proof.R.smA_at]; exact Finset.sum_congr rfl fun j _ => rx q k H R j

include hq hk in
theorem aL_eq : aL m c H R = Ideal.div (ms q k H R + Ideal.log (zs q k H R)) (Ideal.log (Ideal.ofBits .f32 0x40000000#32)) := by
  unfold aL
  rw [v23_eq, lsA_at, mxA_at, smA_at, sc_eq m c q k hq hk]
  have e : (∑ j, exa m c (ix3 H R j)) = zs q k H R := Finset.sum_congr rfl fun j _ => kx q k H R _ (sc_eq m c q k hq hk) j
  rw [e]
  rfl

/-- The saved output, one head and one row. -/
def ys (f : Fin 64) : EReal := ∑ j, v (ix2 j (lane H f)) * Ideal.div (xs q k H R j) (zs q k H R)

include hq hk hv in
theorem aY_eq (f : Fin 64) : aY m c R (lane H f) = ys q k v H R f := by
  unfold aY
  rw [v51_eq, yA_at, smA_at, hv]
  have e : ∀ j, exb m c (ix3 H R j) = xs q k H R j := fun j => kxb q k H R _ (sc_eq m c q k hq hk) j
  simp only [e]
  rfl

include hq hk hv hg in
theorem dAt_eq : dAt m c H R = ∑ f, g (ix2 R (lane H f)) * ys q k v H R f := by
  unfold dAt
  simp only [aG_eq m c g hg, aY_eq m c q k v hq hk hv]

include hq hk hv hg in
theorem delta_eq : dAt m c H R = refD q k v g (ix3 H R 0) := by
  rw [dAt_eq m c q k v g hq hk hv hg]
  unfold refD
  rw [Cert.Proof.R.deA_at]
  refine Finset.sum_congr rfl fun f _ => ?_
  rw [Cert.Proof.R.yA_at, rz]
  simp only [rx]
  rfl

include hq hk hv hg in
theorem grad_eq (fq : ∀ i, ∃ r : ℝ, q i = (r : EReal)) (fk : ∀ i, ∃ r : ℝ, k i = (r : EReal)) (fv : ∀ i, ∃ r : ℝ, v i = (r : EReal))
    (fg : ∀ i, ∃ r : ℝ, g i = (r : EReal)) (l : Fin 128) : qAt m c H R l = refQ q k v g (ix3 H R l) := by
  choose Fq hFq using fq
  choose Fk hFk using fk
  choose Fv hFv using fv
  choose Fg hFg using fg
  obtain ⟨e, z, hz, hX, hZ, h0, hp⟩ := reals 4224 R (fun d => Fq (ix3 H R d)) (fun j d => Fk (ix3 H j d)) (es q k H R) (xs q k H R) (ms q k H R)
    (zs q k H R) _ (fun j => by simp only [es, Cert.Proof.R.scA_at, hFq, hFk]) rfl (fun j => rfl) rfl rfl
  obtain ⟨s, s0, hs, ht⟩ := ds_eq 4224 R (xs q k H R) (zs q k H R) (fun j f => Fv (ix2 j (lane H f))) (fun f => Fg (ix2 R (lane H f))) (ys q k v H R)
    (fun j => Cert.Proof.R.dpA g v (ix3 H R j)) (∑ f, g (ix2 R (lane H f)) * ys q k v H R f)
    (- ∑ j, Cert.Proof.R.dpA g v (ix3 H R j) * Ideal.div 1 (zs q k H R * zs q k H R) * xs q k H R j)
    e z hz hX hZ h0 (fun f => by simp only [ys, hFv]) (by simp only [hFg]) (fun j => by simp only [Cert.Proof.R.dpA_at, hFg, hFv]) rfl
  have e1 : ∀ j, dsAt m c H R j = (s j : EReal) := fun j => by
    rw [← hs j, ← hp j]
    unfold dsAt
    rw [dAt_eq m c q k v g hq hk hv hg, aL_eq m c q k hq hk]
    simp only [aQ_eq m c q hq, aK_eq m c k hk, aV_eq m c v hv, aG_eq m c g hg, hFq, hFk, hFg, hFv]
  have e2 : ∀ j, (Cert.Proof.R.dsA (Cert.Proof.R.dpA g v) (Cert.Proof.R.exA (Cert.Proof.R.scA q k) (Cert.Proof.R.mxB (Cert.Proof.R.mxA (Cert.Proof.R.scA q k)))) (Cert.Proof.R.smA (Cert.Proof.R.exA (Cert.Proof.R.scA q k) (Cert.Proof.R.mxB (Cert.Proof.R.mxA (Cert.Proof.R.scA q k)))))
      (Cert.Proof.R.dmA (Cert.Proof.R.dpA g v) (Cert.Proof.R.exA (Cert.Proof.R.scA q k) (Cert.Proof.R.mxB (Cert.Proof.R.mxA (Cert.Proof.R.scA q k)))) (Cert.Proof.R.smA (Cert.Proof.R.exA (Cert.Proof.R.scA q k) (Cert.Proof.R.mxB (Cert.Proof.R.mxA (Cert.Proof.R.scA q k))))))) (ix3 H R j) = (s j : EReal) := fun j => by
    rw [← ht j, Cert.Proof.R.dsA_at, Cert.Proof.R.dmA_at, rz, rx]
    simp only [rx]
  unfold refQ qAt
  rw [Cert.Proof.R.dqA_at]
  simp only [e1, e2, aK_eq m c k hk, hFk, s1_eq, ← EReal.coe_mul]
  have e3 : ∀ j, (if j.val ≤ R.val then ((s j * (13698540 * 134217728⁻¹) * Fk (ix3 H j l) : ℝ) : EReal) else (0 : EReal))
      = ((s j * (13698540 * 134217728⁻¹) * Fk (ix3 H j l) : ℝ) : EReal) := fun j => by
    by_cases h : j.val ≤ R.val
    · rw [if_pos h]
    · rw [if_neg h, s0 j h, zero_mul, zero_mul]; rfl
  rw [Finset.sum_congr rfl fun j _ => e3 j, ← coe_sum, ← coe_sum, ← EReal.coe_mul, Finset.sum_mul]
  congr 1
  exact Finset.sum_congr rfl fun j _ => by ring

end args

end Cert.Proof.Q

end
-- ==== Proof.Algebraic.lean ====
/- The value claim: from memories that agree on finite arguments both programs end with the same two arrays. -/
module

public import proofs.«01_k».proof.Proof.Value
public import proofs.«01_k».proof.Proof.Frames

@[expose] public section

set_option maxRecDepth 16384
set_option maxHeartbeats 2000000

noncomputable section

namespace Cert.Proof

open Idealize.ShloMosaic Idealize.ShloMosaic.TcCoe Idealize.SL.Sem

section eqs

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (q k : FVec Ideal Cert.KernelIdeal.S8x4224x128 .bf16) (v : FVec Ideal Cert.KernelIdeal.S4224x512 .bf16) (g : FVec Ideal Cert.KernelIdeal.S4224x512 .f32)
  (hq : m ((c.tc : Thread Cert.KernelIdeal.nD Cert.KernelIdeal.τ).loc Cert.KernelIdeal.main_arg0) = q)
  (hk : m ((c.tc : Thread Cert.KernelIdeal.nD Cert.KernelIdeal.τ).loc Cert.KernelIdeal.main_arg1) = k)
  (hv : m ((c.tc : Thread Cert.KernelIdeal.nD Cert.KernelIdeal.τ).loc Cert.KernelIdeal.main_arg2) = v)
  (hg : m ((c.tc : Thread Cert.KernelIdeal.nD Cert.KernelIdeal.τ).loc Cert.KernelIdeal.main_arg3) = g)
  (hq' : m' ((c.tc : Thread Cert.ReferenceIdeal.nD Cert.ReferenceIdeal.τ).loc Cert.ReferenceIdeal.main_arg0) = q)
  (hk' : m' ((c.tc : Thread Cert.ReferenceIdeal.nD Cert.ReferenceIdeal.τ).loc Cert.ReferenceIdeal.main_arg1) = k)
  (hv' : m' ((c.tc : Thread Cert.ReferenceIdeal.nD Cert.ReferenceIdeal.τ).loc Cert.ReferenceIdeal.main_arg2) = v)
  (hg' : m' ((c.tc : Thread Cert.ReferenceIdeal.nD Cert.ReferenceIdeal.τ).loc Cert.ReferenceIdeal.main_arg3) = g)

include hq' hk' hv' hg' in
theorem ref_q : Cert.ReferenceIdeal.Value.res_main_v63 m' c = Q.refQ q k v g := by
  rw [R.v63_eq]
  unfold R.sm R.ex R.sc R.dp Q.refQ
  rw [hq', hk', hv', hg']

include hq' hk' hv' hg' in
theorem ref_d : Cert.ReferenceIdeal.Value.res_main_v68 m' c = Q.refD q k v g := by
  rw [R.v68_eq]
  unfold R.sm R.ex R.sc Q.refD
  rw [hq', hk', hv', hg']

include hq hk hv hg in
theorem ker_q (h : Cert.Pre_finite.Facts) (hp : Cert.Pre_finite.fn (F := Ideal) q k v g = fun _ => 1#1) :
    (Q.dats m 0 c).arrAt 6 Cert.KernelIdeal.cfg0.N = Q.refQ q k v g := by
  rw [Q.arrQ]
  obtain ⟨fq, fk, fv, fg⟩ := finite_reals q k v g hp
  funext j
  idx_vars j
  exact Q.grad_eq m c q k v g hq hk hv hg _ _ fq fk fv fg _

include hq hk hv hg in
theorem ker_d : (Q.dats m 0 c).arrAt 7 Cert.KernelIdeal.cfg0.N = Q.refD q k v g := by
  rw [Q.arrD]
  funext j
  idx_vars j
  obtain rfl : j2 = 0 := Subsingleton.elim _ _
  exact Q.delta_eq m c q k v g hq hk hv hg _ _

end eqs

theorem algebraic : Cert.algebraic_KernelIdeal_ReferenceIdeal_pre_finite (hPre_finite := pre_facts) := by
  haveI := pre_facts
  intro m g m' g' hpre hagree
  refine ⟨fun c => Q.refQ (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Q.refD (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Q.run_main m g)
    have hc := (h.1 c).1
    refine ⟨?_, ?_, ?_, ?_, ?_, ?_⟩
    · exact (hc 6).trans (ker_q m c _ _ _ _ rfl rfl rfl rfl pre_facts (hpre c))
    · exact (hc 7).trans (ker_d m c _ _ _ _ rfl rfl rfl rfl)
    · exact (hc 0).trans (((Q.dats m 0 c).arrAt_in 0 rfl _).trans (Cert.KernelIdeal.Gen.V_main_arg0 m c))
    · exact (hc 1).trans (((Q.dats m 0 c).arrAt_in 1 rfl _).trans (Cert.KernelIdeal.Gen.V_main_arg1 m c))
    · exact (hc 2).trans (((Q.dats m 0 c).arrAt_in 2 rfl _).trans (Cert.KernelIdeal.Gen.V_main_arg2 m c))
    · exact (hc 3).trans (((Q.dats m 0 c).arrAt_in 3 rfl _).trans (Cert.KernelIdeal.Gen.V_main_arg3 m c))
  · refine (θ_run Cert.ReferenceIdeal.defs _ _).mono (fun r h c => ?_) (Cert.ReferenceIdeal.Value.run (F := Ideal) m' g')
    obtain ⟨a0, a1, a2, a3⟩ := hagree c
    obtain ⟨h0, h1, hr⟩ := h c
    exact ⟨h0.trans (ref_q m' c _ _ _ _ a0 a1 a2 a3), h1.trans (ref_d m' c _ _ _ _ a0 a1 a2 a3), hr⟩

end Cert.Proof

end
-- ==== Proof.Norm.lean ====
/- The backward of the root-mean-square normalization of one row: the kernel's expression is the one that differentiating
   the normalization gives, at any extended reals. -/
module

public import Idealize.ShloMosaic.PureOps.Ideal

@[expose] public section

set_option maxRecDepth 16384

noncomputable section

namespace Cert.Proof.N

open Idealize.ShloMosaic

/-- The row's length, the regularizer and minus one half, as the programs write them. -/
def nf : EReal := Ideal.ofBits .f32 0x44800000#32
def ne : EReal := Ideal.ofBits .f32 0x358637BD#32
def mh : EReal := Ideal.ofBits .f32 0xBF000000#32

theorem nf_eq : nf = ((1024 : ℝ) : EReal) := by
  rw [nf]
  simp [Ideal.ofBits, Ideal.ieee, -EReal.coe_mul]
  norm_num
theorem mh_eq : mh = ((-(1 / 2) : ℝ) : EReal) := by
  rw [mh]
  simp [Ideal.ofBits, Ideal.ieee, -EReal.coe_mul]
  norm_num
theorem ne_eq : ∃ e : ℝ, 0 < e ∧ ne = (e : EReal) := by
  rw [ne]
  refine ⟨_, ?_, by simp only [Ideal.ofBits, Ideal.ieee]; simp [-EReal.coe_mul]; rfl⟩
  norm_num

variable {n : ℕ}

/-- The mean of the squares, regularized, and its inverse root. -/
def ms (x : Fin n → EReal) : EReal := Ideal.div (∑ d, x d * x d) nf + ne
def rr (x : Fin n → EReal) : EReal := Ideal.rsqrt (ms x)

theorem sq_nonneg (a : EReal) : 0 ≤ a * a := by
  rcases le_total 0 a with h | h
  · exact mul_nonneg h h
  · exact EReal.mul_nonneg_iff.mpr (Or.inr ⟨h, h⟩)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem twice (a : EReal) : a + a = ((2 : ℝ) : EReal) * a := by
  have h := EReal.right_distrib_of_nonneg (a := 1) (b := 1) (c := a) zero_le_one zero_le_one
  rw [one_mul] at h
  rw [← h]
  congr 1
  rw [← EReal.coe_one, ← EReal.coe_add]
  norm_num

theorem mul_sum {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem div_nf (a : EReal) : Ideal.div a nf = a * (((1024 : ℝ)⁻¹ : ℝ) : EReal) := by
  rw [nf_eq, Ideal.div_coe (by norm_num), one_div]

/-- Either some entry is infinite and the inverse root is zero, or every entry is a real number and the inverse root is a positive one. -/
theorem cases_row (x : Fin n → EReal) :
    (ms x = ⊤ ∧ rr x = 0) ∨ ∃ (y : Fin n → ℝ) (v : ℝ), 0 < v ∧ (∀ d, x d = (y d : EReal)) ∧ ms x = (v : EReal) ∧ rr x = (((Real.sqrt v)⁻¹ : ℝ) : EReal) := by
  obtain ⟨e, he, hne⟩ := ne_eq
  by_cases hx : ∃ d, x d = ⊤ ∨ x d = ⊥
  · left
    obtain ⟨d, hd⟩ := hx
    have h1 : x d * x d = ⊤ := by rcases hd with h | h <;> rw [h] <;> simp
    have h2 : (∑ d, x d * x d) = ⊤ := top_le_iff.mp (h1 ▸ Finset.single_le_sum (f := fun d => x d * x d) (fun i _ => sq_nonneg (x i)) (Finset.mem_univ d))
    have h3 : ms x = ⊤ := by
      unfold ms
      rw [h2, div_nf, hne, EReal.top_mul_coe_of_pos (by norm_num)]
      exact EReal.top_add_coe e
    exact ⟨h3, by unfold rr; rw [h3]; simp⟩
  · right
    have hy : ∀ d, x d = ((x d).toReal : EReal) := fun d => by
      rw [EReal.coe_toReal]
      · exact fun h => hx ⟨d, Or.inl h⟩
      · exact fun h => hx ⟨d, Or.inr h⟩
    have h2 : (∑ d, x d * x d) = ((∑ d, (x d).toReal * (x d).toReal : ℝ) : EReal) := by
      rw [coe_sum]
      refine Finset.sum_congr rfl fun d _ => ?_
      rw [EReal.coe_mul, ← hy d]
    have hp : 0 < (∑ d, (x d).toReal * (x d).toReal) * (1024 : ℝ)⁻¹ + e :=
      add_pos_of_nonneg_of_pos (mul_nonneg (Finset.sum_nonneg fun d _ => mul_self_nonneg _) (by norm_num)) he
    refine ⟨fun d => (x d).toReal, (∑ d, (x d).toReal * (x d).toReal) * (1024 : ℝ)⁻¹ + e, hp, hy, ?_, ?_⟩
    · unfold ms
      rw [h2, div_nf, hne, ← EReal.coe_mul, ← EReal.coe_add]
    · unfold rr ms
      rw [h2, div_nf, hne, ← EReal.coe_mul, ← EReal.coe_add, Ideal.rsqrt_coe, if_neg (not_lt.mpr hp.le), if_neg hp.ne']

/-- The kernel's expression. -/
def kdx (dh : EReal) (x t : Fin n → EReal) (d : Fin n) : EReal :=
  dh + rr x * (t d - x d * rr x * Ideal.div (∑ e, t e * (x e * rr x)) nf)

/-- The derivative's share of the mean of the squares. -/
def rs (x t : Fin n → EReal) : EReal := Ideal.div ((∑ e, x e * t e) * (mh * Ideal.div (rr x) (ms x))) nf

/-- The expression that differentiating gives. -/
def rdx (dh : EReal) (x t : Fin n → EReal) (d : Fin n) : EReal :=
  dh + t d * rr x + x d * rs x t + rs x t * x d

theorem kdx_eq (dh : EReal) (x t : Fin n → EReal) (d : Fin n) : kdx dh x t d = rdx dh x t d := by
  unfold kdx rdx rs
  rcases cases_row x with ⟨h1, h2⟩ | ⟨y, v, hv, hy, h1, h2⟩
  · rw [h1, h2]
    have h3 : Ideal.div 0 ⊤ = 0 := by simp [Ideal.div]
    rw [h3]
    simp only [mul_zero, zero_mul, Finset.sum_const_zero, div_nf, add_zero]
  · have hs : (Real.sqrt v)⁻¹ * (Real.sqrt v)⁻¹ = 1 / v := by
      rw [← mul_inv, Real.mul_self_sqrt hv.le, one_div]
    have hr : (0 : ℝ) ≤ (Real.sqrt v)⁻¹ := inv_nonneg.mpr (Real.sqrt_nonneg v)
    rw [h1, h2]
    generalize (Real.sqrt v)⁻¹ = ρ at hs hr
    simp only [hy, div_nf, mh_eq, Ideal.div_coe hv.ne']
    have hA : (∑ e, t e * ((y e : EReal) * (ρ : EReal))) = (ρ : EReal) * ∑ e, (y e : EReal) * t e := by
      rw [mul_sum ρ hr]
      exact Finset.sum_congr rfl fun e _ => by ac_rfl
    rw [hA]
    generalize (∑ e, (y e : EReal) * t e) = A
    rw [sub_eq_add_neg, EReal.left_distrib_of_nonneg_of_ne_top (EReal.coe_nonneg.mpr hr) (EReal.coe_ne_top ρ), add_assoc, add_assoc]
    have e2 : A * ((-(1 / 2) : ℝ) * ((ρ : EReal) * ((1 / v : ℝ) : EReal))) * ((1024 : ℝ)⁻¹ : ℝ) * (y d : EReal) = A * ((-(1 / 2) * (ρ * (1 / v)) * 1024⁻¹ * y d : ℝ) : EReal) := by
      simp only [EReal.coe_mul, mul_assoc]
    have e1 : (ρ : EReal) * -((y d : EReal) * ρ * (ρ * A * ((1024 : ℝ)⁻¹ : ℝ))) = A * ((-(ρ * ρ * ρ * 1024⁻¹ * y d) : ℝ) : EReal) := by
      rw [EReal.coe_neg, mul_neg, mul_neg]
      simp only [EReal.coe_mul]
      congr 1
      ac_rfl
    rw [e1, mul_comm (y d : EReal) (_ * _), e2, twice, mul_comm (ρ : EReal) (t d)]
    congr 2
    rw [mul_comm ((2 : ℝ) : EReal), mul_assoc A, ← EReal.coe_mul]
    congr 2
    rw [← hs]
    ring

end Cert.Proof.N

end
-- ==== Proof.UpK.lean ====
/- The backward of the two up projections and the norm before them, as the kernel computes it: its three arrays after the
   run, at an entry, as functions of the arrays that the call is given. -/
module

public import proofs.«01_k».proof.Proof.Norm
public import proofs.«01_k».proof.Proof.Gen.KernelUpIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.U

open Cert.KernelUpIdeal Cert.KernelUpIdeal.Gen
open Idealize.ShloMosaic Idealize.ShloMosaic.TcCoe

/-! ### One block -/

section block

variable (x : Vec Ideal S384x1024 .f32) (g : Vec Ideal S1x1024 .f32) (a b : Vec Ideal S384x2816 .bf16) (p q : Vec Ideal S2816x1024 .bf16)
  (h : Vec Ideal S384x1024 .f32) (z : Vec Ideal S1x1024 .f32) (y s : FVec Ideal S384x1024 .f32) (R : Fin 384) (d : Fin 1024)

theorem inv_at : k0_pay5 x (ix2 R 0) = N.rr fun e : Fin 1024 => x (ix2 R e) := by
  pointwise [k0_pay5]
  rfl

theorem nrm_at : k0_pay6 x (ix2 R d) = x (ix2 R d) * N.rr fun e : Fin 1024 => x (ix2 R e) := by
  pointwise [k0_pay6]
  rw [inv_at]

theorem u_at : k0_pay7 g x (ix2 R d) = x (ix2 R d) * (N.rr fun e : Fin 1024 => x (ix2 R e)) * g (ix2 0 d) := by
  pointwise [k0_pay7, k0_pay4]
  rw [nrm_at]

theorem dn_at : k0_pay8 a p b q (ix2 R d) = (∑ f : Fin 2816, a (ix2 R f) * p (ix2 f d)) + ∑ f : Fin 2816, b (ix2 R f) * q (ix2 f d) := by
  pointwise [k0_pay8]

theorem gr_at (v : FVec Ideal S384x1024 .f32) (hv : k0_pay8 a p b q = v) :
    k0_pay9 g x a p b q (ix2 R d) = v (ix2 R d) * g (ix2 0 d) - x (ix2 R d) * (N.rr fun e : Fin 1024 => x (ix2 R e))
      * Ideal.div (∑ e : Fin 1024, v (ix2 R e) * g (ix2 0 e) * (x (ix2 R e) * N.rr fun e : Fin 1024 => x (ix2 R e))) N.nf := by
  pointwise [k0_pay9, k0_pay4]
  simp only [nrm_at, hv]
  rfl

theorem out_at (w : FVec Ideal S384x1024 .f32) : k0_pay2 w (k0_pay10 x) h (ix2 R d) = h (ix2 R d) + (N.rr fun e : Fin 1024 => x (ix2 R e)) * w (ix2 R d) := by
  pointwise [k0_pay2, k0_pay10]
  rw [inv_at]

theorem dg_at : k0_pay1 y s (ix2 0 d) = ∑ R : Fin 384, s (ix2 R d) * y (ix2 R d) := by
  pointwise [k0_pay1]

theorem acc_at : k0_pay3 y s z (ix2 0 d) = z (ix2 0 d) + ∑ R : Fin 384, s (ix2 R d) * y (ix2 R d) := by
  pointwise [k0_pay3, k0_pay1]

end block

variable (m : (ℓ : Loc nD τ sig) → Buf (Elt Ideal) ℓ) (c : Dev nD)

theorem index_eq : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0]
    ∧ win0_9.index t = ![0, 0] := by
  decide +kernel

theorem N_eq : cfg0.N = 11 := by decide +kernel
theorem t_lt (t : Fin cfg0.N) : t.val < 11 := N_eq ▸ t.isLt

/-- The arrays that the call is given, at an entry. -/
def aH (R : Fin 4224) (d : Fin 1024) : EReal := V m c main_arg0 (ix2 R d)
def aX (R : Fin 4224) (d : Fin 1024) : EReal := V m c main_arg1 (ix2 R d)
def aA (R : Fin 4224) (f : Fin 2816) : EReal := V m c main_arg2 (ix2 R f)
def aB (R : Fin 4224) (f : Fin 2816) : EReal := V m c main_arg3 (ix2 R f)
def aG (d : Fin 1024) : EReal := V m c main_v0 (ix2 0 d)
def aP (f : Fin 2816) (d : Fin 1024) : EReal := V m c main_v2 (ix2 f d)
def aQ (f : Fin 2816) (d : Fin 1024) : EReal := V m c main_v4 (ix2 f d)

def rw_ (t : Fin cfg0.N) (r : Fin 384) : Fin 4224 := ⟨t.val * 384 + r.val, by have := t_lt t; omega⟩

section blocks
variable (t : Fin cfg0.N) (r : Fin 384) (d : Fin 1024) (f : Fin 2816)
theorem blk0 : iblk m c 0 t (ix2 r d) = aH m c (rw_ t r) d := by
  unfold aH; blk_ext [iblk, rw_, index_eq t]
theorem blk1 : iblk m c 1 t (ix2 r d) = aX m c (rw_ t r) d := by
  unfold aX; blk_ext [iblk, rw_, index_eq t]
theorem blk2 : iblk m c 2 t (ix2 r f) = aA m c (rw_ t r) f := by
  unfold aA; blk_ext [iblk, rw_, index_eq t]
theorem blk3 : iblk m c 3 t (ix2 r f) = aB m c (rw_ t r) f := by
  unfold aB; blk_ext [iblk, rw_, index_eq t]
theorem blk4 : iblk m c 4 t (ix2 0 d) = aG m c d := by
  unfold aG; blk_ext [iblk, rw_, index_eq t]
theorem blk5 : iblk m c 5 t (ix2 f d) = aP m c f d := by
  unfold aP; blk_ext [iblk, rw_, index_eq t]
theorem blk6 : iblk m c 6 t (ix2 f d) = aQ m c f d := by
  unfold aQ; blk_ext [iblk, rw_, index_eq t]
end blocks

/-- The gradient of the norm's output. -/
def dn (R : Fin 4224) (d : Fin 1024) : EReal := (∑ f, aA m c R f * aP m c f d) + ∑ f, aB m c R f * aQ m c f d

/-- The entries of the three arrays. -/
def hAt (R : Fin 4224) (d : Fin 1024) : EReal := N.kdx (aH m c R d) (aX m c R) (fun e => dn m c R e * aG m c e) d
def uAt (R : Fin 4224) (d : Fin 1024) : EReal := aX m c R d * N.rr (aX m c R) * aG m c d
def gAt (d : Fin 1024) : EReal := ∑ R, dn m c R d * (aX m c R d * N.rr (aX m c R))

theorem dn_blk (t : Fin cfg0.N) (r : Fin 384) (d : Fin 1024) :
    k0_pay8 (iblk m c 2 t) (iblk m c 5 t) (iblk m c 3 t) (iblk m c 6 t) (ix2 r d) = dn m c (rw_ t r) d := by
  refine (dn_at _ _ _ _ r d).trans (congrArg₂ (· + ·) ?_ ?_)
  · exact Finset.sum_congr rfl fun f _ => congrArg₂ (· * ·) (blk2 m c t r f) (blk5 m c t d f)
  · exact Finset.sum_congr rfl fun f _ => congrArg₂ (· * ·) (blk3 m c t r f) (blk6 m c t d f)

theorem rr_blk (t : Fin cfg0.N) (r : Fin 384) : (N.rr fun e : Fin 1024 => iblk m c 1 t (ix2 r e)) = N.rr (aX m c (rw_ t r)) :=
  congrArg N.rr (funext fun e => blk1 m c t r e)

theorem out7 (t : Fin cfg0.N) : (outsAt0 m c t.val t.isLt).1
    = k0_pay2 (k0_pay9 (iblk m c 4 t) (iblk m c 1 t) (iblk m c 2 t) (iblk m c 5 t) (iblk m c 3 t) (iblk m c 6 t)) (k0_pay10 (iblk m c 1 t)) (iblk m c 0 t) := by
  by_cases h : t.val = 0
  · rw [outsAt0_A m c t (by omega) (by omega)]; frame_out
  · rw [outsAt0_B m c t (by have := t_lt t; omega) (by omega)]; frame_out

theorem out8 (t : Fin cfg0.N) : (outsAt0 m c t.val t.isLt).2.1 = k0_pay7 (iblk m c 4 t) (iblk m c 1 t) := by
  by_cases h : t.val = 0
  · rw [outsAt0_A m c t (by omega) (by omega)]; frame_out
  · rw [outsAt0_B m c t (by have := t_lt t; omega) (by omega)]; frame_out

theorem out9_A (t : Fin cfg0.N) (h : t.val % 11 = 0) : (outsAt0 m c t.val t.isLt).2.2
    = k0_pay1 (k0_pay6 (iblk m c 1 t)) (k0_pay8 (iblk m c 2 t) (iblk m c 5 t) (iblk m c 3 t) (iblk m c 6 t)) := by
  rw [outsAt0_A m c t h (by have := t_lt t; omega)]; frame_out

theorem out9_B (t : Fin cfg0.N) (h : ¬ t.val % 11 = 0) : (outsAt0 m c t.val t.isLt).2.2
    = k0_pay3 (k0_pay6 (iblk m c 1 t)) (k0_pay8 (iblk m c 2 t) (iblk m c 5 t) (iblk m c 3 t) (iblk m c 6 t)) (outsAt0 m c (t.val - 1) (Nat.lt_of_le_of_lt (Nat.sub_le _ _) t.isLt)).2.2 := by
  rw [outsAt0_B m c t h (by have := t_lt t; omega)]; frame_out

theorem h_at (t : Fin cfg0.N) (r : Fin 384) (d : Fin 1024) : (outsAt0 m c t.val t.isLt).1 (ix2 r d) = hAt m c (rw_ t r) d := by
  rw [out7]
  refine (out_at _ _ r d _).trans ?_
  unfold hAt N.kdx
  refine congrArg₂ (· + ·) (blk0 m c t r d) (congrArg₂ (· * ·) (rr_blk m c t r) ((gr_at _ _ _ _ _ _ r d _ rfl).trans ?_))
  refine congrArg₂ (· - ·) (congrArg₂ (· * ·) (dn_blk m c t r d) (blk4 m c t d)) ?_
  refine congrArg₂ (· * ·) (congrArg₂ (· * ·) (blk1 m c t r d) (rr_blk m c t r)) (congrArg (Ideal.div · N.nf) ?_)
  exact Finset.sum_congr rfl fun e _ => congrArg₂ (· * ·) (congrArg₂ (· * ·) (dn_blk m c t r e) (blk4 m c t e)) (congrArg₂ (· * ·) (blk1 m c t r e) (rr_blk m c t r))

theorem u_at' (t : Fin cfg0.N) (r : Fin 384) (d : Fin 1024) : (outsAt0 m c t.val t.isLt).2.1 (ix2 r d) = uAt m c (rw_ t r) d := by
  rw [out8]
  exact (u_at _ _ r d).trans (congrArg₂ (· * ·) (congrArg₂ (· * ·) (blk1 m c t r d) (rr_blk m c t r)) (blk4 m c t d))

/-- What point `t` adds at an entry of the gain's gradient. -/
def term (t : Fin cfg0.N) (j : S1x1024.Idx) : EReal :=
  ∑ r : Fin 384, dn m c (rw_ t r) (j 1) * (aX m c (rw_ t r) (j 1) * N.rr (aX m c (rw_ t r)))

theorem dg_term (t : Fin cfg0.N) (d : Fin 1024) :
    (∑ r : Fin 384, k0_pay8 (iblk m c 2 t) (iblk m c 5 t) (iblk m c 3 t) (iblk m c 6 t) (ix2 r d) * k0_pay6 (iblk m c 1 t) (ix2 r d)) = term m c t (ix2 0 d) :=
  Finset.sum_congr rfl fun r _ => congrArg₂ (· * ·) (dn_blk m c t r d) ((nrm_at _ r d).trans (congrArg₂ (· * ·) (blk1 m c t r d) (rr_blk m c t r)))

theorem g_at (t : Fin cfg0.N) (h : t.val % 11 = 10) (d : Fin 1024) : (outsAt0 m c t.val t.isLt).2.2 (ix2 0 d) = gAt m c d := by
  have key := Pipeline.eq_sum_fin_of_reset_step_apply_of_flush (fun n h => (outsAt0 m c n h).2.2) 11 (fun _ => (0 : EReal)) (term m c)
    (fun t h j => by
      idx_vars j
      obtain rfl : j0 = 0 := Subsingleton.elim _ _
      refine (congrFun (out9_A m c t h) _).trans (((dg_at _ _ j1).trans (dg_term m c t j1)).trans (zero_add _).symm))
    (fun t h j => by
      idx_vars j
      obtain rfl : j0 = 0 := Subsingleton.elim _ _
      exact (congrFun (out9_B m c t h) _).trans ((acc_at _ _ _ j1).trans (congrArg (_ + ·) (dg_term m c t j1))))
    t h (ix2 0 d)
  refine key.trans ((zero_add _).trans ?_)
  unfold gAt term
  have e1 : t.val / 11 = 0 := by have := t_lt t; omega
  refine Fin.sum_mul_add_congr fun s k hl => ?_
  have e : rw_ ⟨11 * (t.val / 11) + s.val, by rw [e1, N_eq]; omega⟩ k = ⟨s.val * 384 + k.val, hl⟩ := Fin.ext (by unfold rw_; simp [e1])
  simp only [e]
  rfl

/-! ### The arrays after the run -/

theorem arrH : (dats m 0 c).arrAt 7 cfg0.N = fun j => hAt m c (j 0) (j 1) := by
  refine (dats m 0 c).arrAt_eq_of_covers 7 _ (by decide +kernel) fun t hf y => ?_
  rw [after0_7]
  blk_simp [index_eq t]
  idx_vars y
  refine (h_at m c t y0 y1).trans (congrArg₂ (hAt m c) (Fin.ext ?_) (Fin.ext ?_))
  · blk_simp [index_eq t, rw_]
    first | done | rfl | (simp [ix2]; omega)
  · blk_simp [index_eq t]
    first | done | rfl | (simp [ix2]; omega)

theorem arrU : (dats m 0 c).arrAt 8 cfg0.N = fun j => uAt m c (j 0) (j 1) := by
  refine (dats m 0 c).arrAt_eq_of_covers 8 _ (by decide +kernel) fun t hf y => ?_
  rw [after0_8]
  blk_simp [index_eq t]
  idx_vars y
  refine (u_at' m c t y0 y1).trans (congrArg₂ (uAt m c) (Fin.ext ?_) (Fin.ext ?_))
  · blk_simp [index_eq t, rw_]
    first | done | rfl | (simp [ix2]; omega)
  · blk_simp [index_eq t]
    first | done | rfl | (simp [ix2]; omega)

theorem arrG : (dats m 0 c).arrAt 9 cfg0.N = fun j => gAt m c (j 1) := by
  refine (dats m 0 c).arrAt_eq_of_covers 9 _ (by decide +kernel) fun t hf y => ?_
  have h3 := (flush0_9 t).mp hf
  rw [after0_9]
  blk_simp [index_eq t]
  idx_vars y
  obtain rfl : y0 = 0 := Subsingleton.elim _ _
  refine (g_at m c t h3 y1).trans (congrArg (gAt m c) (Fin.ext ?_))
  blk_simp [index_eq t]
  first | done | rfl | (simp [ix2]; omega)

end Cert.Proof.U

end
-- ==== Proof.UpR.lean ====
/- The plain reference of the backward of the up projections and the norm: its lines as named arrays, each at an entry. -/
module

public import proofs.«01_k».proof.Proof.Norm
public import proofs.«01_k».proof.Proof.Gen.ReferenceUpIdeal.Run
public import Idealize.ShloMosaic.Lib.Pointwise

@[expose] public section

set_option maxRecDepth 16384

noncomputable section

namespace Cert.Proof.UR

open Cert.ReferenceUpIdeal Cert.ReferenceUpIdeal.Gen
open Idealize.ShloMosaic Idealize.ShloMosaic.TcCoe

/-- The regularized mean of each row's squares. -/
def msA (x : FVec Ideal S4224x1024 .f32) : FVec Ideal S4224x1 .f32 :=
  addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))

/-- One number per row, and one per column, along the other axis. -/
def row (z : FVec Ideal S4224x1 .f32) : FVec Ideal S4224x1024 .f32 := broadcastInDim S4224x1024 ![0, 1] bcast_S4224x1_S4224x1024_0_1 z
def col (g : FVec Ideal S1024 .f32) : FVec Ideal S4224x1024 .f32 :=
  broadcastInDim S4224x1024 ![0, 1] bcast_S1x1024_S4224x1024_0_1 (broadcastInDim S1x1024 ![1] bcast_S1024_S1x1024_1 g)

def riA (v : FVec Ideal S4224x1 .f32) : FVec Ideal S4224x1 .f32 := Host.rsqrt v

/-- The gradient of the norm's output. -/
def dnA (a b : FVec Ideal S4224x2816 .bf16) (p q : FVec Ideal S1024x2816 .f32) : FVec Ideal S4224x1024 .f32 :=
  addf (Host.dotGeneral dot_S4224x2816_S1024x2816_S4224x1024_1_1_0_0_n_n none (extf .f32 b bitsLt_bf16_f32) q) (Host.dotGeneral dot_S4224x2816_S1024x2816_S4224x1024_1_1_0_0_n_n none (extf .f32 a bitsLt_bf16_f32) p)

/-- Each row's gradient through the mean of its squares. -/
def rsA (x t : FVec Ideal S4224x1024 .f32) (v : FVec Ideal S4224x1 .f32) : FVec Ideal S4224x1024 .f32 :=
  broadcastInDim S4224x1024 ![0] bcast_S4224_S4224x1024_0 (Host.reduceAdd (Host.divf (mulf (shapeCast _ (Host.reduceAdd (mulf x t) (constant S_ .f32 0x00000000#32) reducesTo_S4224x1024_S4224_d1 h_S_) shapeCasts_S4224_S4224x1) (mulf (broadcastInDim S4224x1 ![] bcast_S_S4224x1 (constant S_ .f32 0xBF000000#32)) (Host.divf (riA v) v))) (broadcastInDim S4224x1 ![] bcast_S_S4224x1 (constant S_ .f32 0x44800000#32))) (constant S_ .f32 0x00000000#32) reducesTo_S4224x1_S4224_d1 h_S_)

def hA (h x t w : FVec Ideal S4224x1024 .f32) (v : FVec Ideal S4224x1 .f32) : FVec Ideal S4224x1024 .f32 :=
  addf (addf (addf h (mulf t (row (riA v)))) (mulf x w)) (mulf w x)

def uA (x : FVec Ideal S4224x1024 .f32) (g : FVec Ideal S1024 .f32) (v : FVec Ideal S4224x1 .f32) : FVec Ideal S4224x1024 .bf16 :=
  truncf .bf16 (mulf (mulf x (row (riA v))) (col g)) bitsLt_bf16_f32

def gA (x t : FVec Ideal S4224x1024 .f32) (v : FVec Ideal S4224x1 .f32) : FVec Ideal S1x1024 .f32 :=
  broadcastInDim S1x1024 ![1] bcast_S1024_S1x1024_1 (Host.reduceAdd (shapeCast _ (Host.reduceAdd (mulf (mulf x (row (riA v))) t) (constant S_ .f32 0x00000000#32) reducesTo_S4224x1024_S1024_d0 h_S_) shapeCasts_S1024_S1x1024) (constant S_ .f32 0x00000000#32) reducesTo_S1x1024_S1024_d0 h_S_)

section at_

variable (x t h w : FVec Ideal S4224x1024 .f32) (a b : FVec Ideal S4224x2816 .bf16) (p q : FVec Ideal S1024x2816 .f32) (g : FVec Ideal S1024 .f32)
  (v z : FVec Ideal S4224x1 .f32) (R : Fin 4224) (d : Fin 1024)

theorem msA_at : msA x (ix2 R 0) = N.ms fun e : Fin 1024 => x (ix2 R e) := by
  pointwise [msA]
  rfl

theorem riA_at : riA v (ix2 R 0) = Ideal.rsqrt (v (ix2 R 0)) := by
  pointwise [riA]

theorem row_at : row z (ix2 R d) = z (ix2 R 0) := by
  pointwise [row]

theorem col_at : col g (ix2 R d) = g (ix1 d) := by
  pointwise [col]

theorem dnA_at : dnA a b p q (ix2 R d) = (∑ f : Fin 2816, a (ix2 R f) * p (ix2 d f)) + ∑ f : Fin 2816, b (ix2 R f) * q (ix2 d f) := by
  have e : dnA a b p q (ix2 R d) = (∑ f : Fin 2816, b (ix2 R f) * q (ix2 d f)) + ∑ f : Fin 2816, a (ix2 R f) * p (ix2 d f) := by
    pointwise [dnA]
  rw [e, add_comm]

theorem rsA_at : rsA x t v (ix2 R d) = Ideal.div ((∑ e : Fin 1024, x (ix2 R e) * t (ix2 R e)) * (N.mh * Ideal.div (Ideal.rsqrt (v (ix2 R 0))) (v (ix2 R 0)))) N.nf := by
  pointwise [rsA, riA]
  exact Fintype.sum_unique _

theorem hA_at : hA h x t w v (ix2 R d) = h (ix2 R d) + t (ix2 R d) * Ideal.rsqrt (v (ix2 R 0)) + x (ix2 R d) * w (ix2 R d) + w (ix2 R d) * x (ix2 R d) := by
  pointwise [hA, row, riA]

theorem uA_at : uA x g v (ix2 R d) = x (ix2 R d) * Ideal.rsqrt (v (ix2 R 0)) * g (ix1 d) := by
  pointwise [uA, row, col, riA]

theorem gA_at : gA x t v (ix2 0 d) = ∑ R : Fin 4224, x (ix2 R d) * Ideal.rsqrt (v (ix2 R 0)) * t (ix2 R d) := by
  pointwise [gA, row, riA]
  exact Fintype.sum_unique _

end at_

/-! ### The three results as functions of the seven arguments -/

section res

variable (h x : FVec Ideal S4224x1024 .f32) (a b : FVec Ideal S4224x2816 .bf16) (g : FVec Ideal S1024 .f32) (p q : FVec Ideal S1024x2816 .f32)

def tA : FVec Ideal S4224x1024 .f32 := mulf (dnA a b p q) (col g)
def refH : FVec Ideal S4224x1024 .f32 := hA h x (tA a b g p q) (rsA x (tA a b g p q) (msA x)) (msA x)
def refU : FVec Ideal S4224x1024 .bf16 := uA x g (msA x)
def refG : FVec Ideal S1x1024 .f32 := gA x (dnA a b p q) (msA x)

/-- The gradient of the norm's output, at an entry. -/
def dnF (R : Fin 4224) (d : Fin 1024) : EReal := (∑ f : Fin 2816, a (ix2 R f) * p (ix2 d f)) + ∑ f : Fin 2816, b (ix2 R f) * q (ix2 d f)

theorem tA_at (R : Fin 4224) (d : Fin 1024) : tA a b g p q (ix2 R d) = dnF a b p q R d * g (ix1 d) :=
  congrArg₂ (· * ·) (dnA_at a b p q R d) (col_at g R d)

theorem refH_at (R : Fin 4224) (d : Fin 1024) :
    refH h x a b g p q (ix2 R d) = N.kdx (h (ix2 R d)) (fun e : Fin 1024 => x (ix2 R e)) (fun e : Fin 1024 => dnF a b p q R e * g (ix1 e)) d := by
  rw [N.kdx_eq]
  unfold refH
  rw [hA_at, rsA_at, msA_at, tA_at]
  simp only [tA_at]
  rfl

theorem refU_at (R : Fin 4224) (d : Fin 1024) : refU x g (ix2 R d) = x (ix2 R d) * (N.rr fun e : Fin 1024 => x (ix2 R e)) * g (ix1 d) := by
  unfold refU
  rw [uA_at, msA_at]
  rfl

theorem refG_at (d : Fin 1024) : refG x a b p q (ix2 0 d) = ∑ R : Fin 4224, dnF a b p q R d * (x (ix2 R d) * N.rr fun e : Fin 1024 => x (ix2 R e)) := by
  unfold refG
  rw [gA_at]
  refine Finset.sum_congr rfl fun R _ => ?_
  rw [msA_at, dnA_at, mul_comm]
  rfl

end res

/-! ### What the program leaves is these three -/

variable (m : (ℓ : Loc nD τ sig) → Buf (Elt Ideal) ℓ) (c : Dev nD)

theorem v43_eq : Value.res_main_v43 m c = refH (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := by
  unfold Value.res_main_v43
  simp only [refH, hA, tA, rsA, msA, dnA, riA, row, col]

end Cert.Proof.UR

end
-- ==== Proof.Up.lean ====
/- The backward of the up projections and the norm: its programs' frames, and the value claim, which needs nothing of the
   arguments. -/
module

public import proofs.«01_k».proof.Defs
public import proofs.«01_k».proof.Proof.UpK
public import proofs.«01_k».proof.Proof.UpR
public import proofs.«01_k».proof.Proof.Frames
public import proofs.«01_k».proof.Proof.Gen.KernelUp
public import Idealize.ShloMosaic.Lib.StableHlo.RunRead

@[expose] public section

set_option maxRecDepth 16384
set_option maxHeartbeats 2000000

noncomputable section

namespace Cert.Proof.U

open Idealize.ShloMosaic Idealize.ShloMosaic.TcCoe Idealize.SL.Sem

/-- The two programs are the same text at the bit-exact values. -/
theorem frame_p : Cert.quiescent_KernelUp := by
  letI := namedBits
  have e : Cert.quiescent_KernelUp = (∀ (m : (ℓ : Loc Cert.KernelUpIdeal.nD Cert.KernelUpIdeal.τ Cert.KernelUpIdeal.sig) → Buf (Elt Bits) ℓ) (ρ : Dev Cert.KernelUpIdeal.nD → PrngReg), True →
    θ_run (Cert.KernelUpIdeal.defs (F := Bits)) (onTc (τ := Cert.KernelUpIdeal.τ) (Cert.KernelUpIdeal.main (F := Bits))) ⟨m, fun _ => 0, ρ⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ r.2.sem = fun _ => 0)) := by sl_kernel_rfl
  rw [e]
  exact fun m ρ _ => Cert.KernelUpIdeal.Gen.frame (F := Bits) m ρ

theorem frame_pi : Cert.quiescent_KernelUpIdeal := fun m ρ _ => Cert.KernelUpIdeal.Gen.frame m ρ

theorem frame_ri : Cert.quiescent_ReferenceUpIdeal := fun m ρ _ =>
  (θ_run Cert.ReferenceUpIdeal.defs _ _).mono (fun r h => ⟨fun c => (h c).2.2.2, sem_eq_zero_of_no_sems (by decide) r.2⟩)
    (Cert.ReferenceUpIdeal.Value.run (F := Ideal) m ρ)

/-! ### The arrays that the call is given, as the host makes them of the arguments -/

section host

open Cert.KernelUpIdeal Cert.KernelUpIdeal.Gen

variable (m : (ℓ : Loc nD τ sig) → Buf (Elt Ideal) ℓ) (c : Dev nD)

def rowA (g : FVec Ideal S1024 .f32) : FVec Ideal S1x1024 .f32 := broadcastInDim S1x1024 ![1] bcast_S1024_S1x1024_1 g
def trA (p : FVec Ideal S1024x2816 .f32) : FVec Ideal S2816x1024 .bf16 := truncf .bf16 (transpose S2816x1024 [1, 0] p transposes_S1024x2816_S2816x1024_1_0) bitsLt_bf16_f32

theorem rowA_at (g : FVec Ideal S1024 .f32) (d : Fin 1024) : rowA g (ix2 0 d) = g (ix1 d) := by
  pointwise [rowA]
theorem trA_at (p : FVec Ideal S1024x2816 .f32) (f : Fin 2816) (d : Fin 1024) : trA p (ix2 f d) = p (ix2 d f) := by
  pointwise [trA]

theorem v0_eq : V m c main_v0 = rowA (m ((c.tc : Thread nD τ).loc main_arg4)) := by
  simp only [V, hostOps0, List.flatten_cons, List.flatten_nil, List.append_nil, List.cons_append, List.nil_append]
  after_reads_simp
  simp only [rowA]
theorem v2_eq : V m c main_v2 = trA (m ((c.tc : Thread nD τ).loc main_arg5)) := by
  simp only [V, hostOps0, List.flatten_cons, List.flatten_nil, List.append_nil, List.cons_append, List.nil_append]
  after_reads_simp
  simp only [trA]
theorem v4_eq : V m c main_v4 = trA (m ((c.tc : Thread nD τ).loc main_arg6)) := by
  simp only [V, hostOps0, List.flatten_cons, List.flatten_nil, List.append_nil, List.cons_append, List.nil_append]
  after_reads_simp
  simp only [trA]

variable (h x : FVec Ideal S4224x1024 .f32) (a b : FVec Ideal S4224x2816 .bf16) (g : FVec Ideal S1024 .f32) (p q : FVec Ideal S1024x2816 .f32)
  (h0 : m ((c.tc : Thread nD τ).loc main_arg0) = h) (h1 : m ((c.tc : Thread nD τ).loc main_arg1) = x)
  (h2 : m ((c.tc : Thread nD τ).loc main_arg2) = a) (h3 : m ((c.tc : Thread nD τ).loc main_arg3) = b) (h4 : m ((c.tc : Thread nD τ).loc main_arg4) = g)
  (h5 : m ((c.tc : Thread nD τ).loc main_arg5) = p) (h6 : m ((c.tc : Thread nD τ).loc main_arg6) = q)

include h1 in
theorem x_eq (R : Fin 4224) : aX m c R = fun e : Fin 1024 => x (ix2 R e) := funext fun e => congrFun ((V_main_arg1 m c).trans h1) _

include h4 in
theorem g_eq (d : Fin 1024) : aG m c d = g (ix1 d) := by
  unfold aG
  rw [v0_eq, h4]
  exact rowA_at g d

include h2 h3 h5 h6 in
theorem dn_eq (R : Fin 4224) (d : Fin 1024) : dn m c R d = UR.dnF a b p q R d := by
  refine congrArg₂ (· + ·) (Finset.sum_congr rfl fun f _ => congrArg₂ (· * ·) ?_ ?_) (Finset.sum_congr rfl fun f _ => congrArg₂ (· * ·) ?_ ?_)
  · exact congrFun ((V_main_arg2 m c).trans h2) _
  · unfold aP
    rw [v2_eq, h5]
    exact trA_at p f d
  · exact congrFun ((V_main_arg3 m c).trans h3) _
  · unfold aQ
    rw [v4_eq, h6]
    exact trA_at q f d

include h0 h1 h2 h3 h4 h5 h6 in
theorem ker_h : (dats m 0 c).arrAt 7 cfg0.N = UR.refH h x a b g p q := by
  rw [arrH]
  funext j
  idx_vars j
  refine Eq.trans ?_ (UR.refH_at h x a b g p q j0 j1).symm
  show hAt m c j0 j1 = _
  unfold hAt
  rw [x_eq m c x h1]
  refine congrArg₂ (fun y z => N.kdx y (fun e : Fin 1024 => x (ix2 j0 e)) z j1) (congrFun ((V_main_arg0 m c).trans h0) _) (funext fun e => ?_)
  rw [dn_eq m c a b p q h2 h3 h5 h6, g_eq m c g h4]

include h1 h4 in
theorem ker_u : (dats m 0 c).arrAt 8 cfg0.N = UR.refU x g := by
  rw [arrU]
  funext j
  idx_vars j
  refine Eq.trans ?_ (UR.refU_at x g j0 j1).symm
  show uAt m c j0 j1 = _
  unfold uAt
  rw [x_eq m c x h1, g_eq m c g h4]

include h1 h2 h3 h5 h6 in
theorem ker_g : (dats m 0 c).arrAt 9 cfg0.N = UR.refG x a b p q := by
  rw [arrG]
  funext j
  idx_vars j
  obtain rfl : j0 = 0 := Subsingleton.elim _ _
  refine Eq.trans ?_ (UR.refG_at x a b p q j1).symm
  show gAt m c j1 = _
  unfold gAt
  refine Finset.sum_congr rfl fun R _ => ?_
  rw [x_eq m c x h1, dn_eq m c a b p q h2 h3 h5 h6]

end host

theorem algebraic : Cert.algebraic_KernelUpIdeal_ReferenceUpIdeal := by
  intro m g m' g' _ hagree
  refine ⟨fun c => UR.refH (m ((c.tc : Thread Cert.KernelUpIdeal.nD Cert.KernelUpIdeal.τ).loc Cert.KernelUpIdeal.main_arg0))
      (m ((c.tc : Thread Cert.KernelUpIdeal.nD Cert.KernelUpIdeal.τ).loc Cert.KernelUpIdeal.main_arg1))
      (m ((c.tc : Thread Cert.KernelUpIdeal.nD Cert.KernelUpIdeal.τ).loc Cert.KernelUpIdeal.main_arg2))
      (m ((c.tc : Thread Cert.KernelUpIdeal.nD Cert.KernelUpIdeal.τ).loc Cert.KernelUpIdeal.main_arg3))
      (m ((c.tc : Thread Cert.KernelUpIdeal.nD Cert.KernelUpIdeal.τ).loc Cert.KernelUpIdeal.main_arg4))
      (m ((c.tc : Thread Cert.KernelUpIdeal.nD Cert.KernelUpIdeal.τ).loc Cert.KernelUpIdeal.main_arg5))
      (m ((c.tc : Thread Cert.KernelUpIdeal.nD Cert.KernelUpIdeal.τ).loc Cert.KernelUpIdeal.main_arg6)),
    fun c => UR.refU (m ((c.tc : Thread Cert.KernelUpIdeal.nD Cert.KernelUpIdeal.τ).loc Cert.KernelUpIdeal.main_arg1))
      (m ((c.tc : Thread Cert.KernelUpIdeal.nD Cert.KernelUpIdeal.τ).loc Cert.KernelUpIdeal.main_arg4)),
    fun c => UR.refG (m ((c.tc : Thread Cert.KernelUpIdeal.nD Cert.KernelUpIdeal.τ).loc Cert.KernelUpIdeal.main_arg1))
      (m ((c.tc : Thread Cert.KernelUpIdeal.nD Cert.KernelUpIdeal.τ).loc Cert.KernelUpIdeal.main_arg2))
      (m ((c.tc : Thread Cert.KernelUpIdeal.nD Cert.KernelUpIdeal.τ).loc Cert.KernelUpIdeal.main_arg3))
      (m ((c.tc : Thread Cert.KernelUpIdeal.nD Cert.KernelUpIdeal.τ).loc Cert.KernelUpIdeal.main_arg5))
      (m ((c.tc : Thread Cert.KernelUpIdeal.nD Cert.KernelUpIdeal.τ).loc Cert.KernelUpIdeal.main_arg6)), ?_, ?_⟩
  · refine (θ_run Cert.KernelUpIdeal.defs _ _).mono (fun r h c => ?_) (Cert.KernelUpIdeal.Value.run_blocks m g)
    obtain ⟨e0, e1, e2, hr⟩ := h c
    exact ⟨e0.trans (ker_h m c _ _ _ _ _ _ _ rfl rfl rfl rfl rfl rfl rfl), e1.trans (ker_u m c _ _ rfl rfl), e2.trans (ker_g m c _ _ _ _ _ rfl rfl rfl rfl rfl), hr⟩
  · refine (θ_run Cert.ReferenceUpIdeal.defs _ _).mono (fun r h c => ?_) (Cert.ReferenceUpIdeal.Value.run (F := Ideal) m' g')
    obtain ⟨a0, a1, a2, a3, a4, a5, a6⟩ := hagree c
    obtain ⟨e0, e1, e2, hr⟩ := h c
    refine ⟨e0.trans ?_, e1.trans ?_, e2.trans ?_, hr⟩
    · rw [UR.v43_eq, a0, a1, a2, a3, a4, a5, a6]
    · rw [a1, a4]
      rfl
    · rw [a1, a2, a3, a5, a6]
      rfl

end Cert.Proof.U

end
-- ==== Proof.WgradK.lean ====
/- The weight gradient's kernel: what its accumulator holds, and the array after the run as one sum over all rows. -/
module

public import proofs.«01_k».proof.Proof.Gen.KernelWgradIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.W

open Cert.KernelWgradIdeal Cert.KernelWgradIdeal.Gen
open Idealize.ShloMosaic Idealize.ShloMosaic.TcCoe

variable (m : (ℓ : Loc nD τ sig) → Buf (Elt Ideal) ℓ) (c : Dev nD)

/-- One step adds the products of its 1056 rows. -/
theorem step_at (s : Vec Ideal S2816x512 .f32) (x : Vec Ideal S1056x2816 .bf16) (u : Vec Ideal S1056x512 .bf16) (f : Fin 2816) (d : Fin 512) :
    k0_pay2 s x u (ix2 f d) = s (ix2 f d) + ∑ k : Fin 1056, x (ix2 k f) * u (ix2 k d) := by
  pointwise [k0_pay2]

theorem zero_at (f : Fin 2816) (d : Fin 512) : k0_pay1 (F := Ideal) (ix2 f d) = 0 := by
  pointwise [k0_pay1]

/-! Rows `352 a …` of the accumulator, as the kernel cuts them out. -/

theorem cut0 (s : Vec Ideal S2816x512 .f32) (z : Fin 1) (b : Fin 352) (d : Fin 512) : k0_pay5 s (ix3 z b d) = s (ix2 ⟨0 + b.val, by omega⟩ d) := by
  pointwise [k0_pay5]

theorem cut1 (s : Vec Ideal S2816x512 .f32) (z : Fin 1) (b : Fin 352) (d : Fin 512) : k0_pay6 s (ix3 z b d) = s (ix2 ⟨352 + b.val, by omega⟩ d) := by
  pointwise [k0_pay6]

theorem cut2 (s : Vec Ideal S2816x512 .f32) (z : Fin 1) (b : Fin 352) (d : Fin 512) : k0_pay7 s (ix3 z b d) = s (ix2 ⟨704 + b.val, by omega⟩ d) := by
  pointwise [k0_pay7]

theorem cut3 (s : Vec Ideal S2816x512 .f32) (z : Fin 1) (b : Fin 352) (d : Fin 512) : k0_pay8 s (ix3 z b d) = s (ix2 ⟨1056 + b.val, by omega⟩ d) := by
  pointwise [k0_pay8]

theorem cut4 (s : Vec Ideal S2816x512 .f32) (z : Fin 1) (b : Fin 352) (d : Fin 512) : k0_pay9 s (ix3 z b d) = s (ix2 ⟨1408 + b.val, by omega⟩ d) := by
  pointwise [k0_pay9]

theorem cut5 (s : Vec Ideal S2816x512 .f32) (z : Fin 1) (b : Fin 352) (d : Fin 512) : k0_pay10 s (ix3 z b d) = s (ix2 ⟨1760 + b.val, by omega⟩ d) := by
  pointwise [k0_pay10]

theorem cut6 (s : Vec Ideal S2816x512 .f32) (z : Fin 1) (b : Fin 352) (d : Fin 512) : k0_pay3 (k0_pay11 s) (ix3 z b d) = s (ix2 ⟨2112 + b.val, by omega⟩ d) := by
  pointwise [k0_pay3, k0_pay11]

theorem cut7 (s : Vec Ideal S2816x512 .f32) (z : Fin 1) (b : Fin 352) (d : Fin 512) : k0_pay4 s (ix3 z b d) = s (ix2 ⟨2464 + b.val, by omega⟩ d) := by
  pointwise [k0_pay4]

theorem acc_A (t : Fin cfg0.N) (h : t.val % 4 = 0) :
    (outsAt0 m c t.val t.isLt).2 = k0_pay2 (k0_pay1 (F := Ideal)) (iblk m c 0 t) (iblk m c 1 t) := by
  rw [outsAt0_A m c t h (by omega)]; frame_out

theorem acc_B (t : Fin cfg0.N) (h : ¬ t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]; frame_out; rw [read_unread_whole]
  · rw [outsAt0_B m c t h h3]; frame_out; rw [read_unread_whole]

theorem out_C (t : Fin cfg0.N) (h : t.val % 4 = 3) (a : Fin 8) (b : Fin 352) (d : Fin 512) :
    (outsAt0 m c t.val t.isLt).1 (ix3 a b d) = (outsAt0 m c t.val t.isLt).2 (ix2 ⟨352 * a.val + b.val, by omega⟩ d) := by
  rw [acc_B m c t (by omega), outsAt0_C m c t (by omega) h]
  frame_out
  rw [read_unread_whole]
  generalize k0_pay2 (outsAt0 m c (t.val - 1) (Nat.lt_of_le_of_lt (Nat.sub_le _ _) t.isLt)).2 (iblk m c 0 t) (iblk m c 1 t) = s
  canon_tiles x h
  all_goals
    idx_vars x
    first
      | (refine (cut0 s _ _ _).trans ?_)
      | (refine (cut1 s _ _ _).trans ?_)
      | (refine (cut2 s _ _ _).trans ?_)
      | (refine (cut3 s _ _ _).trans ?_)
      | (refine (cut4 s _ _ _).trans ?_)
      | (refine (cut5 s _ _ _).trans ?_)
      | (refine (cut6 s _ _ _).trans ?_)
      | (refine (cut7 s _ _ _).trans ?_)
    refine congrArg s (congrArg₂ ix2 (Fin.ext ?_) (Fin.ext ?_)) <;> (try dsimp only) <;> omega

theorem index_eq : ∀ t : Fin cfg0.N,
    win0_0.index t = ![t.val % 4, 0] ∧ win0_1.index t = ![t.val % 4, t.val / 4] ∧ win0_2.index t = ![0, 0, t.val / 4] := by
  decide +kernel

theorem N_eq : cfg0.N = 8 := by decide +kernel
theorem t_lt (t : Fin cfg0.N) : t.val < 8 := N_eq ▸ t.isLt

/-- The two arrays that the call is given, at an entry. -/
def aD (R : Fin 4224) (f : Fin 2816) : EReal := V m c main_arg0 (ix2 R f)
def aU (R : Fin 4224) (d : Fin 1024) : EReal := V m c main_arg1 (ix2 R d)

theorem blk0 (t : Fin cfg0.N) (k : Fin 1056) (f : Fin 2816) :
    iblk m c 0 t (ix2 k f) = aD m c ⟨t.val % 4 * 1056 + k.val, by omega⟩ f := by
  unfold aD
  blk_ext [iblk, index_eq t]
theorem blk1 (t : Fin cfg0.N) (k : Fin 1056) (d : Fin 512) :
    iblk m c 1 t (ix2 k d) = aU m c ⟨t.val % 4 * 1056 + k.val, by omega⟩ ⟨t.val / 4 * 512 + d.val, by have := t_lt t; omega⟩ := by
  unfold aU
  blk_ext [iblk, index_eq t]

/-- An entry of the gradient: the sum over all rows. -/
def wAt (f : Fin 2816) (d : Fin 1024) : EReal := ∑ R, aD m c R f * aU m c R d

/-- What point `t` adds at an entry of the accumulator. -/
def term (t : Fin cfg0.N) (j : S2816x512.Idx) : EReal :=
  ∑ k : Fin 1056, aD m c ⟨t.val % 4 * 1056 + k.val, by omega⟩ (j 0)
    * aU m c ⟨t.val % 4 * 1056 + k.val, by omega⟩ ⟨t.val / 4 * 512 + (j 1).val, by have := t_lt t; have : (j 1).val < 512 := (j 1).isLt; omega⟩

theorem step_term (s : Vec Ideal S2816x512 .f32) (t : Fin cfg0.N) (j : S2816x512.Idx) :
    k0_pay2 s (iblk m c 0 t) (iblk m c 1 t) j = s j + term m c t j := by
  idx_vars j
  refine (step_at _ _ _ j0 j1).trans (congrArg (s (ix2 j0 j1) + ·) ?_)
  exact Finset.sum_congr rfl fun k _ => congrArg₂ (· * ·) (blk0 m c t k j0) (blk1 m c t k j1)

theorem acc_sum (t : Fin cfg0.N) (h : t.val % 4 = 3) (f : Fin 2816) (d : Fin 512) :
    (outsAt0 m c t.val t.isLt).2 (ix2 f d) = wAt m c f ⟨t.val / 4 * 512 + d.val, by have := t_lt t; omega⟩ := by
  have key := Pipeline.eq_sum_fin_of_reset_step_apply_of_flush (fun n h => (outsAt0 m c n h).2) 4 (fun _ => (0 : EReal)) (term m c)
    (fun t h j => by
      refine (congrFun (acc_A m c t h) _).trans ((step_term m c _ t j).trans ?_)
      idx_vars j
      exact congrArg (· + _) (zero_at j0 j1))
    (fun t h j => (congrFun (acc_B m c t h) _).trans (step_term m c _ t j))
    t h (ix2 f d)
  refine key.trans ((zero_add _).trans ?_)
  unfold wAt term
  refine Fin.sum_mul_add_congr fun s k hl => ?_
  have e1 : (4 * (t.val / 4) + s.val) % 4 = s.val := by omega
  have e2 : (4 * (t.val / 4) + s.val) / 4 = t.val / 4 := by omega
  simp only [e1, e2]
  rfl

theorem row_lt (a : Fin 8) (b : Fin 352) : 352 * a.val + b.val < 2816 := by omega

/-- The gradient's array after the run. -/
theorem arrW : (dats m 0 c).arrAt 2 cfg0.N = fun j => wAt m c ⟨352 * (j 0).val + (j 1).val, row_lt (j 0) (j 1)⟩ (j 2) := by
  refine (dats m 0 c).arrAt_eq_of_covers 2 _ (by decide +kernel) fun t hf y => ?_
  have h3 := (flush0_2 t).mp hf
  rw [after0_2]
  blk_simp [index_eq t]
  idx_vars y
  refine (out_C m c t h3 y0 y1 y2).trans ((acc_sum m c t h3 _ _).trans ?_)
  refine congrArg₂ (wAt m c) (Fin.ext ?_) (Fin.ext ?_)
  · blk_simp [index_eq t]
    first | done | rfl | (simp [ix3]; omega)
  · blk_simp [index_eq t]
    first | done | rfl | (simp [ix3]; omega)

end Cert.Proof.W

end
-- ==== Proof.WgradR.lean ====
/- The weight gradient's plain reference, read at an entry: the sum over all rows. -/
module

public import proofs.«01_k».proof.Proof.Gen.ReferenceWgradIdeal.Run
public import Idealize.ShloMosaic.Lib.Pointwise

@[expose] public section

set_option maxRecDepth 16384

noncomputable section

namespace Cert.Proof.WR

open Cert.ReferenceWgradIdeal Cert.ReferenceWgradIdeal.Gen Cert.ReferenceWgradIdeal.Value
open Idealize.ShloMosaic Idealize.ShloMosaic.TcCoe

/-- The contraction of the two arrays over their rows. -/
def con (x : FVec Ideal S4224x2816 .bf16) (u : FVec Ideal S4224x1024 .bf16) : FVec Ideal S2816x1024 .f32 :=
  Host.dotGeneral dot_S4224x2816_S4224x1024_S2816x1024_0_0_1_1_n_n none (extf .f32 x bitsLt_bf16_f32) (extf .f32 u bitsLt_bf16_f32)

theorem con_at (x : FVec Ideal S4224x2816 .bf16) (u : FVec Ideal S4224x1024 .bf16) (f : Fin 2816) (d : Fin 1024) :
    con x u (ix2 f d) = ∑ R : Fin 4224, x (ix2 R f) * u (ix2 R d) := by
  pointwise [con]

/-- Transposed twice, split by rows and rounded. -/
def lay (s : FVec Ideal S2816x1024 .f32) : FVec Ideal S8x352x1024 .bf16 :=
  truncf .bf16 (shapeCast _ (transpose S2816x1024 [1, 0] (transpose S1024x2816 [1, 0] s transposes_S2816x1024_S1024x2816_1_0) transposes_S1024x2816_S2816x1024_1_0) shapeCasts_S2816x1024_S8x352x1024) bitsLt_bf16_f32

theorem lay_at (s : FVec Ideal S2816x1024 .f32) (a : Fin 8) (b : Fin 352) (d : Fin 1024) :
    lay s (ix3 a b d) = s (ix2 ⟨352 * a.val + b.val, by omega⟩ d) := by
  have h : lay s (ix3 a b d) = s (ix2 ⟨a.val * 352 + b.val, by omega⟩ d) := by pointwise [lay]
  rw [h]
  exact congrArg s (congrArg₂ ix2 (Fin.ext (by show a.val * 352 + b.val = 352 * a.val + b.val; omega)) rfl)

end Cert.Proof.WR

end
-- ==== Proof.Wgrad.lean ====
/- The weight gradient: its programs' frames, and the value claim, which needs nothing of the arguments. -/
module

public import proofs.«01_k».proof.Defs
public import proofs.«01_k».proof.Proof.WgradK
public import proofs.«01_k».proof.Proof.WgradR
public import proofs.«01_k».proof.Proof.Frames
public import proofs.«01_k».proof.Proof.Gen.KernelWgrad

@[expose] public section

set_option maxRecDepth 16384
set_option maxHeartbeats 2000000

noncomputable section

namespace Cert.Proof.W

open Idealize.ShloMosaic Idealize.ShloMosaic.TcCoe Idealize.SL.Sem

/-- The two programs are the same text at the bit-exact values. -/
theorem frame_p : Cert.quiescent_KernelWgrad := by
  letI := namedBits
  have e : Cert.quiescent_KernelWgrad = (∀ (m : (ℓ : Loc Cert.KernelWgradIdeal.nD Cert.KernelWgradIdeal.τ Cert.KernelWgradIdeal.sig) → Buf (Elt Bits) ℓ) (ρ : Dev Cert.KernelWgradIdeal.nD → PrngReg), True →
    θ_run (Cert.KernelWgradIdeal.defs (F := Bits)) (onTc (τ := Cert.KernelWgradIdeal.τ) (Cert.KernelWgradIdeal.main (F := Bits))) ⟨m, fun _ => 0, ρ⟩ (fun r => (∀ c : Dev Cert.KernelWgradIdeal.nD,
      r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
      ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ r.2.sem = fun _ => 0)) := by sl_kernel_rfl
  rw [e]
  exact fun m ρ _ => Cert.KernelWgradIdeal.Gen.frame (F := Bits) m ρ

theorem frame_pi : Cert.quiescent_KernelWgradIdeal := fun m ρ _ => Cert.KernelWgradIdeal.Gen.frame m ρ

theorem frame_ri : Cert.quiescent_ReferenceWgradIdeal := fun m ρ _ =>
  (θ_run Cert.ReferenceWgradIdeal.defs _ _).mono (fun r h => ⟨fun c => (h c).2, sem_eq_zero_of_no_sems (by decide) r.2⟩)
    (Cert.ReferenceWgradIdeal.Value.run (F := Ideal) m ρ)

/-- The result of both, a function of the two arguments. -/
def ref (x : FVec Ideal Cert.ReferenceWgradIdeal.S4224x2816 .bf16) (u : FVec Ideal Cert.ReferenceWgradIdeal.S4224x1024 .bf16) : FVec Ideal Cert.ReferenceWgradIdeal.S8x352x1024 .bf16 :=
  WR.lay (WR.con x u)

section eqs

variable (m : (ℓ : Loc Cert.KernelWgradIdeal.nD Cert.KernelWgradIdeal.τ Cert.KernelWgradIdeal.sig) → Buf (Elt Ideal) ℓ) (c : Dev Cert.KernelWgradIdeal.nD)
  (x : FVec Ideal Cert.ReferenceWgradIdeal.S4224x2816 .bf16) (u : FVec Ideal Cert.ReferenceWgradIdeal.S4224x1024 .bf16)
  (hx : m ((c.tc : Thread Cert.KernelWgradIdeal.nD Cert.KernelWgradIdeal.τ).loc Cert.KernelWgradIdeal.main_arg0) = x)
  (hu : m ((c.tc : Thread Cert.KernelWgradIdeal.nD Cert.KernelWgradIdeal.τ).loc Cert.KernelWgradIdeal.main_arg1) = u)

include hx hu in
theorem ker : (Cert.KernelWgradIdeal.Gen.dats m 0 c).arrAt 2 Cert.KernelWgradIdeal.cfg0.N = ref x u := by
  rw [arrW]
  funext j
  idx_vars j
  refine Eq.trans ?_ ((WR.lay_at _ j0 j1 j2).trans (WR.con_at x u _ j2)).symm
  refine Finset.sum_congr rfl fun R _ => congrArg₂ (· * ·) ?_ ?_
  · exact congrFun ((Cert.KernelWgradIdeal.Gen.V_main_arg0 m c).trans hx) _
  · exact congrFun ((Cert.KernelWgradIdeal.Gen.V_main_arg1 m c).trans hu) _

end eqs

theorem algebraic : Cert.algebraic_KernelWgradIdeal_ReferenceWgradIdeal := by
  intro m g m' g' _ hagree
  refine ⟨fun c => ref (m ((c.tc : Thread Cert.KernelWgradIdeal.nD Cert.KernelWgradIdeal.τ).loc Cert.KernelWgradIdeal.main_arg0))
      (m ((c.tc : Thread Cert.KernelWgradIdeal.nD Cert.KernelWgradIdeal.τ).loc Cert.KernelWgradIdeal.main_arg1)), ?_, ?_⟩
  · refine (θ_run Cert.KernelWgradIdeal.defs _ _).mono (fun r h c => ?_) (Cert.KernelWgradIdeal.Value.run_blocks m g)
    obtain ⟨h0, hr⟩ := h c
    exact ⟨h0.trans (ker m c _ _ rfl rfl), hr⟩
  · refine (θ_run Cert.ReferenceWgradIdeal.defs _ _).mono (fun r h c => ?_) (Cert.ReferenceWgradIdeal.Value.run (F := Ideal) m' g')
    obtain ⟨a0, a1⟩ := hagree c
    obtain ⟨h0, hr⟩ := h c
    refine ⟨h0.trans ?_, hr⟩
    rw [a0, a1]
    rfl

end Cert.Proof.W

end
-- ==== Proof.Gate.lean ====
/- The gate of the feed-forward layer: the kernel's expression of the logistic function by the hyperbolic tangent is the
   plain one at any extended real, and the layer's row functions that both sides are read as. -/
module

public import proofs.«01_k».proof.Proof.Norm

@[expose] public section

set_option maxRecDepth 16384

noncomputable section

namespace Cert.Proof.N

open Idealize.ShloMosaic

/-- One half and one, as the programs write them. -/
def hf : EReal := Ideal.ofBits .f32 0x3F000000#32
def nu : EReal := Ideal.ofBits .f32 0x3F800000#32

theorem hf_eq : hf = ((1 / 2 : ℝ) : EReal) := by
  rw [hf]
  simp [Ideal.ofBits, Ideal.ieee, -EReal.coe_mul]
  norm_num
theorem nu_eq : nu = ((1 : ℝ) : EReal) := by
  rw [nu]
  simp [Ideal.ofBits, Ideal.ieee, -EReal.coe_mul]
  try norm_num

/-- The logistic function as the kernel writes it, and as the reference does. -/
def sg (x : EReal) : EReal := hf * Ideal.tanh (hf * x) + hf
def lg (x : EReal) : EReal := Ideal.div nu (nu + Ideal.exp (-x))

theorem sg_bot : sg ⊥ = 0 := by
  unfold sg
  rw [hf_eq, EReal.coe_mul_bot_of_pos (by norm_num)]
  show _ * (-1 : EReal) + _ = 0
  rw [show (-1 : EReal) = ((-1 : ℝ) : EReal) from rfl, ← EReal.coe_mul, ← EReal.coe_add]
  norm_num
theorem sg_top : sg ⊤ = 1 := by
  unfold sg
  rw [hf_eq, EReal.coe_mul_top_of_pos (by norm_num)]
  show _ * (1 : EReal) + _ = 1
  rw [mul_one, ← EReal.coe_add]
  norm_num
theorem sg_coe (x : ℝ) : sg x = ((1 / (1 + Real.exp (-x)) : ℝ) : EReal) := by
  unfold sg
  rw [hf_eq, ← EReal.coe_mul]
  show _ * ((Real.tanh _ : ℝ) : EReal) + _ = _
  rw [← EReal.coe_mul, ← EReal.coe_add]
  congr 1
  rw [Real.tanh_eq_sinh_div_cosh, Real.sinh_eq, Real.cosh_eq]
  have h1 : Real.exp (-(1 / 2 * x)) = (Real.exp (1 / 2 * x))⁻¹ := Real.exp_neg _
  have h2 : Real.exp (-x) = (Real.exp (1 / 2 * x))⁻¹ * (Real.exp (1 / 2 * x))⁻¹ := by
    rw [← h1, ← Real.exp_add]
    congr 1
    ring
  rw [h1, h2]
  have hp := Real.exp_pos (1 / 2 * x)
  generalize Real.exp (1 / 2 * x) = u at hp
  have : u * u + 1 ≠ 0 := by positivity
  have : 1 + u⁻¹ * u⁻¹ ≠ 0 := by positivity
  have : u + u⁻¹ ≠ 0 := by positivity
  field_simp
  ring

theorem lg_coe (x : ℝ) : lg x = ((1 / (1 + Real.exp (-x)) : ℝ) : EReal) := by
  unfold lg
  rw [nu_eq, ← EReal.coe_neg]
  show Ideal.div _ (_ + ((Real.exp (-x) : ℝ) : EReal)) = _
  have : 1 + Real.exp (-x) ≠ 0 := by have := Real.exp_pos (-x); positivity
  rw [← EReal.coe_add, Ideal.div_coe this, ← EReal.coe_mul, one_mul]

theorem sg_eq (x : EReal) : sg x = lg x := by
  induction x with
  | bot =>
    rw [sg_bot]
    unfold lg
    rw [EReal.neg_bot, nu_eq]
    show 0 = Ideal.div _ (_ + ⊤)
    rw [EReal.coe_add_top]
    simp [Ideal.div]
  | top =>
    rw [sg_top]
    unfold lg
    rw [EReal.neg_top, nu_eq]
    show 1 = Ideal.div _ (_ + 0)
    rw [add_zero, Ideal.div_coe one_ne_zero, ← EReal.coe_mul]
    norm_num
  | coe x => rw [sg_coe, lg_coe]

theorem lg_one (x : EReal) : lg x = Ideal.div 1 (1 + Ideal.exp (-x)) := by
  unfold lg
  rw [nu_eq, EReal.coe_one]

/-! ### The layer on one row -/

variable {n k : ℕ} (x g w : Fin n → EReal) (P Q D : Fin k → Fin n → EReal)

/-- The norm's output. -/
def un (d : Fin n) : EReal := x d * rr x * g d
/-- One of the two projections up. -/
def up (f : Fin k) : EReal := ∑ d, un x g d * P f d
/-- The gated product. -/
def gated (f : Fin k) : EReal := up x g P f * sg (up x g P f) * up x g Q f
/-- The projection down. -/
def down (d : Fin n) : EReal := ∑ f, gated x g P Q f * D f d
/-- The layer's output. -/
def layer (d : Fin n) : EReal := x d + hf * un (down x g P Q D) w d

end Cert.Proof.N

end
-- ==== Proof.Back.lean ====
/- The derivative of the gated product: the kernel gathers the two terms of the gate's derivative in one factor, which is
   sound where the factor that both carry is a real number. -/
module

public import proofs.«01_k».proof.Proof.Gate

@[expose] public section

set_option maxRecDepth 16384

noncomputable section

namespace Cert.Proof.N

open Idealize.ShloMosaic

/-- The extended real is a real number. -/
def Rl (x : EReal) : Prop := ∃ r : ℝ, x = (r : EReal)

theorem Rl.add {x y : EReal} (hx : Rl x) (hy : Rl y) : Rl (x + y) := by
  obtain ⟨a, rfl⟩ := hx
  obtain ⟨b, rfl⟩ := hy
  exact ⟨a + b, (EReal.coe_add a b).symm⟩

theorem Rl.sub {x y : EReal} (hx : Rl x) (hy : Rl y) : Rl (x - y) := by
  obtain ⟨a, rfl⟩ := hx
  obtain ⟨b, rfl⟩ := hy
  exact ⟨a - b, (EReal.coe_sub a b).symm⟩

theorem Rl.mul {x y : EReal} (hx : Rl x) (hy : Rl y) : Rl (x * y) := by
  obtain ⟨a, rfl⟩ := hx
  obtain ⟨b, rfl⟩ := hy
  exact ⟨a * b, (EReal.coe_mul a b).symm⟩

theorem Rl.sum {ι : Type} (s : Finset ι) (f : ι → EReal) (h : ∀ i, Rl (f i)) : Rl (∑ i ∈ s, f i) := by
  choose g hg using h
  exact ⟨∑ i ∈ s, g i, by rw [coe_sum]; exact Finset.sum_congr rfl fun i _ => hg i⟩

theorem rl_zero : Rl 0 := ⟨0, rfl⟩
theorem rl_hf : Rl hf := ⟨_, hf_eq⟩

theorem Rl.div {x : EReal} (hx : Rl x) : Rl (Ideal.div x nf) := by
  rw [div_nf]
  exact hx.mul ⟨_, rfl⟩

theorem Rl.sg {x : EReal} (hx : Rl x) : Rl (sg x) := by
  obtain ⟨a, rfl⟩ := hx
  exact ⟨_, sg_coe a⟩

/-- The inverse root is a real number whatever the row holds. -/
theorem rl_rr {n : ℕ} (x : Fin n → EReal) : Rl (rr x) := by
  rcases cases_row x with ⟨_, h⟩ | ⟨_, _, _, _, _, h⟩
  · exact ⟨0, h⟩
  · exact ⟨_, h⟩

theorem Rl.kdx {n : ℕ} {dh : EReal} {x t : Fin n → EReal} (h : Rl dh) (hx : ∀ d, Rl (x d)) (ht : ∀ d, Rl (t d)) (d : Fin n) : Rl (kdx dh x t d) :=
  h.add ((rl_rr x).mul ((ht d).sub (((hx d).mul (rl_rr x)).mul (Rl.div (Rl.sum _ _ fun e => (ht e).mul ((hx e).mul (rl_rr x)))))))

/-- The gate's output, and its derivative's factor as the kernel writes it. -/
def sl (a : EReal) : EReal := a * sg a
def ds (a : EReal) : EReal := sg a + sl a * (1 - sg a)

theorem ds_eq {y a : EReal} (hy : Rl y) (ha : Rl a) : y * ds a = y * sg a + a * y * (sg a * (1 - sg a)) := by
  unfold ds sl
  obtain ⟨s, hs⟩ := ha.sg
  obtain ⟨r, rfl⟩ := ha
  obtain ⟨z, rfl⟩ := hy
  rw [hs, ← EReal.coe_one, ← EReal.coe_sub]
  simp only [← EReal.coe_mul, ← EReal.coe_add]
  congr 1
  ring

end Cert.Proof.N

end
-- ==== Proof.DownK.lean ====
/- The backward of the projection down and the gate, as the kernel computes it: its five arrays after the run, at an entry,
   as functions of the arrays that the call is given. -/
module

public import proofs.«01_k».proof.Proof.Back
public import proofs.«01_k».proof.Proof.Gen.KernelDownIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.D

open Cert.KernelDownIdeal Cert.KernelDownIdeal.Gen
open Idealize.ShloMosaic Idealize.ShloMosaic.TcCoe

/-! ### One block -/

section block

variable (h x : Vec Ideal S384x1024 .f32) (g z s : Vec Ideal S1x1024 .f32) (a b : Vec Ideal S384x1408 .bf16) (w : Vec Ideal S1408x1024 .bf16)
  (y : FVec Ideal S384x1408 .f32) (v : FVec Ideal S384x1024 .bf16) (R : Fin 384) (d : Fin 1024) (f : Fin 1408)

theorem inv_at : k0_pay8 x (ix2 R 0) = N.rr fun e : Fin 1024 => x (ix2 R e) := by
  pointwise [k0_pay8, k0_pay7]
  rfl

theorem nrm_at : k0_pay9 x (ix2 R d) = x (ix2 R d) * N.rr fun e : Fin 1024 => x (ix2 R e) := by
  pointwise [k0_pay9, k0_pay7]
  rw [inv_at]

theorem half_at : k0_pay10 h (ix2 R d) = N.hf * h (ix2 R d) := by
  pointwise [k0_pay10]
  rfl

theorem df_at : k0_pay12 g x h (ix2 R d)
    = N.kdx 0 (fun e : Fin 1024 => x (ix2 R e)) (fun e : Fin 1024 => N.hf * h (ix2 R e) * g (ix2 0 e)) d := by
  unfold N.kdx
  rw [zero_add]
  pointwise [k0_pay12]
  simp only [nrm_at, inv_at, half_at]
  rfl

theorem dg_at : k0_pay11 x h (ix2 0 d) = ∑ R : Fin 384, N.hf * h (ix2 R d) * (x (ix2 R d) * N.rr fun e : Fin 1024 => x (ix2 R e)) := by
  pointwise [k0_pay11]
  simp only [nrm_at, half_at]

theorem acc_at : k0_pay6 s z (ix2 0 d) = z (ix2 0 d) + s (ix2 0 d) := by
  pointwise [k0_pay6]

theorem dyA_at : k0_pay13 g x h w (ix2 R f) = ∑ e : Fin 1024, k0_pay12 g x h (ix2 R e) * w (ix2 f e) := by
  pointwise [k0_pay13]

theorem dyB_at : k0_pay21 v w (ix2 R f) = ∑ e : Fin 1024, v (ix2 R e) * w (ix2 f e) := by
  pointwise [k0_pay21]

theorem sgA_at : k0_pay16 a (ix2 R f) = N.sg (a (ix2 R f)) := by
  pointwise [k0_pay16, k0_pay14]
  rfl

theorem slA_at : k0_pay17 a (ix2 R f) = N.sl (a (ix2 R f)) := by
  pointwise [k0_pay17, k0_pay14]
  rw [sgA_at]
  rfl

theorem yA_at : k0_pay18 a b (ix2 R f) = N.sl (a (ix2 R f)) * b (ix2 R f) := by
  pointwise [k0_pay18, k0_pay15]
  rw [slA_at]

theorem aA_at : k0_pay19 y a b (ix2 R f) = y (ix2 R f) * b (ix2 R f) * N.ds (a (ix2 R f)) := by
  pointwise [k0_pay19, k0_pay15]
  rw [slA_at, sgA_at]
  rfl

theorem bA_at : k0_pay20 y a (ix2 R f) = y (ix2 R f) * N.sl (a (ix2 R f)) := by
  pointwise [k0_pay20]
  rw [slA_at]

theorem sgB_at : k0_pay1 (k0_pay24 a) (k0_pay25 (F := Ideal)) (ix2 R f) = N.sg (a (ix2 R f)) := by
  pointwise [k0_pay1, k0_pay24, k0_pay25, k0_pay22]
  rfl

theorem slB_at : k0_pay2 (k0_pay22 a) (k0_pay24 a) (k0_pay25 (F := Ideal)) (ix2 R f) = N.sl (a (ix2 R f)) := by
  pointwise [k0_pay2, k0_pay22]
  rw [sgB_at]
  rfl

theorem yB_at : k0_pay3 (k0_pay22 a) (k0_pay23 b) (k0_pay24 a) (k0_pay25 (F := Ideal)) (ix2 R f) = N.sl (a (ix2 R f)) * b (ix2 R f) := by
  pointwise [k0_pay3, k0_pay23]
  rw [slB_at]

theorem aB_at : k0_pay4 y (k0_pay22 a) (k0_pay23 b) (k0_pay24 a) (k0_pay25 (F := Ideal)) (ix2 R f) = y (ix2 R f) * b (ix2 R f) * N.ds (a (ix2 R f)) := by
  pointwise [k0_pay4, k0_pay23]
  rw [slB_at, sgB_at]
  rfl

theorem bB_at : k0_pay5 y (k0_pay22 a) (k0_pay24 a) (k0_pay25 (F := Ideal)) (ix2 R f) = y (ix2 R f) * N.sl (a (ix2 R f)) := by
  pointwise [k0_pay5]
  rw [slB_at]

end block

variable (m : (ℓ : Loc nD τ sig) → Buf (Elt Ideal) ℓ) (c : Dev nD)

theorem index_eq : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![0, 0] := by
  decide +kernel

theorem N_eq : cfg0.N = 11 := by decide +kernel
theorem t_lt (t : Fin cfg0.N) : t.val < 11 := N_eq ▸ t.isLt

/-- The arrays that the call is given, at an entry. -/
def aH (R : Fin 4224) (d : Fin 1024) : EReal := V m c main_arg0 (ix2 R d)
def aA (R : Fin 4224) (f : Fin 2816) : EReal := V m c main_arg1 (ix2 R f)
def aB (R : Fin 4224) (f : Fin 2816) : EReal := V m c main_arg2 (ix2 R f)
def aF (R : Fin 4224) (d : Fin 1024) : EReal := V m c main_v4 (ix2 R d)
def aG (d : Fin 1024) : EReal := V m c main_v5 (ix2 0 d)
def aW (f : Fin 2816) (d : Fin 1024) : EReal := V m c main_v6 (ix2 f d)

def rw_ (t : Fin cfg0.N) (r : Fin 384) : Fin 4224 := ⟨t.val * 384 + r.val, by have := t_lt t; omega⟩

section blocks
variable (t : Fin cfg0.N) (r : Fin 384) (d : Fin 1024) (f : Fin 2816)
theorem blk0 : iblk m c 0 t (ix2 r d) = aH m c (rw_ t r) d := by
  unfold aH; blk_ext [iblk, rw_, index_eq t]
theorem blk1 : iblk m c 1 t (ix2 r f) = aA m c (rw_ t r) f := by
  unfold aA; blk_ext [iblk, rw_, index_eq t]
theorem blk2 : iblk m c 2 t (ix2 r f) = aB m c (rw_ t r) f := by
  unfold aB; blk_ext [iblk, rw_, index_eq t]
theorem blk3 : iblk m c 3 t (ix2 r d) = aF m c (rw_ t r) d := by
  unfold aF; blk_ext [iblk, rw_, index_eq t]
theorem blk4 : iblk m c 4 t (ix2 0 d) = aG m c d := by
  unfold aG; blk_ext [iblk, rw_, index_eq t]
theorem blk5 : iblk m c 5 t (ix2 f d) = aW m c f d := by
  unfold aW; blk_ext [iblk, rw_, index_eq t]
end blocks

/-- The gradients of the projection down and of the gated product. -/
def dfAt (R : Fin 4224) (d : Fin 1024) : EReal := N.kdx 0 (aF m c R) (fun e => N.hf * aH m c R e * aG m c e) d
def dyAt (R : Fin 4224) (f : Fin 2816) : EReal := ∑ d, dfAt m c R d * aW m c f d

/-- The entries of the other four arrays. -/
def daAt (R : Fin 4224) (f : Fin 2816) : EReal := dyAt m c R f * aB m c R f * N.ds (aA m c R f)
def dbAt (R : Fin 4224) (f : Fin 2816) : EReal := dyAt m c R f * N.sl (aA m c R f)
def yAt (R : Fin 4224) (f : Fin 2816) : EReal := N.sl (aA m c R f) * aB m c R f
def gAt (d : Fin 1024) : EReal := ∑ R, N.hf * aH m c R d * (aF m c R d * N.rr (aF m c R))

/-! ### The two halves of the columns -/

/-- The halves of the weights' rows, and of the columns of the arrays that are as wide. -/
abbrev wLo : Rect S2816x1024 := Rect.unit (s := S2816x1024) ![0, 0] S1408x1024.size inb_S2816x1024_S1408x1024_0_0
abbrev wHi : Rect S2816x1024 := Rect.unit (s := S2816x1024) ![1408, 0] S1408x1024.size inb_S2816x1024_S1408x1024_1408_0
abbrev cLo : Rect S384x2816 := Rect.unit (s := S384x2816) ![0, 0] S384x1408.size inb_S384x2816_S384x1408_0_0
abbrev cHi : Rect S384x2816 := Rect.unit (s := S384x2816) ![0, 1408] S384x1408.size inb_S384x2816_S384x1408_0_1408

theorem w_lo (x : Vec Ideal S2816x1024 .bf16) (f : Fin 1408) (d : Fin 1024) : View.ld x wLo (ix2 f d) = x (ix2 (Fin.castAdd 1408 f) d) := by
  pointwise []
  rfl
theorem w_hi (x : Vec Ideal S2816x1024 .bf16) (f : Fin 1408) (d : Fin 1024) : View.ld x wHi (ix2 f d) = x (ix2 (Fin.natAdd 1408 f) d) := by
  pointwise []
  rfl
theorem c_lo (x : Vec Ideal S384x2816 .bf16) (r : Fin 384) (f : Fin 1408) : View.ld x cLo (ix2 r f) = x (ix2 r (Fin.castAdd 1408 f)) := by
  pointwise []
  rfl
theorem c_hi (x : Vec Ideal S384x2816 .bf16) (r : Fin 384) (f : Fin 1408) : View.ld x cHi (ix2 r f) = x (ix2 r (Fin.natAdd 1408 f)) := by
  pointwise []
  rfl

section row_

variable (t : Fin cfg0.N) (r : Fin 384) (d : Fin 1024) (f : Fin 1408)

theorem df_blk : k0_pay12 (iblk m c 4 t) (iblk m c 3 t) (iblk m c 0 t) (ix2 r d) = dfAt m c (rw_ t r) d := by
  refine (df_at _ _ _ r d).trans (congrArg₂ (N.kdx 0 · · d) (funext fun e => blk3 m c t r e) (funext fun e => ?_))
  exact congrArg₂ (· * ·) (congrArg (N.hf * ·) (blk0 m c t r e)) (blk4 m c t e)

theorem dy_lo : k0_pay13 (iblk m c 4 t) (iblk m c 3 t) (iblk m c 0 t) (View.ld (iblk m c 5 t) wLo) (ix2 r f) = dyAt m c (rw_ t r) (Fin.castAdd 1408 f) :=
  (dyA_at _ _ _ _ r f).trans (Finset.sum_congr rfl fun e _ => congrArg₂ (· * ·) (df_blk m c t r e) ((w_lo _ f e).trans (blk5 m c t e _)))

theorem dy_hi : k0_pay21 (k0_pay12 (iblk m c 4 t) (iblk m c 3 t) (iblk m c 0 t)) (View.ld (iblk m c 5 t) wHi) (ix2 r f) = dyAt m c (rw_ t r) (Fin.natAdd 1408 f) :=
  (dyB_at _ _ r f).trans (Finset.sum_congr rfl fun e _ => congrArg₂ (· * ·) (df_blk m c t r e) ((w_hi _ f e).trans (blk5 m c t e _)))

theorem a_lo : View.ld (iblk m c 1 t) cLo (ix2 r f) = aA m c (rw_ t r) (Fin.castAdd 1408 f) := (c_lo _ r f).trans (blk1 m c t r _)
theorem a_hi : View.ld (iblk m c 1 t) cHi (ix2 r f) = aA m c (rw_ t r) (Fin.natAdd 1408 f) := (c_hi _ r f).trans (blk1 m c t r _)
theorem b_lo : View.ld (iblk m c 2 t) cLo (ix2 r f) = aB m c (rw_ t r) (Fin.castAdd 1408 f) := (c_lo _ r f).trans (blk2 m c t r _)
theorem b_hi : View.ld (iblk m c 2 t) cHi (ix2 r f) = aB m c (rw_ t r) (Fin.natAdd 1408 f) := (c_hi _ r f).trans (blk2 m c t r _)

/-! ### What one point leaves in each block -/

theorem out9 : (outsAt0 m c t.val t.isLt).2.2.2.1 = k0_pay12 (iblk m c 4 t) (iblk m c 3 t) (iblk m c 0 t) := by
  by_cases h : t.val = 0
  · rw [outsAt0_A m c t (by omega) (by omega)]; frame_out
  · rw [outsAt0_B m c t (by have := t_lt t; omega) (by omega)]; frame_out

theorem out10_A (h : t.val % 11 = 0) : (outsAt0 m c t.val t.isLt).2.2.2.2 = k0_pay11 (iblk m c 3 t) (iblk m c 0 t) := by
  rw [outsAt0_A m c t h (by have := t_lt t; omega)]; frame_out

theorem out10_B (h : ¬ t.val % 11 = 0) : (outsAt0 m c t.val t.isLt).2.2.2.2
    = k0_pay6 (k0_pay11 (iblk m c 3 t) (iblk m c 0 t)) (outsAt0 m c (t.val - 1) (Nat.lt_of_le_of_lt (Nat.sub_le _ _) t.isLt)).2.2.2.2 := by
  rw [outsAt0_B m c t h (by have := t_lt t; omega)]; frame_out

theorem f_at : (outsAt0 m c t.val t.isLt).2.2.2.1 (ix2 r d) = dfAt m c (rw_ t r) d := by
  rw [out9]
  exact df_blk m c t r d

theorem a_piece_hi : k0_pay4 (k0_pay21 (k0_pay12 (iblk m c 4 t) (iblk m c 3 t) (iblk m c 0 t)) (View.ld (iblk m c 5 t) wHi)) (k0_pay22 (View.ld (iblk m c 1 t) cHi))
    (k0_pay23 (View.ld (iblk m c 2 t) cHi)) (k0_pay24 (View.ld (iblk m c 1 t) cHi)) (k0_pay25 (F := Ideal)) (ix2 r f) = daAt m c (rw_ t r) (Fin.natAdd 1408 f) :=
  (aB_at _ _ _ r f).trans (congrArg₂ (· * ·) (congrArg₂ (· * ·) (dy_hi m c t r f) (b_hi m c t r f)) (congrArg N.ds (a_hi m c t r f)))

theorem a_piece_lo : k0_pay19 (k0_pay13 (iblk m c 4 t) (iblk m c 3 t) (iblk m c 0 t) (View.ld (iblk m c 5 t) wLo)) (View.ld (iblk m c 1 t) cLo)
    (View.ld (iblk m c 2 t) cLo) (ix2 r f) = daAt m c (rw_ t r) (Fin.castAdd 1408 f) :=
  (aA_at _ _ _ r f).trans (congrArg₂ (· * ·) (congrArg₂ (· * ·) (dy_lo m c t r f) (b_lo m c t r f)) (congrArg N.ds (a_lo m c t r f)))

theorem b_piece_hi : k0_pay5 (k0_pay21 (k0_pay12 (iblk m c 4 t) (iblk m c 3 t) (iblk m c 0 t)) (View.ld (iblk m c 5 t) wHi)) (k0_pay22 (View.ld (iblk m c 1 t) cHi))
    (k0_pay24 (View.ld (iblk m c 1 t) cHi)) (k0_pay25 (F := Ideal)) (ix2 r f) = dbAt m c (rw_ t r) (Fin.natAdd 1408 f) :=
  (bB_at _ _ r f).trans (congrArg₂ (· * ·) (dy_hi m c t r f) (congrArg N.sl (a_hi m c t r f)))

theorem b_piece_lo : k0_pay20 (k0_pay13 (iblk m c 4 t) (iblk m c 3 t) (iblk m c 0 t) (View.ld (iblk m c 5 t) wLo)) (View.ld (iblk m c 1 t) cLo)
    (ix2 r f) = dbAt m c (rw_ t r) (Fin.castAdd 1408 f) :=
  (bA_at _ _ r f).trans (congrArg₂ (· * ·) (dy_lo m c t r f) (congrArg N.sl (a_lo m c t r f)))

theorem y_piece_hi : k0_pay3 (k0_pay22 (View.ld (iblk m c 1 t) cHi)) (k0_pay23 (View.ld (iblk m c 2 t) cHi)) (k0_pay24 (View.ld (iblk m c 1 t) cHi)) (k0_pay25 (F := Ideal))
    (ix2 r f) = yAt m c (rw_ t r) (Fin.natAdd 1408 f) :=
  (yB_at _ _ r f).trans (congrArg₂ (· * ·) (congrArg N.sl (a_hi m c t r f)) (b_hi m c t r f))

theorem y_piece_lo : k0_pay18 (View.ld (iblk m c 1 t) cLo) (View.ld (iblk m c 2 t) cLo) (ix2 r f) = yAt m c (rw_ t r) (Fin.castAdd 1408 f) :=
  (yA_at _ _ r f).trans (congrArg₂ (· * ·) (congrArg N.sl (a_lo m c t r f)) (b_lo m c t r f))

theorem a_at (f : Fin 2816) : (outsAt0 m c t.val t.isLt).1 (ix2 r f) = daAt m c (rw_ t r) f := by
  by_cases h : t.val = 0
  · rw [outsAt0_A m c t (by omega) (by omega)]
    frame_out
    canon_tiles x h
    · idx_vars x
      obtain rfl : r = x0 := Fin.ext h0
      obtain rfl : f = Fin.natAdd 1408 x1 := Fin.ext h1
      exact a_piece_hi m c t r x1
    · idx_vars x
      obtain rfl : r = x0 := Fin.ext h0
      obtain rfl : f = Fin.castAdd 1408 x1 := Fin.ext h1
      exact a_piece_lo m c t r x1
  · rw [outsAt0_B m c t (by have := t_lt t; omega) (by omega)]
    frame_out
    canon_tiles x h
    · idx_vars x
      obtain rfl : r = x0 := Fin.ext h0
      obtain rfl : f = Fin.natAdd 1408 x1 := Fin.ext h1
      exact a_piece_hi m c t r x1
    · idx_vars x
      obtain rfl : r = x0 := Fin.ext h0
      obtain rfl : f = Fin.castAdd 1408 x1 := Fin.ext h1
      exact a_piece_lo m c t r x1

theorem b_at (f : Fin 2816) : (outsAt0 m c t.val t.isLt).2.1 (ix2 r f) = dbAt m c (rw_ t r) f := by
  by_cases h : t.val = 0
  · rw [outsAt0_A m c t (by omega) (by omega)]
    frame_out
    canon_tiles x h
    · idx_vars x
      obtain rfl : r = x0 := Fin.ext h0
      obtain rfl : f = Fin.natAdd 1408 x1 := Fin.ext h1
      exact b_piece_hi m c t r x1
    · idx_vars x
      obtain rfl : r = x0 := Fin.ext h0
      obtain rfl : f = Fin.castAdd 1408 x1 := Fin.ext h1
      exact b_piece_lo m c t r x1
  · rw [outsAt0_B m c t (by have := t_lt t; omega) (by omega)]
    frame_out
    canon_tiles x h
    · idx_vars x
      obtain rfl : r = x0 := Fin.ext h0
      obtain rfl : f = Fin.natAdd 1408 x1 := Fin.ext h1
      exact b_piece_hi m c t r x1
    · idx_vars x
      obtain rfl : r = x0 := Fin.ext h0
      obtain rfl : f = Fin.castAdd 1408 x1 := Fin.ext h1
      exact b_piece_lo m c t r x1

theorem y_at (f : Fin 2816) : (outsAt0 m c t.val t.isLt).2.2.1 (ix2 r f) = yAt m c (rw_ t r) f := by
  by_cases h : t.val = 0
  · rw [outsAt0_A m c t (by omega) (by omega)]
    frame_out
    canon_tiles x h
    · idx_vars x
      obtain rfl : r = x0 := Fin.ext h0
      obtain rfl : f = Fin.natAdd 1408 x1 := Fin.ext h1
      exact y_piece_hi m c t r x1
    · idx_vars x
      obtain rfl : r = x0 := Fin.ext h0
      obtain rfl : f = Fin.castAdd 1408 x1 := Fin.ext h1
      exact y_piece_lo m c t r x1
  · rw [outsAt0_B m c t (by have := t_lt t; omega) (by omega)]
    frame_out
    canon_tiles x h
    · idx_vars x
      obtain rfl : r = x0 := Fin.ext h0
      obtain rfl : f = Fin.natAdd 1408 x1 := Fin.ext h1
      exact y_piece_hi m c t r x1
    · idx_vars x
      obtain rfl : r = x0 := Fin.ext h0
      obtain rfl : f = Fin.castAdd 1408 x1 := Fin.ext h1
      exact y_piece_lo m c t r x1

end row_

/-- What point `t` adds at an entry of the gain's gradient. -/
def term (t : Fin cfg0.N) (j : S1x1024.Idx) : EReal :=
  ∑ r : Fin 384, N.hf * aH m c (rw_ t r) (j 1) * (aF m c (rw_ t r) (j 1) * N.rr (aF m c (rw_ t r)))

theorem dg_term (t : Fin cfg0.N) (d : Fin 1024) : k0_pay11 (iblk m c 3 t) (iblk m c 0 t) (ix2 0 d) = term m c t (ix2 0 d) :=
  (dg_at _ _ d).trans (Finset.sum_congr rfl fun r _ => congrArg₂ (· * ·) (congrArg (N.hf * ·) (blk0 m c t r d))
    (congrArg₂ (· * ·) (blk3 m c t r d) (congrArg N.rr (funext fun e => blk3 m c t r e))))

theorem g_at (t : Fin cfg0.N) (h : t.val % 11 = 10) (d : Fin 1024) : (outsAt0 m c t.val t.isLt).2.2.2.2 (ix2 0 d) = gAt m c d := by
  have key := Pipeline.eq_sum_fin_of_reset_step_apply_of_flush (fun n h => (outsAt0 m c n h).2.2.2.2) 11 (fun _ => (0 : EReal)) (term m c)
    (fun t h j => by
      idx_vars j
      obtain rfl : j0 = 0 := Subsingleton.elim _ _
      exact (congrFun (out10_A m c t h) _).trans ((dg_term m c t j1).trans (zero_add _).symm))
    (fun t h j => by
      idx_vars j
      obtain rfl : j0 = 0 := Subsingleton.elim _ _
      exact (congrFun (out10_B m c t h) _).trans ((acc_at _ _ j1).trans (congrArg (_ + ·) (dg_term m c t j1))))
    t h (ix2 0 d)
  refine key.trans ((zero_add _).trans ?_)
  unfold gAt term
  have e1 : t.val / 11 = 0 := by have := t_lt t; omega
  refine Fin.sum_mul_add_congr fun s k hl => ?_
  have e : rw_ ⟨11 * (t.val / 11) + s.val, by rw [e1, N_eq]; omega⟩ k = ⟨s.val * 384 + k.val, hl⟩ := Fin.ext (by unfold rw_; simp [e1])
  simp only [e]
  rfl

/-! ### The arrays after the run -/

theorem arrA : (dats m 0 c).arrAt 6 cfg0.N = fun j => daAt m c (j 0) (j 1) := by
  refine (dats m 0 c).arrAt_eq_of_covers 6 _ (by decide +kernel) fun t hf y => ?_
  rw [after0_6]
  blk_simp [index_eq t]
  idx_vars y
  refine (a_at m c t y0 y1).trans (congrArg₂ (daAt m c) (Fin.ext ?_) (Fin.ext ?_))
  · blk_simp [index_eq t, rw_]
    first | done | rfl | (simp [ix2]; omega)
  · blk_simp [index_eq t]
    first | done | rfl | (simp [ix2]; omega)

theorem arrB : (dats m 0 c).arrAt 7 cfg0.N = fun j => dbAt m c (j 0) (j 1) := by
  refine (dats m 0 c).arrAt_eq_of_covers 7 _ (by decide +kernel) fun t hf y => ?_
  rw [after0_7]
  blk_simp [index_eq t]
  idx_vars y
  refine (b_at m c t y0 y1).trans (congrArg₂ (dbAt m c) (Fin.ext ?_) (Fin.ext ?_))
  · blk_simp [index_eq t, rw_]
    first | done | rfl | (simp [ix2]; omega)
  · blk_simp [index_eq t]
    first | done | rfl | (simp [ix2]; omega)

theorem arrY : (dats m 0 c).arrAt 8 cfg0.N = fun j => yAt m c (j 0) (j 1) := by
  refine (dats m 0 c).arrAt_eq_of_covers 8 _ (by decide +kernel) fun t hf y => ?_
  rw [after0_8]
  blk_simp [index_eq t]
  idx_vars y
  refine (y_at m c t y0 y1).trans (congrArg₂ (yAt m c) (Fin.ext ?_) (Fin.ext ?_))
  · blk_simp [index_eq t, rw_]
    first | done | rfl | (simp [ix2]; omega)
  · blk_simp [index_eq t]
    first | done | rfl | (simp [ix2]; omega)

theorem arrF : (dats m 0 c).arrAt 9 cfg0.N = fun j => dfAt m c (j 0) (j 1) := by
  refine (dats m 0 c).arrAt_eq_of_covers 9 _ (by decide +kernel) fun t hf y => ?_
  rw [after0_9]
  blk_simp [index_eq t]
  idx_vars y
  refine (f_at m c t y0 y1).trans (congrArg₂ (dfAt m c) (Fin.ext ?_) (Fin.ext ?_))
  · blk_simp [index_eq t, rw_]
    first | done | rfl | (simp [ix2]; omega)
  · blk_simp [index_eq t]
    first | done | rfl | (simp [ix2]; omega)

theorem arrG : (dats m 0 c).arrAt 10 cfg0.N = fun j => gAt m c (j 1) := by
  refine (dats m 0 c).arrAt_eq_of_covers 10 _ (by decide +kernel) fun t hf y => ?_
  have h3 := (flush0_10 t).mp hf
  rw [after0_10]
  blk_simp [index_eq t]
  idx_vars y
  obtain rfl : y0 = 0 := Subsingleton.elim _ _
  refine (g_at m c t h3 y1).trans (congrArg (gAt m c) (Fin.ext ?_))
  blk_simp [index_eq t]
  first | done | rfl | (simp [ix2]; omega)

end Cert.Proof.D

end
-- ==== Proof.DownR.lean ====
/- The plain reference of the backward of the projection down and the gate: its lines as named arrays, each at an entry. -/
module

public import proofs.«01_k».proof.Proof.Back
public import proofs.«01_k».proof.Proof.Gen.ReferenceDownIdeal.Run
public import Idealize.ShloMosaic.Lib.Pointwise

@[expose] public section

set_option maxRecDepth 16384

noncomputable section

namespace Cert.Proof.DR

open Cert.ReferenceDownIdeal Cert.ReferenceDownIdeal.Gen
open Idealize.ShloMosaic Idealize.ShloMosaic.TcCoe

/-- The logistic function of each entry. -/
def sgA (a : FVec Ideal S4224x2816 .f32) : FVec Ideal S4224x2816 .f32 :=
  Host.divf (broadcastInDim S4224x2816 ![] bcast_S_S4224x2816 (constant S_ .f32 0x3F800000#32)) (addf (broadcastInDim S4224x2816 ![] bcast_S_S4224x2816 (constant S_ .f32 0x3F800000#32)) (Host.exp (Host.negf a)))

/-- The projection down. -/
def fA (y : FVec Ideal S4224x2816 .f32) (w : FVec Ideal S2816x1024 .f32) : FVec Ideal S4224x1024 .f32 :=
  Host.dotGeneral dot_S4224x2816_S2816x1024_S4224x1024_1_0_0_1_n_n none y w

/-- The regularized mean of each row's squares. -/
def msA (x : FVec Ideal S4224x1024 .f32) : FVec Ideal S4224x1 .f32 :=
  addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))

/-- One number per row, and one per column, along the other axis. -/
def row (z : FVec Ideal S4224x1 .f32) : FVec Ideal S4224x1024 .f32 := broadcastInDim S4224x1024 ![0, 1] bcast_S4224x1_S4224x1024_0_1 z
def col (g : FVec Ideal S1024 .f32) : FVec Ideal S4224x1024 .f32 :=
  broadcastInDim S4224x1024 ![0, 1] bcast_S1x1024_S4224x1024_0_1 (broadcastInDim S1x1024 ![1] bcast_S1024_S1x1024_1 g)

def riA (v : FVec Ideal S4224x1 .f32) : FVec Ideal S4224x1 .f32 := Host.rsqrt v

/-- Half of the layer's gradient. -/
def hhA (h : FVec Ideal S4224x1024 .f32) : FVec Ideal S4224x1024 .f32 := mulf (broadcastInDim S4224x1024 ![] bcast_S_S4224x1024 (constant S_ .f32 0x3F000000#32)) h

/-- Each row's gradient through the mean of its squares. -/
def rsA (x t : FVec Ideal S4224x1024 .f32) (v : FVec Ideal S4224x1 .f32) : FVec Ideal S4224x1024 .f32 :=
  broadcastInDim S4224x1024 ![0] bcast_S4224_S4224x1024_0 (Host.reduceAdd (Host.divf (mulf (shapeCast _ (Host.reduceAdd (mulf x t) (constant S_ .f32 0x00000000#32) reducesTo_S4224x1024_S4224_d1 h_S_) shapeCasts_S4224_S4224x1) (mulf (broadcastInDim S4224x1 ![] bcast_S_S4224x1 (constant S_ .f32 0xBF000000#32)) (Host.divf (riA v) v))) (broadcastInDim S4224x1 ![] bcast_S_S4224x1 (constant S_ .f32 0x44800000#32))) (constant S_ .f32 0x00000000#32) reducesTo_S4224x1_S4224_d1 h_S_)

/-- The gradient of the projection down. -/
def dfA (x t w : FVec Ideal S4224x1024 .f32) (v : FVec Ideal S4224x1 .f32) : FVec Ideal S4224x1024 .f32 :=
  addf (addf (mulf t (row (riA v))) (mulf x w)) (mulf w x)

/-- The gradient of the gated product. -/
def dyA (y : FVec Ideal S4224x1024 .f32) (w : FVec Ideal S2816x1024 .f32) : FVec Ideal S4224x2816 .f32 :=
  Host.dotGeneral dot_S4224x1024_S2816x1024_S4224x2816_1_1_0_0_n_n none y w

/-- The gate's derivative applied to a gradient. -/
def gbA (a z : FVec Ideal S4224x2816 .f32) : FVec Ideal S4224x2816 .f32 :=
  addf (mulf z (sgA a)) (mulf (mulf a z) (mulf (sgA a) (subf (broadcastInDim S4224x2816 ![] bcast_S_S4224x2816 (constant S_ .f32 0x3F800000#32)) (sgA a))))

def gA (x t : FVec Ideal S4224x1024 .f32) (v : FVec Ideal S4224x1 .f32) : FVec Ideal S1x1024 .f32 :=
  broadcastInDim S1x1024 ![1] bcast_S1024_S1x1024_1 (Host.reduceAdd (shapeCast _ (Host.reduceAdd (mulf (mulf x (row (riA v))) t) (constant S_ .f32 0x00000000#32) reducesTo_S4224x1024_S1024_d0 h_S_) shapeCasts_S1024_S1x1024) (constant S_ .f32 0x00000000#32) reducesTo_S1x1024_S1024_d0 h_S_)

section at_

variable (x t h s : FVec Ideal S4224x1024 .f32) (a y z : FVec Ideal S4224x2816 .f32) (w : FVec Ideal S2816x1024 .f32) (g : FVec Ideal S1024 .f32)
  (v : FVec Ideal S4224x1 .f32) (R : Fin 4224) (d : Fin 1024) (f : Fin 2816)

theorem sgA_at : sgA a (ix2 R f) = N.sg (a (ix2 R f)) := by
  rw [N.sg_eq, N.lg_one]
  pointwise [sgA]

theorem fA_at : fA y w (ix2 R d) = ∑ f : Fin 2816, y (ix2 R f) * w (ix2 f d) := by
  pointwise [fA]

theorem msA_at : msA x (ix2 R 0) = N.ms fun e : Fin 1024 => x (ix2 R e) := by
  pointwise [msA]
  rfl

theorem riA_at : riA v (ix2 R 0) = Ideal.rsqrt (v (ix2 R 0)) := by
  pointwise [riA]

theorem col_at : col g (ix2 R d) = g (ix1 d) := by
  pointwise [col]

theorem hhA_at : hhA h (ix2 R d) = N.hf * h (ix2 R d) := by
  pointwise [hhA]
  rfl

theorem rsA_at : rsA x t v (ix2 R d) = Ideal.div ((∑ e : Fin 1024, x (ix2 R e) * t (ix2 R e)) * (N.mh * Ideal.div (Ideal.rsqrt (v (ix2 R 0))) (v (ix2 R 0)))) N.nf := by
  pointwise [rsA, riA]
  exact Fintype.sum_unique _

theorem dfA_at : dfA x t s v (ix2 R d) = t (ix2 R d) * Ideal.rsqrt (v (ix2 R 0)) + x (ix2 R d) * s (ix2 R d) + s (ix2 R d) * x (ix2 R d) := by
  pointwise [dfA, row, riA]

theorem dyA_at : dyA x w (ix2 R f) = ∑ e : Fin 1024, x (ix2 R e) * w (ix2 f e) := by
  pointwise [dyA]

theorem gbA_at : gbA a z (ix2 R f) = z (ix2 R f) * N.sg (a (ix2 R f)) + a (ix2 R f) * z (ix2 R f) * (N.sg (a (ix2 R f)) * (1 - N.sg (a (ix2 R f)))) := by
  pointwise [gbA]
  simp only [sgA_at]

theorem gA_at : gA x t v (ix2 0 d) = ∑ R : Fin 4224, x (ix2 R d) * Ideal.rsqrt (v (ix2 R 0)) * t (ix2 R d) := by
  pointwise [gA, row, riA]
  exact Fintype.sum_unique _

end at_

/-! ### The five results as functions of the five arguments -/

section res

variable (h : FVec Ideal S4224x1024 .f32) (a b : FVec Ideal S4224x2816 .bf16) (g : FVec Ideal S1024 .f32) (w : FVec Ideal S2816x1024 .f32)

def xa (a : FVec Ideal S4224x2816 .bf16) : FVec Ideal S4224x2816 .f32 := extf .f32 a bitsLt_bf16_f32
def slA : FVec Ideal S4224x2816 .f32 := mulf (xa a) (sgA (xa a))
def yA : FVec Ideal S4224x2816 .f32 := mulf (slA a) (xa b)
def ffA : FVec Ideal S4224x1024 .f32 := fA (yA a b) w
def tA : FVec Ideal S4224x1024 .f32 := mulf (hhA h) (col g)
def dffA : FVec Ideal S4224x1024 .f32 := dfA (ffA a b w) (tA h g) (rsA (ffA a b w) (tA h g) (msA (ffA a b w))) (msA (ffA a b w))
def dA : FVec Ideal S4224x2816 .f32 := dyA (dffA h a b g w) w

def refA : FVec Ideal S4224x2816 .bf16 := truncf .bf16 (gbA (xa a) (mulf (dA h a b g w) (xa b))) bitsLt_bf16_f32
def refB : FVec Ideal S4224x2816 .bf16 := truncf .bf16 (mulf (slA a) (dA h a b g w)) bitsLt_bf16_f32
def refY : FVec Ideal S4224x2816 .bf16 := truncf .bf16 (yA a b) bitsLt_bf16_f32
def refF : FVec Ideal S4224x1024 .bf16 := truncf .bf16 (dffA h a b g w) bitsLt_bf16_f32
def refG : FVec Ideal S1x1024 .f32 := gA (ffA a b w) (hhA h) (msA (ffA a b w))

/-- The projection down, its gradient and that of the gated product, at an entry. -/
def fF (R : Fin 4224) (d : Fin 1024) : EReal := ∑ f : Fin 2816, N.sl (a (ix2 R f)) * b (ix2 R f) * w (ix2 f d)
def dF (R : Fin 4224) (d : Fin 1024) : EReal := N.kdx 0 (fF a b w R) (fun e : Fin 1024 => N.hf * h (ix2 R e) * g (ix1 e)) d
def yF (R : Fin 4224) (f : Fin 2816) : EReal := ∑ d : Fin 1024, dF h a b g w R d * w (ix2 f d)

variable (R : Fin 4224) (d : Fin 1024) (f : Fin 2816)

theorem slA_at : slA a (ix2 R f) = N.sl (a (ix2 R f)) := by
  have e : slA a (ix2 R f) = xa a (ix2 R f) * sgA (xa a) (ix2 R f) := by pointwise [slA]
  rw [e, sgA_at]
  rfl

theorem yA_at : yA a b (ix2 R f) = N.sl (a (ix2 R f)) * b (ix2 R f) :=
  congrArg (· * b (ix2 R f)) (slA_at a R f)

theorem ffA_at : ffA a b w (ix2 R d) = fF a b w R d := by
  unfold ffA
  rw [fA_at]
  simp only [yA_at]
  rfl

theorem ffA_row : (fun e : Fin 1024 => ffA a b w (ix2 R e)) = fF a b w R := funext fun e => ffA_at a b w R e

theorem tA_at : tA h g (ix2 R d) = N.hf * h (ix2 R d) * g (ix1 d) :=
  congrArg₂ (· * ·) (hhA_at h R d) (col_at g R d)

theorem dffA_at : dffA h a b g w (ix2 R d) = dF h a b g w R d := by
  unfold dffA dF
  rw [N.kdx_eq, dfA_at, rsA_at, msA_at, tA_at, ffA_row, ffA_at]
  simp only [tA_at, ffA_at]
  unfold N.rdx
  rw [zero_add]
  rfl

theorem dA_at : dA h a b g w (ix2 R f) = yF h a b g w R f := by
  unfold dA
  rw [dyA_at]
  simp only [dffA_at]
  rfl

theorem refF_at : refF h a b g w (ix2 R d) = dF h a b g w R d := dffA_at h a b g w R d
theorem refY_at : refY a b (ix2 R f) = N.sl (a (ix2 R f)) * b (ix2 R f) := yA_at a b R f

theorem refB_at : refB h a b g w (ix2 R f) = yF h a b g w R f * N.sl (a (ix2 R f)) :=
  (congrArg₂ (· * ·) (slA_at a R f) (dA_at h a b g w R f)).trans (mul_comm _ _)

theorem refG_at : refG h a b w (ix2 0 d) = ∑ R : Fin 4224, N.hf * h (ix2 R d) * (fF a b w R d * N.rr (fF a b w R)) := by
  unfold refG
  rw [gA_at]
  refine Finset.sum_congr rfl fun R _ => ?_
  rw [msA_at, hhA_at, mul_comm, ffA_row, ffA_at]
  rfl

section real

variable (hh : ∀ i, ∃ r : ℝ, h i = (r : EReal)) (ha : ∀ i, ∃ r : ℝ, a i = (r : EReal)) (hb : ∀ i, ∃ r : ℝ, b i = (r : EReal))
  (hg : ∀ i, ∃ r : ℝ, g i = (r : EReal)) (hw : ∀ i, ∃ r : ℝ, w i = (r : EReal))

include ha hb hw in
theorem rl_fF : N.Rl (fF a b w R d) :=
  N.Rl.sum _ _ fun f => N.Rl.mul (N.Rl.mul (N.Rl.mul (ha _) (N.Rl.sg (ha _))) (hb _)) (hw _)

include hh ha hb hg hw in
theorem rl_yF : N.Rl (yF h a b g w R f) :=
  N.Rl.sum _ _ fun d => N.Rl.mul (N.Rl.kdx N.rl_zero (fun e => rl_fF a b w R e ha hb hw) (fun e => N.Rl.mul (N.Rl.mul N.rl_hf (hh _)) (hg _)) d) (hw _)

include hh ha hb hg hw in
theorem refA_at : refA h a b g w (ix2 R f) = yF h a b g w R f * b (ix2 R f) * N.ds (a (ix2 R f)) := by
  rw [N.ds_eq (N.Rl.mul (rl_yF h a b g w R f hh ha hb hg hw) (hb _)) (ha _)]
  refine (gbA_at (xa a) _ R f).trans ?_
  have e : mulf (dA h a b g w) (xa b) (ix2 R f) = yF h a b g w R f * b (ix2 R f) := congrArg (· * b (ix2 R f)) (dA_at h a b g w R f)
  rw [e]
  rfl

end real

end res

/-! ### What the program leaves -/

variable (m : (ℓ : Loc nD τ sig) → Buf (Elt Ideal) ℓ) (c : Dev nD)

theorem a_eq : Value.res_out0 m c = refA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  unfold Value.res_out0 Value.res_main_v52
  simp only [refA, gbA, dA, dyA, dffA, dfA, tA, ffA, yA, slA, xa, hhA, rsA, msA, fA, riA, row, col, sgA]

theorem b_eq : Value.res_out1 m c = refB (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  unfold Value.res_out1 Value.res_main_v53
  simp only [refB, dA, dyA, dffA, dfA, tA, ffA, yA, slA, xa, hhA, rsA, msA, fA, riA, row, col, sgA]

theorem f_eq : Value.res_out3 m c = refF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  unfold Value.res_out3 Value.res_main_v55
  simp only [refF, dffA, dfA, tA, ffA, yA, slA, xa, hhA, rsA, msA, fA, riA, row, col, sgA]

end Cert.Proof.DR

end
-- ==== Proof.DownFin.lean ====
/- What the precondition of the projection down's backward says: every entry of every argument is a real number. -/
module

public import proofs.«01_k».proof.Proof.Fin

@[expose] public section

set_option maxRecDepth 16384

noncomputable section

namespace Cert.Proof.D

open Idealize.ShloMosaic

theorem pre_facts : Cert.Pre_finite_down.Facts where
  bcast_S_S4224x1024 := by decide
  reducesTo_S4224x1024_S_d0_1 := by decide
  h_S_ := by decide
  bitsLt_bf16_f32 := by decide
  bcast_S_S4224x2816 := by decide
  reducesTo_S4224x2816_S_d0_1 := by decide
  bcast_S_S1024 := by decide
  reducesTo_S1024_S_d0 := by decide
  bcast_S_S2816x1024 := by decide
  reducesTo_S2816x1024_S_d0_1 := by decide

variable (h : FVec Ideal Cert.Pre_finite_down.S4224x1024 .f32) (a b : FVec Ideal Cert.Pre_finite_down.S4224x2816 .bf16)
  (g : FVec Ideal Cert.Pre_finite_down.S1024 .f32) (w : FVec Ideal Cert.Pre_finite_down.S2816x1024 .f32)

theorem finite_reals [Cert.Pre_finite_down.Facts] (hp : Cert.Pre_finite_down.fn (F := Ideal) h a b g w = fun _ => 1#1) :
    (∀ i, ∃ r : ℝ, h i = (r : EReal)) ∧ (∀ i, ∃ r : ℝ, a i = (r : EReal)) ∧ (∀ i, ∃ r : ℝ, b i = (r : EReal)) ∧ (∀ i, ∃ r : ℝ, g i = (r : EReal))
    ∧ ∀ i, ∃ r : ℝ, w i = (r : EReal) := by
  have h0 := congrFun hp ix0
  dsimp only [Cert.Pre_finite_down.fn, Cert.Pre_finite_down.fn_part1] at h0
  obtain ⟨h1, hw⟩ := IntOp.andi_eq_one.mp h0
  obtain ⟨h2, hg⟩ := IntOp.andi_eq_one.mp h1
  obtain ⟨h3, hb⟩ := IntOp.andi_eq_one.mp h2
  obtain ⟨hh, ha⟩ := IntOp.andi_eq_one.mp h3
  haveI : Subsingleton Cert.Pre_finite_down.S_.Idx := ⟨fun a b => funext fun i => i.elim0⟩
  exact ⟨fun i => real_of_abs _ (Host.reduce_andi_all _ _ _ _ _ hh i), fun i => real_of_abs _ (Host.reduce_andi_all _ _ _ _ _ ha i),
    fun i => real_of_abs _ (Host.reduce_andi_all _ _ _ _ _ hb i), fun i => real_of_abs _ (Host.reduce_andi_all _ _ _ _ _ hg i),
    fun i => real_of_abs _ (Host.reduce_andi_all _ _ _ _ _ hw i)⟩

end Cert.Proof.D

end
-- ==== Proof.Down.lean ====
/- The backward of the projection down and the gate: its programs' frames, and the value claim at finite arguments. -/
module

public import proofs.«01_k».proof.Defs
public import proofs.«01_k».proof.Proof.DownK
public import proofs.«01_k».proof.Proof.DownR
public import proofs.«01_k».proof.Proof.DownFin
public import proofs.«01_k».proof.Proof.Frames
public import proofs.«01_k».proof.Proof.Gen.KernelDown
public import Idealize.ShloMosaic.Lib.StableHlo.RunRead

@[expose] public section

set_option maxRecDepth 16384
set_option maxHeartbeats 2000000

noncomputable section

namespace Cert.Proof.D

open Idealize.ShloMosaic Idealize.ShloMosaic.TcCoe Idealize.SL.Sem

/-- The two programs are the same text at the bit-exact values. -/
theorem frame_p : Cert.quiescent_KernelDown := by
  letI := namedBits
  have e : Cert.quiescent_KernelDown = (∀ (m : (ℓ : Loc Cert.KernelDownIdeal.nD Cert.KernelDownIdeal.τ Cert.KernelDownIdeal.sig) → Buf (Elt Bits) ℓ) (ρ : Dev Cert.KernelDownIdeal.nD → PrngReg), True →
    θ_run (Cert.KernelDownIdeal.defs (F := Bits)) (onTc (τ := Cert.KernelDownIdeal.τ) (Cert.KernelDownIdeal.main (F := Bits))) ⟨m, fun _ => 0, ρ⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)) := by sl_kernel_rfl
  rw [e]
  exact fun m ρ _ => Cert.KernelDownIdeal.Gen.frame (F := Bits) m ρ

theorem frame_pi : Cert.quiescent_KernelDownIdeal := fun m ρ _ => Cert.KernelDownIdeal.Gen.frame m ρ

theorem frame_ri : Cert.quiescent_ReferenceDownIdeal := fun m ρ _ =>
  (θ_run Cert.ReferenceDownIdeal.defs _ _).mono (fun r h => ⟨fun c => (h c).2.2.2.2.2, sem_eq_zero_of_no_sems (by decide) r.2⟩)
    (Cert.ReferenceDownIdeal.Value.run (F := Ideal) m ρ)

/-! ### The arrays that the call is given, as the host makes them of the arguments -/

section host

open Cert.KernelDownIdeal Cert.KernelDownIdeal.Gen

variable (m : (ℓ : Loc nD τ sig) → Buf (Elt Ideal) ℓ) (c : Dev nD)

def rowA (g : FVec Ideal S1024 .f32) : FVec Ideal S1x1024 .f32 := broadcastInDim S1x1024 ![1] bcast_S1024_S1x1024_1 g
def castA (p : FVec Ideal S2816x1024 .f32) : FVec Ideal S2816x1024 .bf16 := truncf .bf16 p bitsLt_bf16_f32
def downA (a b : FVec Ideal S4224x2816 .bf16) (w : FVec Ideal S2816x1024 .f32) : FVec Ideal S4224x1024 .f32 :=
  Host.dotGeneral dot_S4224x2816_S2816x1024_S4224x1024_1_0_0_1_n_n none (mulf (mulf (extf .f32 a bitsLt_bf16_f32) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extf .f32 a bitsLt_bf16_f32)))))) (extf .f32 b bitsLt_bf16_f32)) w

theorem rowA_at (g : FVec Ideal S1024 .f32) (d : Fin 1024) : rowA g (ix2 0 d) = g (ix1 d) := by
  pointwise [rowA]
theorem castA_at (p : FVec Ideal S2816x1024 .f32) (f : Fin 2816) (d : Fin 1024) : castA p (ix2 f d) = p (ix2 f d) := by
  pointwise [castA]
theorem downA_eq (a b : FVec Ideal S4224x2816 .bf16) (w : FVec Ideal S2816x1024 .f32) : downA a b w = DR.ffA a b w := rfl

theorem v4_eq : V m c main_v4 = downA (m ((c.tc : Thread nD τ).loc main_arg1)) (m ((c.tc : Thread nD τ).loc main_arg2)) (m ((c.tc : Thread nD τ).loc main_arg4)) := by
  simp only [V, hostOps0, hostOps0_1, hostOps0_2, StableHlo.TRef.unary, StableHlo.TRef.binary, StableHlo.TRef.nullary, StableHlo.TRef.toBuf, StableHlo.TRef.ofBuf, cast_eq,
    List.flatten_cons, List.flatten_nil, List.append_nil, List.cons_append, List.nil_append]
  after_reads_simp
  simp only [downA]
theorem v5_eq : V m c main_v5 = rowA (m ((c.tc : Thread nD τ).loc main_arg3)) := by
  simp only [V, hostOps0, hostOps0_1, hostOps0_2, StableHlo.TRef.unary, StableHlo.TRef.binary, StableHlo.TRef.nullary, StableHlo.TRef.toBuf, StableHlo.TRef.ofBuf, cast_eq,
    List.flatten_cons, List.flatten_nil, List.append_nil, List.cons_append, List.nil_append]
  after_reads_simp
  simp only [rowA]
theorem v6_eq : V m c main_v6 = castA (m ((c.tc : Thread nD τ).loc main_arg4)) := by
  simp only [V, hostOps0, hostOps0_1, hostOps0_2, StableHlo.TRef.unary, StableHlo.TRef.binary, StableHlo.TRef.nullary, StableHlo.TRef.toBuf, StableHlo.TRef.ofBuf, cast_eq,
    List.flatten_cons, List.flatten_nil, List.append_nil, List.cons_append, List.nil_append]
  after_reads_simp
  simp only [castA]

variable (h : FVec Ideal S4224x1024 .f32) (a b : FVec Ideal S4224x2816 .bf16) (g : FVec Ideal S1024 .f32) (w : FVec Ideal S2816x1024 .f32)
  (h0 : m ((c.tc : Thread nD τ).loc main_arg0) = h) (h1 : m ((c.tc : Thread nD τ).loc main_arg1) = a)
  (h2 : m ((c.tc : Thread nD τ).loc main_arg2) = b) (h3 : m ((c.tc : Thread nD τ).loc main_arg3) = g) (h4 : m ((c.tc : Thread nD τ).loc main_arg4) = w)

include h0 in
theorem h_eq (R : Fin 4224) (d : Fin 1024) : aH m c R d = h (ix2 R d) := congrFun ((V_main_arg0 m c).trans h0) _
include h1 in
theorem a_eq (R : Fin 4224) (f : Fin 2816) : aA m c R f = a (ix2 R f) := congrFun ((V_main_arg1 m c).trans h1) _
include h2 in
theorem b_eq (R : Fin 4224) (f : Fin 2816) : aB m c R f = b (ix2 R f) := congrFun ((V_main_arg2 m c).trans h2) _

include h1 h2 h4 in
theorem f_eq (R : Fin 4224) : aF m c R = DR.fF a b w R := funext fun d => by
  unfold aF
  rw [v4_eq, h1, h2, h4, downA_eq]
  exact DR.ffA_at a b w R d

include h3 in
theorem g_eq (d : Fin 1024) : aG m c d = g (ix1 d) := by
  unfold aG
  rw [v5_eq, h3]
  exact rowA_at g d

include h4 in
theorem w_eq (f : Fin 2816) (d : Fin 1024) : aW m c f d = w (ix2 f d) := by
  unfold aW
  rw [v6_eq, h4]
  exact castA_at w f d

include h0 h1 h2 h3 h4 in
theorem df_eq (R : Fin 4224) (d : Fin 1024) : dfAt m c R d = DR.dF h a b g w R d := by
  unfold dfAt DR.dF
  rw [f_eq m c a b w h1 h2 h4]
  simp only [h_eq m c h h0, g_eq m c g h3]

include h0 h1 h2 h3 h4 in
theorem dy_eq (R : Fin 4224) (f : Fin 2816) : dyAt m c R f = DR.yF h a b g w R f := by
  unfold dyAt DR.yF
  simp only [df_eq m c h a b g w h0 h1 h2 h3 h4, w_eq m c w h4]

include h0 h1 h2 h3 h4 in
theorem ker_a (hf : Cert.Pre_finite_down.Facts) (hp : Cert.Pre_finite_down.fn (F := Ideal) h a b g w = fun _ => 1#1) :
    (dats m 0 c).arrAt 6 cfg0.N = DR.refA h a b g w := by
  rw [arrA]
  obtain ⟨rh, ra, rb, rg, rw'⟩ := finite_reals h a b g w hp
  funext j
  idx_vars j
  refine Eq.trans ?_ (DR.refA_at h a b g w j0 j1 rh ra rb rg rw').symm
  show daAt m c j0 j1 = _
  unfold daAt
  rw [dy_eq m c h a b g w h0 h1 h2 h3 h4, b_eq m c b h2, a_eq m c a h1]

include h0 h1 h2 h3 h4 in
theorem ker_b : (dats m 0 c).arrAt 7 cfg0.N = DR.refB h a b g w := by
  rw [arrB]
  funext j
  idx_vars j
  refine Eq.trans ?_ (DR.refB_at h a b g w j0 j1).symm
  show dbAt m c j0 j1 = _
  unfold dbAt
  rw [dy_eq m c h a b g w h0 h1 h2 h3 h4, a_eq m c a h1]

include h1 h2 in
theorem ker_y : (dats m 0 c).arrAt 8 cfg0.N = DR.refY a b := by
  rw [arrY]
  funext j
  idx_vars j
  refine Eq.trans ?_ (DR.refY_at a b j0 j1).symm
  show yAt m c j0 j1 = _
  unfold yAt
  rw [b_eq m c b h2, a_eq m c a h1]

include h0 h1 h2 h3 h4 in
theorem ker_f : (dats m 0 c).arrAt 9 cfg0.N = DR.refF h a b g w := by
  rw [arrF]
  funext j
  idx_vars j
  refine Eq.trans ?_ (DR.refF_at h a b g w j0 j1).symm
  exact df_eq m c h a b g w h0 h1 h2 h3 h4 j0 j1

include h0 h1 h2 h4 in
theorem ker_g : (dats m 0 c).arrAt 10 cfg0.N = DR.refG h a b w := by
  rw [arrG]
  funext j
  idx_vars j
  obtain rfl : j0 = 0 := Subsingleton.elim _ _
  refine Eq.trans ?_ (DR.refG_at h a b w j1).symm
  show gAt m c j1 = _
  unfold gAt
  refine Finset.sum_congr rfl fun R _ => ?_
  rw [f_eq m c a b w h1 h2 h4, h_eq m c h h0]

end host

theorem algebraic : Cert.algebraic_KernelDownIdeal_ReferenceDownIdeal_pre_finite_down (hPre_finite_down := pre_facts) := by
  haveI := pre_facts
  intro m g m' g' hpre hagree
  refine ⟨fun c => DR.refA (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4)),
    fun c => DR.refB (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4)),
    fun c => DR.refY (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)),
    fun c => DR.refF (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4)),
    fun c => DR.refG (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg4)), ?_, ?_⟩
  · refine (θ_run Cert.KernelDownIdeal.defs _ _).mono (fun r h c => ?_) (Cert.KernelDownIdeal.Value.run_blocks m g)
    obtain ⟨e0, e1, e2, e3, e4, hr⟩ := h c
    exact ⟨e0.trans (ker_a m c _ _ _ _ _ rfl rfl rfl rfl rfl pre_facts (hpre c)), e1.trans (ker_b m c _ _ _ _ _ rfl rfl rfl rfl rfl), e2.trans (ker_y m c _ _ rfl rfl),
      e3.trans (ker_f m c _ _ _ _ _ rfl rfl rfl rfl rfl), e4.trans (ker_g m c _ _ _ _ rfl rfl rfl rfl), hr⟩
  · refine (θ_run Cert.ReferenceDownIdeal.defs _ _).mono (fun r h c => ?_) (Cert.ReferenceDownIdeal.Value.run (F := Ideal) m' g')
    obtain ⟨a0, a1, a2, a3, a4⟩ := hagree c
    obtain ⟨e0, e1, e2, e3, e4, hr⟩ := h c
    refine ⟨(e0.trans (DR.a_eq m' c)).trans ?_, (e1.trans (DR.b_eq m' c)).trans ?_, e2.trans ?_, (e3.trans (DR.f_eq m' c)).trans ?_, e4.trans ?_, hr⟩
    · rw [a0, a1, a2, a3, a4]
    · rw [a0, a1, a2, a3, a4]
    · rw [a1, a2]
      rfl
    · rw [a0, a1, a2, a3, a4]
    · rw [a0, a1, a2, a4]
      rfl

end Cert.Proof.D

end
-- ==== Proof.FwdK.lean ====
/- The feed-forward layer's forward kernel: its four arrays after the run, at an entry, as functions of the arrays that the
   call is given. -/
module

public import proofs.«01_k».proof.Proof.Gate
public import proofs.«01_k».proof.Proof.Gen.KernelFwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.F

open Cert.KernelFwdIdeal Cert.KernelFwdIdeal.Gen
open Idealize.ShloMosaic Idealize.ShloMosaic.TcCoe

/-! ### One block -/

section block

variable (x : Vec Ideal S384x1024 .f32) (g : Vec Ideal S1x1024 .f32) (u : FVec Ideal S384x1024 .bf16) (p q r s : Vec Ideal S1408x1024 .bf16)
  (z : FVec Ideal S384x1024 .f32) (v : FVec Ideal S384x1408 .f32) (R : Fin 384) (d : Fin 1024) (f : Fin 1408)

theorem nrm_at : k0_pay2 x g (ix2 R d) = N.un (fun e : Fin 1024 => x (ix2 R e)) (fun e : Fin 1024 => g (ix2 0 e)) d := by
  pointwise [k0_pay2]
  rfl

theorem zero_at : k0_pay3 (F := Ideal) (ix2 R d) = 0 := by
  pointwise [k0_pay3]

theorem prodA_at : k0_pay4 x g p (ix2 R f) = ∑ e : Fin 1024, k0_pay2 x g (ix2 R e) * p (ix2 f e) := by
  pointwise [k0_pay4]

theorem prodB_at : k0_pay5 x g p (ix2 R f) = ∑ e : Fin 1024, k0_pay2 x g (ix2 R e) * p (ix2 f e) := by
  pointwise [k0_pay5]

theorem prodC_at : k0_pay9 u p (ix2 R f) = ∑ e : Fin 1024, u (ix2 R e) * p (ix2 f e) := by
  pointwise [k0_pay9]

theorem prodD_at : k0_pay10 u p (ix2 R f) = ∑ e : Fin 1024, u (ix2 R e) * p (ix2 f e) := by
  pointwise [k0_pay10]

theorem gate_at : k0_pay8 x g p q (ix2 R f) = k0_pay4 x g p (ix2 R f) * N.sg (k0_pay4 x g p (ix2 R f)) * k0_pay5 x g q (ix2 R f) := by
  pointwise [k0_pay8]
  rfl

theorem down_at : k0_pay13 u z v p q r s (ix2 R d) = z (ix2 R d) + (∑ f : Fin 1408, v (ix2 R f) * p (ix2 f d))
    + ∑ f : Fin 1408, k0_pay9 u q (ix2 R f) * N.sg (k0_pay9 u q (ix2 R f)) * k0_pay10 u r (ix2 R f) * s (ix2 f d) := by
  pointwise [k0_pay13]
  rfl

theorem last_at (z' : FVec Ideal S384x1024 .f32) : k0_pay1 x z (k0_pay14 g) (k0_pay15 u z' v p q r s) (ix2 R d)
    = x (ix2 R d) + N.hf * (z (ix2 R d) * N.rr (fun e : Fin 1024 => k0_pay13 u z' v p q r s (ix2 R e)) * g (ix2 0 d)) := by
  pointwise [k0_pay1, k0_pay14, k0_pay15]
  rfl

end block

variable (m : (ℓ : Loc nD τ sig) → Buf (Elt Ideal) ℓ) (c : Dev nD)

theorem index_eq : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] := by
  decide +kernel

theorem N_eq : cfg0.N = 11 := by decide +kernel
theorem t_lt (t : Fin cfg0.N) : t.val < 11 := N_eq ▸ t.isLt

/-- The arrays that the call is given, at an entry. -/
def aX (R : Fin 4224) (d : Fin 1024) : EReal := V m c main_arg0 (ix2 R d)
def aG (d : Fin 1024) : EReal := V m c main_v0 (ix2 0 d)
def aW (d : Fin 1024) : EReal := V m c main_v1 (ix2 0 d)
def aP (f : Fin 2816) (d : Fin 1024) : EReal := V m c main_v3 (ix2 f d)
def aQ (f : Fin 2816) (d : Fin 1024) : EReal := V m c main_v5 (ix2 f d)
def aD (f : Fin 2816) (d : Fin 1024) : EReal := V m c main_v6 (ix2 f d)

def rw_ (t : Fin cfg0.N) (r : Fin 384) : Fin 4224 := ⟨t.val * 384 + r.val, by have := t_lt t; omega⟩

section blocks
variable (t : Fin cfg0.N) (r : Fin 384) (d : Fin 1024) (f : Fin 2816)
theorem blk0 : iblk m c 0 t (ix2 r d) = aX m c (rw_ t r) d := by
  unfold aX; blk_ext [iblk, rw_, index_eq t]
theorem blk1 : iblk m c 1 t (ix2 0 d) = aG m c d := by
  unfold aG; blk_ext [iblk, rw_, index_eq t]
theorem blk2 : iblk m c 2 t (ix2 0 d) = aW m c d := by
  unfold aW; blk_ext [iblk, rw_, index_eq t]
theorem blk3 : iblk m c 3 t (ix2 f d) = aP m c f d := by
  unfold aP; blk_ext [iblk, rw_, index_eq t]
theorem blk4 : iblk m c 4 t (ix2 f d) = aQ m c f d := by
  unfold aQ; blk_ext [iblk, rw_, index_eq t]
theorem blk5 : iblk m c 5 t (ix2 f d) = aD m c f d := by
  unfold aD; blk_ext [iblk, rw_, index_eq t]
end blocks

/-- The entries of the four arrays. -/
def hAt (R : Fin 4224) (d : Fin 1024) : EReal := N.layer (aX m c R) (aG m c) (aW m c) (aP m c) (aQ m c) (aD m c) d
def aAt (R : Fin 4224) (f : Fin 2816) : EReal := N.up (aX m c R) (aG m c) (aP m c) f
def bAt (R : Fin 4224) (f : Fin 2816) : EReal := N.up (aX m c R) (aG m c) (aQ m c) f
def fAt (R : Fin 4224) (d : Fin 1024) : EReal := N.down (aX m c R) (aG m c) (aP m c) (aQ m c) (aD m c) d

/-! ### The two halves of the weights -/

theorem ld_lo (x : Vec Ideal S2816x1024 .bf16) (f : Fin 1408) (d : Fin 1024) : View.ld x r0_2 (ix2 f d) = x (ix2 (Fin.castAdd 1408 f) d) := by
  pointwise []
  rfl

theorem ld_hi (x : Vec Ideal S2816x1024 .bf16) (f : Fin 1408) (d : Fin 1024) : View.ld x r0_4 (ix2 f d) = x (ix2 (Fin.natAdd 1408 f) d) := by
  pointwise []
  rfl

section row_

variable (t : Fin cfg0.N) (r : Fin 384) (d : Fin 1024) (f : Fin 1408)

theorem un_blk : k0_pay2 (iblk m c 0 t) (iblk m c 1 t) (ix2 r d) = N.un (aX m c (rw_ t r)) (aG m c) d :=
  (nrm_at _ _ r d).trans (congrArg₂ (N.un · · d) (funext fun e => blk0 m c t r e) (funext fun e => blk1 m c t e))

theorem upA_lo : k0_pay4 (iblk m c 0 t) (iblk m c 1 t) (View.ld (iblk m c 3 t) r0_2) (ix2 r f) = N.up (aX m c (rw_ t r)) (aG m c) (aP m c) (Fin.castAdd 1408 f) :=
  (prodA_at _ _ _ r f).trans (Finset.sum_congr rfl fun e _ => congrArg₂ (· * ·) (un_blk m c t r e) ((ld_lo _ f e).trans (blk3 m c t e _)))

theorem upB_lo : k0_pay5 (iblk m c 0 t) (iblk m c 1 t) (View.ld (iblk m c 4 t) r0_2) (ix2 r f) = N.up (aX m c (rw_ t r)) (aG m c) (aQ m c) (Fin.castAdd 1408 f) :=
  (prodB_at _ _ _ r f).trans (Finset.sum_congr rfl fun e _ => congrArg₂ (· * ·) (un_blk m c t r e) ((ld_lo _ f e).trans (blk4 m c t e _)))

theorem upA_hi : k0_pay9 (k0_pay2 (iblk m c 0 t) (iblk m c 1 t)) (View.ld (iblk m c 3 t) r0_4) (ix2 r f) = N.up (aX m c (rw_ t r)) (aG m c) (aP m c) (Fin.natAdd 1408 f) :=
  (prodC_at _ _ r f).trans (Finset.sum_congr rfl fun e _ => congrArg₂ (· * ·) (un_blk m c t r e) ((ld_hi _ f e).trans (blk3 m c t e _)))

theorem upB_hi : k0_pay10 (k0_pay2 (iblk m c 0 t) (iblk m c 1 t)) (View.ld (iblk m c 4 t) r0_4) (ix2 r f) = N.up (aX m c (rw_ t r)) (aG m c) (aQ m c) (Fin.natAdd 1408 f) :=
  (prodD_at _ _ r f).trans (Finset.sum_congr rfl fun e _ => congrArg₂ (· * ·) (un_blk m c t r e) ((ld_hi _ f e).trans (blk4 m c t e _)))

/-- The block of the projection down. -/
def fB : FVec Ideal S384x1024 .f32 :=
  k0_pay13 (k0_pay2 (iblk m c 0 t) (iblk m c 1 t)) (k0_pay3 (F := Ideal)) (k0_pay8 (iblk m c 0 t) (iblk m c 1 t) (View.ld (iblk m c 3 t) r0_2) (View.ld (iblk m c 4 t) r0_2))
    (View.ld (iblk m c 5 t) r0_2) (View.ld (iblk m c 3 t) r0_4) (View.ld (iblk m c 4 t) r0_4) (View.ld (iblk m c 5 t) r0_4)

theorem f_blk : fB m c t (ix2 r d) = N.down (aX m c (rw_ t r)) (aG m c) (aP m c) (aQ m c) (aD m c) d := by
  unfold fB
  refine (down_at _ _ _ _ _ _ _ r d).trans ?_
  rw [zero_at, zero_add]
  refine Eq.trans (congrArg₂ (· + ·) ?_ ?_) (Fin.sum_univ_add (fun f : Fin (1408 + 1408) => N.gated (aX m c (rw_ t r)) (aG m c) (aP m c) (aQ m c) f * aD m c f d)).symm
  · refine Finset.sum_congr rfl fun f _ => congrArg₂ (· * ·) ((gate_at _ _ _ _ r f).trans ?_) ((ld_lo _ f d).trans (blk5 m c t d _))
    rw [upA_lo, upB_lo]
    rfl
  · refine Finset.sum_congr rfl fun f _ => congrArg₂ (· * ·) ?_ ((ld_hi _ f d).trans (blk5 m c t d _))
    rw [upA_hi, upB_hi]
    rfl

/-! ### What one point leaves in each block -/

theorem out9 : out0_9 (iblk m c 0 t) (iblk m c 1 t) (iblk m c 2 t) (iblk m c 3 t) (iblk m c 4 t) (iblk m c 5 t) = fB m c t := by
  unfold_out out0_9
  frame_out
  rfl

theorem out6 : out0_6 (iblk m c 0 t) (iblk m c 1 t) (iblk m c 2 t) (iblk m c 3 t) (iblk m c 4 t) (iblk m c 5 t)
    = k0_pay1 (iblk m c 0 t) (fB m c t) (k0_pay14 (iblk m c 2 t)) (k0_pay15 (k0_pay2 (iblk m c 0 t) (iblk m c 1 t)) (k0_pay3 (F := Ideal)) (k0_pay8 (iblk m c 0 t) (iblk m c 1 t) (View.ld (iblk m c 3 t) r0_2) (View.ld (iblk m c 4 t) r0_2))
    (View.ld (iblk m c 5 t) r0_2) (View.ld (iblk m c 3 t) r0_4) (View.ld (iblk m c 4 t) r0_4) (View.ld (iblk m c 5 t) r0_4)) := by
  unfold_out out0_6
  frame_out
  rfl

theorem h_at : out0_6 (iblk m c 0 t) (iblk m c 1 t) (iblk m c 2 t) (iblk m c 3 t) (iblk m c 4 t) (iblk m c 5 t) (ix2 r d)
    = N.layer (aX m c (rw_ t r)) (aG m c) (aW m c) (aP m c) (aQ m c) (aD m c) d := by
  rw [out6]
  refine (last_at _ _ _ _ _ _ _ _ _ r d _).trans ?_
  refine congrArg₂ (· + ·) (blk0 m c t r d) (congrArg (N.hf * ·) (congrArg₂ (· * ·) (congrArg₂ (· * ·) (f_blk m c t r d) (congrArg N.rr (funext fun e => f_blk m c t r e))) (blk2 m c t d)))

theorem f_at : out0_9 (iblk m c 0 t) (iblk m c 1 t) (iblk m c 2 t) (iblk m c 3 t) (iblk m c 4 t) (iblk m c 5 t) (ix2 r d)
    = N.down (aX m c (rw_ t r)) (aG m c) (aP m c) (aQ m c) (aD m c) d := by
  rw [out9]
  exact f_blk m c t r d

theorem a_at (f : Fin 2816) : out0_7 (iblk m c 0 t) (iblk m c 1 t) (iblk m c 2 t) (iblk m c 3 t) (iblk m c 4 t) (iblk m c 5 t) (ix2 r f)
    = N.up (aX m c (rw_ t r)) (aG m c) (aP m c) f := by
  unfold_out out0_7
  frame_out
  canon_tiles x h
  · idx_vars x
    obtain rfl : r = x0 := Fin.ext h0
    obtain rfl : f = Fin.natAdd 1408 x1 := Fin.ext h1
    exact upA_hi m c t r x1
  · idx_vars x
    obtain rfl : r = x0 := Fin.ext h0
    obtain rfl : f = Fin.castAdd 1408 x1 := Fin.ext h1
    exact upA_lo m c t r x1

theorem b_at (f : Fin 2816) : out0_8 (iblk m c 0 t) (iblk m c 1 t) (iblk m c 2 t) (iblk m c 3 t) (iblk m c 4 t) (iblk m c 5 t) (ix2 r f)
    = N.up (aX m c (rw_ t r)) (aG m c) (aQ m c) f := by
  unfold_out out0_8
  frame_out
  canon_tiles x h
  · idx_vars x
    obtain rfl : r = x0 := Fin.ext h0
    obtain rfl : f = Fin.natAdd 1408 x1 := Fin.ext h1
    exact upB_hi m c t r x1
  · idx_vars x
    obtain rfl : r = x0 := Fin.ext h0
    obtain rfl : f = Fin.castAdd 1408 x1 := Fin.ext h1
    exact upB_lo m c t r x1

end row_

/-! ### The arrays after the run -/

theorem arrH : (dats m 0 c).arrAt 6 cfg0.N = fun j => hAt m c (j 0) (j 1) := by
  refine (dats m 0 c).arrAt_eq_of_covers 6 _ (by decide +kernel) fun t hf y => ?_
  rw [after0_6]
  blk_simp [index_eq t]
  idx_vars y
  refine (h_at m c t y0 y1).trans (congrArg₂ (hAt m c) (Fin.ext ?_) (Fin.ext ?_))
  · blk_simp [index_eq t, rw_]
    first | done | rfl | (simp [ix2]; omega)
  · blk_simp [index_eq t]
    first | done | rfl | (simp [ix2]; omega)

theorem arrA : (dats m 0 c).arrAt 7 cfg0.N = fun j => aAt m c (j 0) (j 1) := by
  refine (dats m 0 c).arrAt_eq_of_covers 7 _ (by decide +kernel) fun t hf y => ?_
  rw [after0_7]
  blk_simp [index_eq t]
  idx_vars y
  refine (a_at m c t y0 y1).trans (congrArg₂ (aAt m c) (Fin.ext ?_) (Fin.ext ?_))
  · blk_simp [index_eq t, rw_]
    first | done | rfl | (simp [ix2]; omega)
  · blk_simp [index_eq t]
    first | done | rfl | (simp [ix2]; omega)

theorem arrB : (dats m 0 c).arrAt 8 cfg0.N = fun j => bAt m c (j 0) (j 1) := by
  refine (dats m 0 c).arrAt_eq_of_covers 8 _ (by decide +kernel) fun t hf y => ?_
  rw [after0_8]
  blk_simp [index_eq t]
  idx_vars y
  refine (b_at m c t y0 y1).trans (congrArg₂ (bAt m c) (Fin.ext ?_) (Fin.ext ?_))
  · blk_simp [index_eq t, rw_]
    first | done | rfl | (simp [ix2]; omega)
  · blk_simp [index_eq t]
    first | done | rfl | (simp [ix2]; omega)

theorem arrF : (dats m 0 c).arrAt 9 cfg0.N = fun j => fAt m c (j 0) (j 1) := by
  refine (dats m 0 c).arrAt_eq_of_covers 9 _ (by decide +kernel) fun t hf y => ?_
  rw [after0_9]
  blk_simp [index_eq t]
  idx_vars y
  refine (f_at m c t y0 y1).trans (congrArg₂ (fAt m c) (Fin.ext ?_) (Fin.ext ?_))
  · blk_simp [index_eq t, rw_]
    first | done | rfl | (simp [ix2]; omega)
  · blk_simp [index_eq t]
    first | done | rfl | (simp [ix2]; omega)

end Cert.Proof.F

end
-- ==== Proof.FwdR.lean ====
/- The plain reference of the feed-forward layer's forward: its lines as named arrays, each at an entry. -/
module

public import proofs.«01_k».proof.Proof.Gate
public import proofs.«01_k».proof.Proof.Gen.ReferenceFwdIdeal.Run
public import Idealize.ShloMosaic.Lib.Pointwise

@[expose] public section

set_option maxRecDepth 16384

noncomputable section

namespace Cert.Proof.FR

open Cert.ReferenceFwdIdeal Cert.ReferenceFwdIdeal.Gen
open Idealize.ShloMosaic Idealize.ShloMosaic.TcCoe

/-- The inverse root of the regularized mean of each row's squares. -/
def riA (x : FVec Ideal S4224x1024 .f32) : FVec Ideal S4224x1 .f32 :=
  Host.rsqrt (addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))

/-- The normalization of each row, times the gains. -/
def unA (x : FVec Ideal S4224x1024 .f32) (g : FVec Ideal S1024 .f32) : FVec Ideal S4224x1024 .f32 :=
  mulf (mulf x (broadcastInDim S4224x1024 ![0, 1] bcast_S4224x1_S4224x1024_0_1 (riA x))) (broadcastInDim S4224x1024 ![0, 1] bcast_S1x1024_S4224x1024_0_1 (broadcastInDim S1x1024 ![1] bcast_S1024_S1x1024_1 g))

def upA (u : FVec Ideal S4224x1024 .f32) (p : FVec Ideal S1024x2816 .f32) : FVec Ideal S4224x2816 .f32 :=
  Host.dotGeneral dot_S4224x1024_S1024x2816_S4224x2816_1_0_0_1_n_n none u p

def gateA (a b : FVec Ideal S4224x2816 .f32) : FVec Ideal S4224x2816 .f32 :=
  mulf (mulf a (Host.divf (broadcastInDim S4224x2816 ![] bcast_S_S4224x2816 (constant S_ .f32 0x3F800000#32)) (addf (broadcastInDim S4224x2816 ![] bcast_S_S4224x2816 (constant S_ .f32 0x3F800000#32)) (Host.exp (Host.negf a))))) b

def downA (y : FVec Ideal S4224x2816 .f32) (w : FVec Ideal S2816x1024 .f32) : FVec Ideal S4224x1024 .f32 :=
  Host.dotGeneral dot_S4224x2816_S2816x1024_S4224x1024_1_0_0_1_n_n none y w

def outA (x y : FVec Ideal S4224x1024 .f32) : FVec Ideal S4224x1024 .f32 :=
  addf x (mulf (broadcastInDim S4224x1024 ![] bcast_S_S4224x1024 (constant S_ .f32 0x3F000000#32)) y)

section at_

variable (x y u : FVec Ideal S4224x1024 .f32) (a b : FVec Ideal S4224x2816 .f32) (p : FVec Ideal S1024x2816 .f32) (w : FVec Ideal S2816x1024 .f32)
  (g : FVec Ideal S1024 .f32) (R : Fin 4224) (d : Fin 1024) (f : Fin 2816)

theorem riA_at : riA x (ix2 R 0) = N.rr fun e : Fin 1024 => x (ix2 R e) := by
  pointwise [riA]
  rfl

theorem unA_at : unA x g (ix2 R d) = N.un (fun e : Fin 1024 => x (ix2 R e)) (fun e : Fin 1024 => g (ix1 e)) d := by
  pointwise [unA]
  rw [riA_at]
  rfl

theorem upA_at : upA u p (ix2 R f) = ∑ e : Fin 1024, u (ix2 R e) * p (ix2 e f) := by
  pointwise [upA]

theorem gateA_at : gateA a b (ix2 R f) = a (ix2 R f) * N.lg (a (ix2 R f)) * b (ix2 R f) := by
  rw [N.lg_one]
  pointwise [gateA]

theorem downA_at : downA a w (ix2 R d) = ∑ f : Fin 2816, a (ix2 R f) * w (ix2 f d) := by
  pointwise [downA]

theorem outA_at : outA x y (ix2 R d) = x (ix2 R d) + N.hf * y (ix2 R d) := by
  pointwise [outA]
  rfl

end at_

/-! ### The four results as functions of the six arguments -/

section res

variable (x : FVec Ideal S4224x1024 .f32) (g q : FVec Ideal S1024 .f32) (p s : FVec Ideal S1024x2816 .f32) (w : FVec Ideal S2816x1024 .f32)
  (R : Fin 4224) (d : Fin 1024) (f : Fin 2816)

def refA : FVec Ideal S4224x2816 .bf16 := truncf .bf16 (upA (unA x g) p) bitsLt_bf16_f32
def refF : FVec Ideal S4224x1024 .f32 := downA (gateA (upA (unA x g) p) (upA (unA x g) s)) w
def refH : FVec Ideal S4224x1024 .f32 := outA x (unA (refF x g p s w) q)

theorem up_at : upA (unA x g) p (ix2 R f) = N.up (fun e : Fin 1024 => x (ix2 R e)) (fun e : Fin 1024 => g (ix1 e)) (fun f e => p (ix2 e f)) f := by
  rw [upA_at]
  simp only [unA_at]
  rfl

theorem refA_at : refA x g p (ix2 R f) = N.up (fun e : Fin 1024 => x (ix2 R e)) (fun e : Fin 1024 => g (ix1 e)) (fun f e => p (ix2 e f)) f :=
  up_at x g p R f

theorem refF_at : refF x g p s w (ix2 R d) = N.down (fun e : Fin 1024 => x (ix2 R e)) (fun e : Fin 1024 => g (ix1 e)) (fun f e => p (ix2 e f))
    (fun f e => s (ix2 e f)) (fun f e => w (ix2 f e)) d := by
  unfold refF
  rw [downA_at]
  refine Finset.sum_congr rfl fun f _ => congrArg (· * _) ?_
  rw [gateA_at, up_at, up_at, ← N.sg_eq]
  rfl

theorem refH_at : refH x g q p s w (ix2 R d) = N.layer (fun e : Fin 1024 => x (ix2 R e)) (fun e : Fin 1024 => g (ix1 e)) (fun e : Fin 1024 => q (ix1 e))
    (fun f e => p (ix2 e f)) (fun f e => s (ix2 e f)) (fun f e => w (ix2 f e)) d := by
  unfold refH
  rw [outA_at, unA_at]
  simp only [refF_at]
  rfl

end res

/-! ### What the program leaves is these four -/

variable (m : (ℓ : Loc nD τ sig) → Buf (Elt Ideal) ℓ) (c : Dev nD)

theorem v33_eq : Value.res_main_v33 m c = refH (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_main_v33
  simp only [refH, refF, outA, downA, gateA, upA, unA, riA]

end Cert.Proof.FR

end
-- ==== Proof.Fwd.lean ====
/- The forward of the feed-forward layer: its programs' frames, and the value claim, which needs nothing of the arguments. -/
module

public import proofs.«01_k».proof.Defs
public import proofs.«01_k».proof.Proof.FwdK
public import proofs.«01_k».proof.Proof.FwdR
public import proofs.«01_k».proof.Proof.Frames
public import proofs.«01_k».proof.Proof.Gen.KernelFwd
public import Idealize.ShloMosaic.Lib.StableHlo.RunRead

@[expose] public section

set_option maxRecDepth 16384
set_option maxHeartbeats 2000000

noncomputable section

namespace Cert.Proof.F

open Idealize.ShloMosaic Idealize.ShloMosaic.TcCoe Idealize.SL.Sem

/-- The two programs are the same text at the bit-exact values. -/
theorem frame_p : Cert.quiescent_KernelFwd := by
  letI := namedBits
  have e : Cert.quiescent_KernelFwd = (∀ (m : (ℓ : Loc Cert.KernelFwdIdeal.nD Cert.KernelFwdIdeal.τ Cert.KernelFwdIdeal.sig) → Buf (Elt Bits) ℓ) (ρ : Dev Cert.KernelFwdIdeal.nD → PrngReg), True →
    θ_run (Cert.KernelFwdIdeal.defs (F := Bits)) (onTc (τ := Cert.KernelFwdIdeal.τ) (Cert.KernelFwdIdeal.main (F := Bits))) ⟨m, fun _ => 0, ρ⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ r.2.sem = fun _ => 0)) := by sl_kernel_rfl
  rw [e]
  exact fun m ρ _ => Cert.KernelFwdIdeal.Gen.frame (F := Bits) m ρ

theorem frame_pi : Cert.quiescent_KernelFwdIdeal := fun m ρ _ => Cert.KernelFwdIdeal.Gen.frame m ρ

theorem frame_ri : Cert.quiescent_ReferenceFwdIdeal := fun m ρ _ =>
  (θ_run Cert.ReferenceFwdIdeal.defs _ _).mono (fun r h => ⟨fun c => (h c).2.2.2.2, sem_eq_zero_of_no_sems (by decide) r.2⟩)
    (Cert.ReferenceFwdIdeal.Value.run (F := Ideal) m ρ)

/-! ### The arrays that the call is given, as the host makes them of the arguments -/

section host

open Cert.KernelFwdIdeal Cert.KernelFwdIdeal.Gen

variable (m : (ℓ : Loc nD τ sig) → Buf (Elt Ideal) ℓ) (c : Dev nD)

def rowA (g : FVec Ideal S1024 .f32) : FVec Ideal S1x1024 .f32 := broadcastInDim S1x1024 ![1] bcast_S1024_S1x1024_1 g
def trA (p : FVec Ideal S1024x2816 .f32) : FVec Ideal S2816x1024 .bf16 := truncf .bf16 (transpose S2816x1024 [1, 0] p transposes_S1024x2816_S2816x1024_1_0) bitsLt_bf16_f32
def castA (p : FVec Ideal S2816x1024 .f32) : FVec Ideal S2816x1024 .bf16 := truncf .bf16 p bitsLt_bf16_f32

theorem rowA_at (g : FVec Ideal S1024 .f32) (d : Fin 1024) : rowA g (ix2 0 d) = g (ix1 d) := by
  pointwise [rowA]
theorem trA_at (p : FVec Ideal S1024x2816 .f32) (f : Fin 2816) (d : Fin 1024) : trA p (ix2 f d) = p (ix2 d f) := by
  pointwise [trA]
theorem castA_at (p : FVec Ideal S2816x1024 .f32) (f : Fin 2816) (d : Fin 1024) : castA p (ix2 f d) = p (ix2 f d) := by
  pointwise [castA]

theorem v0_eq : V m c main_v0 = rowA (m ((c.tc : Thread nD τ).loc main_arg1)) := by
  simp only [V, hostOps0, List.flatten_cons, List.flatten_nil, List.append_nil, List.cons_append, List.nil_append]
  after_reads_simp
  simp only [rowA]
theorem v1_eq : V m c main_v1 = rowA (m ((c.tc : Thread nD τ).loc main_arg2)) := by
  simp only [V, hostOps0, List.flatten_cons, List.flatten_nil, List.append_nil, List.cons_append, List.nil_append]
  after_reads_simp
  simp only [rowA]
theorem v3_eq : V m c main_v3 = trA (m ((c.tc : Thread nD τ).loc main_arg3)) := by
  simp only [V, hostOps0, List.flatten_cons, List.flatten_nil, List.append_nil, List.cons_append, List.nil_append]
  after_reads_simp
  simp only [trA]
theorem v5_eq : V m c main_v5 = trA (m ((c.tc : Thread nD τ).loc main_arg4)) := by
  simp only [V, hostOps0, List.flatten_cons, List.flatten_nil, List.append_nil, List.cons_append, List.nil_append]
  after_reads_simp
  simp only [trA]
theorem v6_eq : V m c main_v6 = castA (m ((c.tc : Thread nD τ).loc main_arg5)) := by
  simp only [V, hostOps0, List.flatten_cons, List.flatten_nil, List.append_nil, List.cons_append, List.nil_append]
  after_reads_simp
  simp only [castA]

variable (x : FVec Ideal S4224x1024 .f32) (g q : FVec Ideal S1024 .f32) (p s : FVec Ideal S1024x2816 .f32) (w : FVec Ideal S2816x1024 .f32)
  (h0 : m ((c.tc : Thread nD τ).loc main_arg0) = x) (h1 : m ((c.tc : Thread nD τ).loc main_arg1) = g)
  (h2 : m ((c.tc : Thread nD τ).loc main_arg2) = q) (h3 : m ((c.tc : Thread nD τ).loc main_arg3) = p) (h4 : m ((c.tc : Thread nD τ).loc main_arg4) = s)
  (h5 : m ((c.tc : Thread nD τ).loc main_arg5) = w)

include h0 in
theorem x_eq (R : Fin 4224) : aX m c R = fun e : Fin 1024 => x (ix2 R e) := funext fun e => congrFun ((V_main_arg0 m c).trans h0) _

include h1 in
theorem g_eq : aG m c = fun e : Fin 1024 => g (ix1 e) := funext fun d => by
  unfold aG
  rw [v0_eq, h1]
  exact rowA_at g d

include h2 in
theorem w_eq : aW m c = fun e : Fin 1024 => q (ix1 e) := funext fun d => by
  unfold aW
  rw [v1_eq, h2]
  exact rowA_at q d

include h3 in
theorem p_eq : aP m c = fun (f : Fin 2816) (e : Fin 1024) => p (ix2 e f) := funext fun f => funext fun d => by
  unfold aP
  rw [v3_eq, h3]
  exact trA_at p f d

include h4 in
theorem q_eq : aQ m c = fun (f : Fin 2816) (e : Fin 1024) => s (ix2 e f) := funext fun f => funext fun d => by
  unfold aQ
  rw [v5_eq, h4]
  exact trA_at s f d

include h5 in
theorem d_eq : aD m c = fun (f : Fin 2816) (e : Fin 1024) => w (ix2 f e) := funext fun f => funext fun d => by
  unfold aD
  rw [v6_eq, h5]
  exact castA_at w f d

include h0 h1 h2 h3 h4 h5 in
theorem ker_h : (dats m 0 c).arrAt 6 cfg0.N = FR.refH x g q p s w := by
  rw [arrH]
  funext j
  idx_vars j
  refine Eq.trans ?_ (FR.refH_at x g q p s w j0 j1).symm
  show hAt m c j0 j1 = _
  unfold hAt
  rw [x_eq m c x h0, g_eq m c g h1, w_eq m c q h2, p_eq m c p h3, q_eq m c s h4, d_eq m c w h5]

include h0 h1 h3 in
theorem ker_a : (dats m 0 c).arrAt 7 cfg0.N = FR.refA x g p := by
  rw [arrA]
  funext j
  idx_vars j
  refine Eq.trans ?_ (FR.refA_at x g p j0 j1).symm
  show aAt m c j0 j1 = _
  unfold aAt
  rw [x_eq m c x h0, g_eq m c g h1, p_eq m c p h3]

include h0 h1 h4 in
theorem ker_b : (dats m 0 c).arrAt 8 cfg0.N = FR.refA x g s := by
  rw [arrB]
  funext j
  idx_vars j
  refine Eq.trans ?_ (FR.refA_at x g s j0 j1).symm
  show bAt m c j0 j1 = _
  unfold bAt
  rw [x_eq m c x h0, g_eq m c g h1, q_eq m c s h4]

include h0 h1 h3 h4 h5 in
theorem ker_f : (dats m 0 c).arrAt 9 cfg0.N = FR.refF x g p s w := by
  rw [arrF]
  funext j
  idx_vars j
  refine Eq.trans ?_ (FR.refF_at x g p s w j0 j1).symm
  show fAt m c j0 j1 = _
  unfold fAt
  rw [x_eq m c x h0, g_eq m c g h1, p_eq m c p h3, q_eq m c s h4, d_eq m c w h5]

end host

theorem algebraic : Cert.algebraic_KernelFwdIdeal_ReferenceFwdIdeal := by
  intro m g m' g' _ hagree
  refine ⟨fun c => FR.refH (m ((c.tc : Thread Cert.KernelFwdIdeal.nD Cert.KernelFwdIdeal.τ).loc Cert.KernelFwdIdeal.main_arg0))
      (m ((c.tc : Thread Cert.KernelFwdIdeal.nD Cert.KernelFwdIdeal.τ).loc Cert.KernelFwdIdeal.main_arg1))
      (m ((c.tc : Thread Cert.KernelFwdIdeal.nD Cert.KernelFwdIdeal.τ).loc Cert.KernelFwdIdeal.main_arg2))
      (m ((c.tc : Thread Cert.KernelFwdIdeal.nD Cert.KernelFwdIdeal.τ).loc Cert.KernelFwdIdeal.main_arg3))
      (m ((c.tc : Thread Cert.KernelFwdIdeal.nD Cert.KernelFwdIdeal.τ).loc Cert.KernelFwdIdeal.main_arg4))
      (m ((c.tc : Thread Cert.KernelFwdIdeal.nD Cert.KernelFwdIdeal.τ).loc Cert.KernelFwdIdeal.main_arg5)),
    fun c => FR.refA (m ((c.tc : Thread Cert.KernelFwdIdeal.nD Cert.KernelFwdIdeal.τ).loc Cert.KernelFwdIdeal.main_arg0))
      (m ((c.tc : Thread Cert.KernelFwdIdeal.nD Cert.KernelFwdIdeal.τ).loc Cert.KernelFwdIdeal.main_arg1))
      (m ((c.tc : Thread Cert.KernelFwdIdeal.nD Cert.KernelFwdIdeal.τ).loc Cert.KernelFwdIdeal.main_arg3)),
    fun c => FR.refA (m ((c.tc : Thread Cert.KernelFwdIdeal.nD Cert.KernelFwdIdeal.τ).loc Cert.KernelFwdIdeal.main_arg0))
      (m ((c.tc : Thread Cert.KernelFwdIdeal.nD Cert.KernelFwdIdeal.τ).loc Cert.KernelFwdIdeal.main_arg1))
      (m ((c.tc : Thread Cert.KernelFwdIdeal.nD Cert.KernelFwdIdeal.τ).loc Cert.KernelFwdIdeal.main_arg4)),
    fun c => FR.refF (m ((c.tc : Thread Cert.KernelFwdIdeal.nD Cert.KernelFwdIdeal.τ).loc Cert.KernelFwdIdeal.main_arg0))
      (m ((c.tc : Thread Cert.KernelFwdIdeal.nD Cert.KernelFwdIdeal.τ).loc Cert.KernelFwdIdeal.main_arg1))
      (m ((c.tc : Thread Cert.KernelFwdIdeal.nD Cert.KernelFwdIdeal.τ).loc Cert.KernelFwdIdeal.main_arg3))
      (m ((c.tc : Thread Cert.KernelFwdIdeal.nD Cert.KernelFwdIdeal.τ).loc Cert.KernelFwdIdeal.main_arg4))
      (m ((c.tc : Thread Cert.KernelFwdIdeal.nD Cert.KernelFwdIdeal.τ).loc Cert.KernelFwdIdeal.main_arg5)), ?_, ?_⟩
  · refine (θ_run Cert.KernelFwdIdeal.defs _ _).mono (fun r h c => ?_) (Cert.KernelFwdIdeal.Value.run_blocks m g)
    obtain ⟨e0, e1, e2, e3, hr⟩ := h c
    exact ⟨e0.trans (ker_h m c _ _ _ _ _ _ rfl rfl rfl rfl rfl rfl), e1.trans (ker_a m c _ _ _ rfl rfl rfl), e2.trans (ker_b m c _ _ _ rfl rfl rfl),
      e3.trans (ker_f m c _ _ _ _ _ rfl rfl rfl rfl rfl), hr⟩
  · refine (θ_run Cert.ReferenceFwdIdeal.defs _ _).mono (fun r h c => ?_) (Cert.ReferenceFwdIdeal.Value.run (F := Ideal) m' g')
    obtain ⟨a0, a1, a2, a3, a4, a5⟩ := hagree c
    obtain ⟨e0, e1, e2, e3, hr⟩ := h c
    refine ⟨e0.trans ?_, e1.trans ?_, e2.trans ?_, e3.trans ?_, hr⟩
    · rw [FR.v33_eq, a0, a1, a2, a3, a4, a5]
    · rw [a0, a1, a3]
      rfl
    · rw [a0, a1, a4]
      rfl
    · rw [a0, a1, a3, a4, a5]
      rfl

end Cert.Proof.F

end
-- ==== Proof.lean ====
module

public import proofs.«01_k».proof.Defs
public import proofs.«01_k».proof.Proof.Frames
public import proofs.«01_k».proof.Proof.Algebraic
public import proofs.«01_k».proof.Proof.Up
public import proofs.«01_k».proof.Proof.Wgrad
public import proofs.«01_k».proof.Proof.Down
public import proofs.«01_k».proof.Proof.Fwd

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelWgrad.Gen.facts, Cert.KernelWgradIdeal.Gen.facts, Cert.ReferenceWgradIdeal.Gen.facts,
    Cert.KernelDown.Gen.facts, Cert.KernelDownIdeal.Gen.facts, Cert.ReferenceDownIdeal.Gen.facts,
    Cert.KernelFwd.Gen.facts, Cert.KernelFwdIdeal.Gen.facts, Cert.ReferenceFwdIdeal.Gen.facts,
    pre_facts, D.pre_facts,
    frame_p, frame_pi, fun m g _ => frame_pi m g trivial, frame_ri, fun m g _ => frame_ri m g trivial,
    U.frame_p, U.frame_pi, U.frame_ri,
    W.frame_p, W.frame_pi, W.frame_ri,
    D.frame_p, D.frame_pi, fun m g _ => D.frame_pi m g trivial, D.frame_ri, fun m g _ => D.frame_ri m g trivial,
    F.frame_p, F.frame_pi, F.frame_ri,
    preserves, algebraic,
    trivial, U.algebraic,
    trivial, W.algebraic,
    trivial, D.algebraic,
    trivial, F.algebraic⟩

end Cert.Proof

end
